-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v3)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v3) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v3) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v2)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v2) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v3) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDMerged : Cert.DMerged.Facts) (hDMergedIdeal : Cert.DMergedIdeal.Facts) (hDMergedRefIdeal : Cert.DMergedRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_DMerged_DMergedIdeal
    ∧ algebraic_DMergedIdeal_DMergedRefIdeal (hDMergedIdeal := hDMergedIdeal) (hDMergedRefIdeal := hDMergedRefIdeal)
-- ==== Pre_finite.lean ====
abbrev S8192x16x128 : Shape := ⟨3, ![8192, 16, 128]⟩
abbrev S8192x16x64 : Shape := ⟨3, ![8192, 16, 64]⟩
abbrev S8192x64 : Shape := ⟨2, ![8192, 64]⟩
abbrev S_ : Shape := ⟨0, ![]⟩

class Facts : Prop where
  bcast_S_S8192x16x128 : S_.BroadcastsInDim S8192x16x128 (![] : Fin 0 → Fin S8192x16x128.rank)
  bcast_S_S8192x16x64 : S_.BroadcastsInDim S8192x16x64 (![] : Fin 0 → Fin S8192x16x64.rank)
  bcast_S_S8192x64 : S_.BroadcastsInDim S8192x64 (![] : Fin 0 → Fin S8192x64.rank)

variable [Facts]

def fn {F : FTy → Type} [FloatOps F] (main_arg0 : FVec F S8192x16x128 .f32) (main_arg1 : FVec F S8192x16x64 .f32) (main_arg2 : FVec F S8192x16x128 .f32) (main_arg3 : FVec F S8192x64 .f32) (main_arg4 : FVec F S8192x16x128 .f32) (main_arg5 : FVec F S8192x16x128 .f32) : IVec S8192x16x128 1 × IVec S8192x16x64 1 × IVec S8192x16x128 1 × IVec S8192x64 1 × IVec S8192x16x128 1 × IVec S8192x16x128 1 :=
  let main_v0 : FVec F S8192x16x128 .f32 := Host.absf main_arg0
  let main_cst : FVec F S_ .f32 := constant S_ .f32 0x7F800000#32
  let main_v1 : FVec F S8192x16x128 .f32 := broadcastInDim S8192x16x128 ![] bcast_S_S8192x16x128 main_cst
  let main_v2 : IVec S8192x16x128 1 := cmpf .olt main_v0 main_v1
  let main_v3 : FVec F S8192x16x64 .f32 := Host.absf main_arg1
  let main_cst_0 : FVec F S_ .f32 := constant S_ .f32 0x7F800000#32
  let main_v4 : FVec F S8192x16x64 .f32 := broadcastInDim S8192x16x64 ![] bcast_S_S8192x16x64 main_cst_0
  let main_v5 : IVec S8192x16x64 1 := cmpf .olt main_v3 main_v4
  let main_v6 : FVec F S8192x16x128 .f32 := Host.absf main_arg2
  let main_cst_1 : FVec F S_ .f32 := constant S_ .f32 0x7F800000#32
  let main_v7 : FVec F S8192x16x128 .f32 := broadcastInDim S8192x16x128 ![] bcast_S_S8192x16x128 main_cst_1
  let main_v8 : IVec S8192x16x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_v12 : FVec F S8192x16x128 .f32 := Host.absf main_arg4
  let main_cst_3 : FVec F S_ .f32 := constant S_ .f32 0x7F800000#32
  let main_v13 : FVec F S8192x16x128 .f32 := broadcastInDim S8192x16x128 ![] bcast_S_S8192x16x128 main_cst_3
  let main_v14 : IVec S8192x16x128 1 := cmpf .olt main_v12 main_v13
  let main_v15 : FVec F S8192x16x128 .f32 := Host.absf main_arg5
  let main_cst_4 : FVec F S_ .f32 := constant S_ .f32 0x7F800000#32
  let main_v16 : FVec F S8192x16x128 .f32 := broadcastInDim S8192x16x128 ![] bcast_S_S8192x16x128 main_cst_4
  let main_v17 : IVec S8192x16x128 1 := cmpf .olt main_v15 main_v16
  (main_v2, main_v5, main_v8, main_v11, main_v14, main_v17)
-- ==== Kernel.lean ====
abbrev S8192x16x128 : Shape := ⟨3, ![8192, 16, 128]⟩
abbrev S8192x16x64 : Shape := ⟨3, ![8192, 16, 64]⟩
abbrev S8192x64 : Shape := ⟨2, ![8192, 64]⟩
abbrev S136 : Shape := ⟨1, ![136]⟩
abbrev S_ : Shape := ⟨0, ![]⟩
abbrev S8192x16x256 : Shape := ⟨3, ![8192, 16, 256]⟩
abbrev S16x8192x256 : Shape := ⟨3, ![16, 8192, 256]⟩
abbrev S16x8192x128 : Shape := ⟨3, ![16, 8192, 128]⟩
abbrev S8192x2048 : Shape := ⟨2, ![8192, 2048]⟩
abbrev S16x8192x8192 : Shape := ⟨3, ![16, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16 : Shape := ⟨2, ![8192, 16]⟩
abbrev S16x8x8192 : Shape := ⟨3, ![16, 8, 8192]⟩
abbrev S2x512x256 : Shape := ⟨3, ![2, 512, 256]⟩
abbrev S1 : Shape := ⟨1, ![1]⟩
abbrev S2x512x128 : Shape := ⟨3, ![2, 512, 128]⟩
abbrev S512x256 : Shape := ⟨2, ![512, 256]⟩
abbrev S2x8x512 : Shape := ⟨3, ![2, 8, 512]⟩
abbrev S2x8192x256 : Shape := ⟨3, ![2, 8192, 256]⟩
abbrev S1x512x256 : Shape := ⟨3, ![1, 512, 256]⟩
abbrev S1x256x256 : Shape := ⟨3, ![1, 256, 256]⟩
abbrev S256x256 : Shape := ⟨2, ![256, 256]⟩
abbrev S1x512x128 : Shape := ⟨3, ![1, 512, 128]⟩
abbrev S512x128 : Shape := ⟨2, ![512, 128]⟩
abbrev S256x128 : Shape := ⟨2, ![256, 128]⟩
abbrev S1x1x256 : Shape := ⟨3, ![1, 1, 256]⟩
abbrev S1x256 : Shape := ⟨2, ![1, 256]⟩

abbrev nBuf : Space → Nat
  | .hbm => 66
  | .vmem => 21
  | .smem => 2
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S8192x16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x16x64, .f32⟩
  | .hbm, ⟨12, _⟩ => ⟨S8192x16x256, .f32⟩
  | .hbm, ⟨13, _⟩ => ⟨S_, .f32⟩
  | .hbm, ⟨14, _⟩ => ⟨S_, .f32⟩
  | .hbm, ⟨15, _⟩ => ⟨S8192x16x256, .f32⟩
  | .hbm, ⟨16, _⟩ => ⟨S8192x16x256, .f32⟩
  | .hbm, ⟨17, _⟩ => ⟨S16x8192x256, .f32⟩
  | .hbm, ⟨18, _⟩ => ⟨S16x8192x256, .bf16⟩
  | .hbm, ⟨19, _⟩ => ⟨S8192x16x64, .f32⟩
  | .hbm, ⟨20, _⟩ => ⟨S8192x16x256, .f32⟩
  | .hbm, ⟨21, _⟩ => ⟨S16x8192x256, .f32⟩
  | .hbm, ⟨22, _⟩ => ⟨S16x8192x256, .bf16⟩
  | .hbm, ⟨23, _⟩ => ⟨S16x8192x128, .f32⟩
  | .hbm, ⟨24, _⟩ => ⟨S16x8192x128, .bf16⟩
  | .hbm, ⟨25, _⟩ => ⟨S8192x2048, .f32⟩
  | .hbm, ⟨26, _⟩ => ⟨S8192x2048, .bf16⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S16x8192x8192, .f32⟩
  | .hbm, ⟨33, _⟩ => ⟨S16x8192x8192, .i32⟩
  | .hbm, ⟨34, _⟩ => ⟨S16x8192x8192, .i32⟩
  | .hbm, ⟨35, _⟩ => ⟨S16x8192x8192, .i1⟩
  | .hbm, ⟨36, _⟩ => ⟨S_, .f32⟩
  | .hbm, ⟨37, _⟩ => ⟨S16x8192x8192, .f32⟩
  | .hbm, ⟨38, _⟩ => ⟨S16x8192x8192, .f32⟩
  | .hbm, ⟨39, _⟩ => ⟨S_, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S16x8192, .f32⟩
  | .hbm, ⟨47, _⟩ => ⟨S16x8192x1, .f32⟩
  | .hbm, ⟨48, _⟩ => ⟨S16x8192x8192, .f32⟩
  | .hbm, ⟨49, _⟩ => ⟨S16x8192x8192, .f32⟩
  | .hbm, ⟨50, _⟩ => ⟨S16x128x8192, .f32⟩
  | .hbm, ⟨51, _⟩ => ⟨S8192x16x128, .f32⟩
  | .hbm, ⟨52, _⟩ => ⟨S16x8192x1, .f32⟩
  | .hbm, ⟨53, _⟩ => ⟨S16x8192x1, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S8192x16x128, .f32⟩
  | .hbm, ⟨58, _⟩ => ⟨S_, .f32⟩
  | .hbm, ⟨59, _⟩ => ⟨S8192x16, .f32⟩
  | .hbm, ⟨60, _⟩ => ⟨S16x8192, .f32⟩
  | .hbm, ⟨61, _⟩ => ⟨S16x8x8192, .f32⟩
  | .hbm, ⟨62, _⟩ => ⟨S16x8x8192, .f32⟩
  | .hbm, ⟨63, _⟩ => ⟨S16x8192x256, .bf16⟩
  | .hbm, ⟨64, _⟩ => ⟨S16x8192x256, .bf16⟩
  | .hbm, ⟨65, _⟩ => ⟨S16x8192x128, .bf16⟩
  | .local _ .vmem, ⟨0, _⟩ => ⟨S2x512x256, .bf16⟩
  | .local _ .vmem, ⟨1, _⟩ => ⟨S2x512x256, .bf16⟩
  | .local _ .vmem, ⟨2, _⟩ => ⟨S2x512x256, .bf16⟩
  | .local _ .vmem, ⟨3, _⟩ => ⟨S2x512x256, .bf16⟩
  | .local _ .vmem, ⟨4, _⟩ => ⟨S2x512x128, .bf16⟩
  | .local _ .vmem, ⟨5, _⟩ => ⟨S2x512x128, .bf16⟩
  | .local _ .vmem, ⟨6, _⟩ => ⟨S512x256, .bf16⟩
  | .local _ .vmem, ⟨7, _⟩ => ⟨S512x256, .bf16⟩
  | .local _ .vmem, ⟨8, _⟩ => ⟨S2x8x512, .f32⟩
  | .local _ .vmem, ⟨9, _⟩ => ⟨S2x8x512, .f32⟩
  | .local _ .vmem, ⟨10, _⟩ => ⟨S2x8x512, .f32⟩
  | .local _ .vmem, ⟨11, _⟩ => ⟨S2x8x512, .f32⟩
  | .local _ .vmem, ⟨12, _⟩ => ⟨S2x8192x256, .bf16⟩
  | .local _ .vmem, ⟨13, _⟩ => ⟨S2x8192x256, .bf16⟩
  | .local _ .vmem, ⟨14, _⟩ => ⟨S2x512x256, .bf16⟩
  | .local _ .vmem, ⟨15, _⟩ => ⟨S2x512x256, .bf16⟩
  | .local _ .vmem, ⟨16, _⟩ => ⟨S2x512x128, .bf16⟩
  | .local _ .vmem, ⟨17, _⟩ => ⟨S2x512x128, .bf16⟩
  | .local _ .vmem, ⟨18, _⟩ => ⟨S2x512x256, .f32⟩
  | .local _ .vmem, ⟨19, _⟩ => ⟨S2x512x128, .f32⟩
  | .local _ .vmem, ⟨20, _⟩ => ⟨S2x8192x256, .f32⟩
  | .local _ .smem, ⟨0, _⟩ => ⟨S136, .i32⟩
  | .local _ .smem, ⟨1, _⟩ => ⟨S136, .i32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_cst_2 : Ref sig .tc := ⟨.hbm, 10, rfl⟩
abbrev main_v2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v72 : BitVec 32 := Scalar.muli v1 c512_i32
  let c0_i32_54 : BitVec 32 := 0#32
  let v73 : BitVec 32 := Scalar.addi v72 c0_i32_54
  v73
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) (c0_i32_54 : BitVec 32) : Fin 3 → Nat :=
  let c0_55 : Index := 0#32
  let c512_i32 : BitVec 32 := 512#32
  let v72 : BitVec 32 := Scalar.muli v1 c512_i32
  let v73 : BitVec 32 := Scalar.addi v72 c0_i32_54
  let v74 : BitVec 32 := v73
  let v75 : Index := Scalar.indexCast v74
  let c0_56 : Index := 0#32
  ![0, v75.toNat, 0]
def k0_mult2 (v1 : BitVec 32) : BitVec 32 :=
  let c512_i32_99 : BitVec 32 := 512#32
  let v126 : BitVec 32 := Scalar.muli v1 c512_i32_99
  let c256_i32 : BitVec 32 := 256#32
  let v127 : BitVec 32 := Scalar.addi v126 c256_i32
  v127
def k0_mult3 (v1 : BitVec 32) : BitVec 32 :=
  let c512_i32_146 : BitVec 32 := 512#32
  let v180 : BitVec 32 := Scalar.muli v1 c512_i32_146
  let c0_i32_147 : BitVec 32 := 0#32
  let v181 : BitVec 32 := Scalar.addi v180 c0_i32_147
  v181
def k0_off3 (v1 : BitVec 32) (c0_i32_147 : BitVec 32) : Fin 3 → Nat :=
  let c1_148 : Index := 1#32
  let c512_i32_146 : BitVec 32 := 512#32
  let v180 : BitVec 32 := Scalar.muli v1 c512_i32_146
  let v181 : BitVec 32 := Scalar.addi v180 c0_i32_147
  let v182 : BitVec 32 := v181
  let v183 : Index := Scalar.indexCast v182
  let c0_149 : Index := 0#32
  ![1, v183.toNat, 0]
def k0_mult4 (v1 : BitVec 32) : BitVec 32 :=
  let c512_i32_181 : BitVec 32 := 512#32
  let v224 : BitVec 32 := Scalar.muli v1 c512_i32_181
  let c256_i32_182 : BitVec 32 := 256#32
  let v225 : BitVec 32 := Scalar.addi v224 c256_i32_182
  v225
def k0_mult5 (v1 : BitVec 32) : BitVec 32 :=
  let c512_i32 : BitVec 32 := 512#32
  let v79 : BitVec 32 := Scalar.muli v1 c512_i32
  let c0_i32_56 : BitVec 32 := 0#32
  let v80 : BitVec 32 := Scalar.addi v79 c0_i32_56
  v80
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off4 (v1 : BitVec 32) (c0_i32_56 : BitVec 32) : Fin 3 → Nat :=
  let c0_57 : Index := 0#32
  let c512_i32 : BitVec 32 := 512#32
  let v79 : BitVec 32 := Scalar.muli v1 c512_i32
  let v80 : BitVec 32 := Scalar.addi v79 c0_i32_56
  let v81 : BitVec 32 := v80
  let v82 : Index := Scalar.indexCast v81
  let c0_58 : Index := 0#32
  ![0, v82.toNat, 0]
def k0_mult6 (v1 : BitVec 32) : BitVec 32 :=
  let c512_i32_102 : BitVec 32 := 512#32
  let v140 : BitVec 32 := Scalar.muli v1 c512_i32_102
  let c256_i32_103 : BitVec 32 := 256#32
  let v141 : BitVec 32 := Scalar.addi v140 c256_i32_103
  v141
def k0_mult7 (v1 : BitVec 32) : BitVec 32 :=
  let c512_i32_152 : BitVec 32 := 512#32
  let v201 : BitVec 32 := Scalar.muli v1 c512_i32_152
  let c0_i32_153 : BitVec 32 := 0#32
  let v202 : BitVec 32 := Scalar.addi v201 c0_i32_153
  v202
def k0_off5 (v1 : BitVec 32) (c0_i32_153 : BitVec 32) : Fin 3 → Nat :=
  let c1_154 : Index := 1#32
  let c512_i32_152 : BitVec 32 := 512#32
  let v201 : BitVec 32 := Scalar.muli v1 c512_i32_152
  let v202 : BitVec 32 := Scalar.addi v201 c0_i32_153
  let v203 : BitVec 32 := v202
  let v204 : Index := Scalar.indexCast v203
  let c0_155 : Index := 0#32
  ![1, v204.toNat, 0]
def k0_mult8 (v1 : BitVec 32) : BitVec 32 :=
  let c512_i32_189 : BitVec 32 := 512#32
  let v252 : BitVec 32 := Scalar.muli v1 c512_i32_189
  let c256_i32_190 : BitVec 32 := 256#32
  let v253 : BitVec 32 := Scalar.addi v252 c256_i32_190
  v253

def k0_chk1 (v1 : BitVec 32) (v3 : BitVec 32) : Prop :=
  (∀ (k0_h3 : k0_cond3 v1 v3 = 1#1), 256 ∣ (k0_mult1 v1).toNat) ∧
  (∀ (k0_h3 : k0_cond3 v1 v3 = 1#1), ∀ (r : Fin 2), ∀ a, (k0_off2 v1 (BitVec.ofNat 32 (256 * r.val))) a + S1x256x256.size a ≤ S2x8192x256.size a) ∧
  (∀ (k0_h3 : k0_cond3 v1 v3 = 1#1), 256 ∣ (k0_mult2 v1).toNat) ∧
  (∀ (k0_h3 : k0_cond3 v1 v3 = 1#1), 256 ∣ (k0_mult3 v1).toNat) ∧
  (∀ (k0_h3 : k0_cond3 v1 v3 = 1#1), ∀ (r : Fin 2), ∀ a, (k0_off3 v1 (BitVec.ofNat 32 (256 * r.val))) a + S1x256x256.size a ≤ S2x8192x256.size a) ∧
  (∀ (k0_h3 : k0_cond3 v1 v3 = 1#1), 256 ∣ (k0_mult4 v1).toNat) ∧
  (∀ (k0_h4 : k0_cond4 v1 v3 = 1#1), 256 ∣ (k0_mult5 v1).toNat) ∧
  (∀ (k0_h4 : k0_cond4 v1 v3 = 1#1), ∀ (r : Fin 2), ∀ a, (k0_off4 v1 (BitVec.ofNat 32 (256 * r.val))) a + S1x256x256.size a ≤ S2x8192x256.size a) ∧
  (∀ (k0_h4 : k0_cond4 v1 v3 = 1#1), 256 ∣ (k0_mult6 v1).toNat) ∧
  (∀ (k0_h4 : k0_cond4 v1 v3 = 1#1), 256 ∣ (k0_mult7 v1).toNat) ∧
  (∀ (k0_h4 : k0_cond4 v1 v3 = 1#1), ∀ (r : Fin 2), ∀ a, (k0_off5 v1 (BitVec.ofNat 32 (256 * r.val))) a + S1x256x256.size a ≤ S2x8192x256.size a) ∧
  (∀ (k0_h4 : k0_cond4 v1 v3 = 1#1), 256 ∣ (k0_mult8 v1).toNat)
theorem k0_mult1_dvd : ∀ (v1 : BitVec 32) (v3 : BitVec 32) (k0_hw1 : k0_chk1 v1 v3), ∀ (k0_h3 : k0_cond3 v1 v3 = 1#1), 256 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ (r : Fin 2), ∀ a, (k0_off2 v1 (BitVec.ofNat 32 (256 * r.val))) a + S1x256x256.size a ≤ S2x8192x256.size a := fun v1 v3 k0_hw1 k0_h3 r => k0_hw1.2.1 k0_h3 r
theorem k0_mult2_dvd : ∀ (v1 : BitVec 32) (v3 : BitVec 32) (k0_hw1 : k0_chk1 v1 v3), ∀ (k0_h3 : k0_cond3 v1 v3 = 1#1), 256 ∣ (k0_mult2 v1).toNat := fun v1 v3 k0_hw1 k0_h3 => k0_hw1.2.2.1 k0_h3
theorem k0_mult3_dvd : ∀ (v1 : BitVec 32) (v3 : BitVec 32) (k0_hw1 : k0_chk1 v1 v3), ∀ (k0_h3 : k0_cond3 v1 v3 = 1#1), 256 ∣ (k0_mult3 v1).toNat := fun v1 v3 k0_hw1 k0_h3 => k0_hw1.2.2.2.1 k0_h3
theorem k0_off3_inb : ∀ (v1 : BitVec 32) (v3 : BitVec 32) (k0_hw1 : k0_chk1 v1 v3), ∀ (k0_h3 : k0_cond3 v1 v3 = 1#1), ∀ (r : Fin 2), ∀ a, (k0_off3 v1 (BitVec.ofNat 32 (256 * r.val))) a + S1x256x256.size a ≤ S2x8192x256.size a := fun v1 v3 k0_hw1 k0_h3 r => k0_hw1.2.2.2.2.1 k0_h3 r
theorem k0_mult4_dvd : ∀ (v1 : BitVec 32) (v3 : BitVec 32) (k0_hw1 : k0_chk1 v1 v3), ∀ (k0_h3 : k0_cond3 v1 v3 = 1#1), 256 ∣ (k0_mult4 v1).toNat := fun v1 v3 k0_hw1 k0_h3 => k0_hw1.2.2.2.2.2.1 k0_h3
theorem k0_mult5_dvd : ∀ (v1 : BitVec 32) (v3 : BitVec 32) (k0_hw1 : k0_chk1 v1 v3), ∀ (k0_h4 : k0_cond4 v1 v3 = 1#1), 256 ∣ (k0_mult5 v1).toNat := fun v1 v3 k0_hw1 k0_h4 => k0_hw1.2.2.2.2.2.2.1 k0_h4
theorem k0_off4_inb : ∀ (v1 : BitVec 32) (v3 : BitVec 32) (k0_hw1 : k0_chk1 v1 v3), ∀ (k0_h4 : k0_cond4 v1 v3 = 1#1), ∀ (r : Fin 2), ∀ a, (k0_off4 v1 (BitVec.ofNat 32 (256 * r.val))) a + S1x256x256.size a ≤ S2x8192x256.size a := fun v1 v3 k0_hw1 k0_h4 r => k0_hw1.2.2.2.2.2.2.2.1 k0_h4 r
theorem k0_mult6_dvd : ∀ (v1 : BitVec 32) (v3 : BitVec 32) (k0_hw1 : k0_chk1 v1 v3), ∀ (k0_h4 : k0_cond4 v1 v3 = 1#1), 256 ∣ (k0_mult6 v1).toNat := fun v1 v3 k0_hw1 k0_h4 => k0_hw1.2.2.2.2.2.2.2.2.1 k0_h4
theorem k0_mult7_dvd : ∀ (v1 : BitVec 32) (v3 : BitVec 32) (k0_hw1 : k0_chk1 v1 v3), ∀ (k0_h4 : k0_cond4 v1 v3 = 1#1), 256 ∣ (k0_mult7 v1).toNat := fun v1 v3 k0_hw1 k0_h4 => k0_hw1.2.2.2.2.2.2.2.2.2.1 k0_h4
theorem k0_off5_inb : ∀ (v1 : BitVec 32) (v3 : BitVec 32) (k0_hw1 : k0_chk1 v1 v3), ∀ (k0_h4 : k0_cond4 v1 v3 = 1#1), ∀ (r : Fin 2), ∀ a, (k0_off5 v1 (BitVec.ofNat 32 (256 * r.val))) a + S1x256x256.size a ≤ S2x8192x256.size a := fun v1 v3 k0_hw1 k0_h4 r => k0_hw1.2.2.2.2.2.2.2.2.2.2.1 k0_h4 r
theorem k0_mult8_dvd : ∀ (v1 : BitVec 32) (v3 : BitVec 32) (k0_hw1 : k0_chk1 v1 v3), ∀ (k0_h4 : k0_cond4 v1 v3 = 1#1), 256 ∣ (k0_mult8 v1).toNat := fun v1 v3 k0_hw1 k0_h4 => k0_hw1.2.2.2.2.2.2.2.2.2.2.2 k0_h4

def k0_cond6 (i : grid0.Coords) : BitVec 1 :=
  let arg1 : BitVec 32 := BitVec.ofNat 32 (i 1).val
  let c135_i32 : BitVec 32 := 135#32
  let v19 : BitVec 1 := Scalar.cmpi .eq arg1 c135_i32
  let v20 : BitVec 32 := Scalar.extui v19
  let c0_i32_5 : BitVec 32 := 0#32
  let v21 : BitVec 1 := Scalar.cmpi .ne v20 c0_i32_5
  v21

def k0_cond5 (v1 : BitVec 32) : BitVec 1 :=
  let c15_i32 : BitVec 32 := 15#32
  let v16 : BitVec 1 := Scalar.cmpi .eq v1 c15_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x16x128 : Shape := ⟨3, ![8192, 16, 128]⟩
abbrev S8192x16x64 : Shape := ⟨3, ![8192, 16, 64]⟩
abbrev S8192x64 : Shape := ⟨2, ![8192, 64]⟩
abbrev S8192x1x64 : Shape := ⟨3, ![8192, 1, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x64 : Shape := ⟨3, ![16, 8192, 64]⟩
abbrev S16x8192x128 : Shape := ⟨3, ![16, 8192, 128]⟩
abbrev S8192x16x256 : Shape := ⟨3, ![8192, 16, 256]⟩
abbrev S16x8192x256 : Shape := ⟨3, ![16, 8192, 256]⟩

abbrev nBuf : Space → Nat
  | .hbm => 110
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S8192x16x128, .f32⟩
  | .hbm, ⟨6, _⟩ => ⟨S8192x1x64, .f32⟩
  | .hbm, ⟨7, _⟩ => ⟨S8192x16x64, .f32⟩
  | .hbm, ⟨8, _⟩ => ⟨S16x8192x8192, .f32⟩
  | .hbm, ⟨9, _⟩ => ⟨S16x8192x8192, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .i1⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x8192x1, .f32⟩
  | .hbm, ⟨63, _⟩ => ⟨S_, .f32⟩
  | .hbm, ⟨64, _⟩ => ⟨S16x8192x1, .f32⟩
  | .hbm, ⟨65, _⟩ => ⟨S16x8192x1, .f32⟩
  | .hbm, ⟨66, _⟩ => ⟨S16x128x8192, .f32⟩
  | .hbm, ⟨67, _⟩ => ⟨S8192x16x128, .f32⟩
  | .hbm, ⟨68, _⟩ => ⟨S16x128x8192, .f32⟩
  | .hbm, ⟨69, _⟩ => ⟨S16x8192x8192, .f32⟩
  | .hbm, ⟨70, _⟩ => ⟨S16x128x8192, .f32⟩
  | .hbm, ⟨71, _⟩ => ⟨S8192x16x128, .f32⟩
  | .hbm, ⟨72, _⟩ => ⟨S16x8192x8192, .f32⟩
  | .hbm, ⟨73, _⟩ => ⟨S16x8192x8192, .f32⟩
  | .hbm, ⟨74, _⟩ => ⟨S16x8192x8192, .f32⟩
  | .hbm, ⟨75, _⟩ => ⟨S_, .f32⟩
  | .hbm, ⟨76, _⟩ => ⟨S16x8192, .f32⟩
  | .hbm, ⟨77, _⟩ => ⟨S16x8192x1, .f32⟩
  | .hbm, ⟨78, _⟩ => ⟨S16x8192x1, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x8192, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192x8192, .f32⟩
  | .hbm, ⟨88, _⟩ => ⟨S16x8192x8192, .f32⟩
  | .hbm, ⟨89, _⟩ => ⟨S_, .f32⟩
  | .hbm, ⟨90, _⟩ => ⟨S16x8192x8192, .f32⟩
  | .hbm, ⟨91, _⟩ => ⟨S16x8192x8192, .f32⟩
  | .hbm, ⟨92, _⟩ => ⟨S16x8192x64, .f32⟩
  | .hbm, ⟨93, _⟩ => ⟨S8192x16x64, .f32⟩
  | .hbm, ⟨94, _⟩ => ⟨S16x8192x64, .f32⟩
  | .hbm, ⟨95, _⟩ => ⟨S8192x16x64, .f32⟩
  | .hbm, ⟨96, _⟩ => ⟨S16x8192x128, .f32⟩
  | .hbm, ⟨97, _⟩ => ⟨S8192x16x128, .f32⟩
  | .hbm, ⟨98, _⟩ => ⟨S16x8192x128, .f32⟩
  | .hbm, ⟨99, _⟩ => ⟨S8192x16x128, .f32⟩
  | .hbm, ⟨100, _⟩ => ⟨S_, .f32⟩
  | .hbm, ⟨101, _⟩ => ⟨S8192x16x64, .f32⟩
  | .hbm, ⟨102, _⟩ => ⟨S8192x16x256, .f32⟩
  | .hbm, ⟨103, _⟩ => ⟨S16x8192x256, .f32⟩
  | .hbm, ⟨104, _⟩ => ⟨S16x8192x256, .bf16⟩
  | .hbm, ⟨105, _⟩ => ⟨S8192x16x256, .f32⟩
  | .hbm, ⟨106, _⟩ => ⟨S16x8192x256, .f32⟩
  | .hbm, ⟨107, _⟩ => ⟨S16x8192x256, .bf16⟩
  | .hbm, ⟨108, _⟩ => ⟨S16x8192x128, .f32⟩
  | .hbm, ⟨109, _⟩ => ⟨S16x8192x128, .bf16⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== DwIn.lean ====
abbrev S8192x2048 : Shape := ⟨2, ![8192, 2048]⟩
abbrev S8192x15488 : Shape := ⟨2, ![8192, 15488]⟩
abbrev S2048x8192 : Shape := ⟨2, ![2048, 8192]⟩
abbrev S2048x15488 : Shape := ⟨2, ![2048, 15488]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x15488, .f32⟩
  | .hbm, ⟨2, _⟩ => ⟨S2048x8192, .f32⟩
  | .hbm, ⟨3, _⟩ => ⟨S2048x8192, .bf16⟩
  | .hbm, ⟨4, _⟩ => ⟨S8192x15488, .bf16⟩
  | .hbm, ⟨5, _⟩ => ⟨S2048x15488, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2048 : Shape := ⟨2, ![8192, 2048]⟩
abbrev S8192x15488 : Shape := ⟨2, ![8192, 15488]⟩
abbrev S_ : Shape := ⟨0, ![]⟩
abbrev S2048x15488 : Shape := ⟨2, ![2048, 15488]⟩
abbrev S15488x2048 : Shape := ⟨2, ![15488, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x15488, .f32⟩
  | .hbm, ⟨2, _⟩ => ⟨S_, .f32⟩
  | .hbm, ⟨3, _⟩ => ⟨S2048x15488, .f32⟩
  | .hbm, ⟨4, _⟩ => ⟨S8192x15488, .f32⟩
  | .hbm, ⟨5, _⟩ => ⟨S15488x2048, .f32⟩
  | .hbm, ⟨6, _⟩ => ⟨S2048x15488, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMerged.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.FrameKernel.lean ====
/- The frame of the program as compiled. -/
module

public import proofs.«01_k».proof.Defs
public import proofs.«01_k».proof.Proof.K.Launch

@[expose] public section

set_option maxRecDepth 16384
set_option Elab.async false

noncomputable section

namespace Cert.Proof

open Idealize.ShloMosaic Idealize.SL.Sem

theorem frame_kernel : Cert.quiescent_Kernel (hKernel := Cert.Kernel.Gen.facts) := fun m g _ =>
  (θ_run (Cert.Kernel.defs (F := Bits)) _ _).mono (fun _ h => ⟨fun c => (h.1 c).2, h.2⟩) (Cert.Kernel.Fl.run_main (F := Bits) m g)

end Cert.Proof

end
-- ==== Proof.KI.Base.lean ====
/- Tables, scratches and decisions of the attention-backward kernel. -/
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The two prefetched tables and the three scratches, whole. -/
abbrev tb0 : Memref sig .tc .smem S136 .i32 := Memref.whole main_c
abbrev tb1 : Memref sig .tc .smem S136 .i32 := Memref.whole main_c_0
abbrev sc0 : Memref sig .tc .vmem S2x512x256 .f32 := Memref.whole cc0_scratch0
abbrev sc1 : Memref sig .tc .vmem S2x512x128 .f32 := Memref.whole cc0_scratch1
abbrev sc2 : Memref sig .tc .vmem S2x8192x256 .f32 := Memref.whole cc0_scratch2

/-- The word of a table read at grid point `i`. -/
abbrev wd0 (T : S136.Idx → Elt F .i32) (i : grid0.Coords) : BitVec 32 :=
  View.readAt (Elt F) (tb0).view (Rect.unit (s := S136) (k0_off1 i) S1.size (k0_off1_inb i)).toLoadRect T (Shape.Idx.first (numel1_S1.symm ▸ Nat.one_pos))
abbrev wd1 (T : S136.Idx → Elt F .i32) (i : grid0.Coords) : BitVec 32 :=
  View.readAt (Elt F) (tb1).view (Rect.unit (s := S136) (k0_off1 i) S1.size (k0_off1_inb i)).toLoadRect T (Shape.Idx.first (numel1_S1.symm ▸ Nat.one_pos))

/-- The three decisions that tell the paths of the body apart: the first pair of a head group, the first query block of a
    key block, the last query block of a key block; and the last pair of a head group. -/
abbrev isFst (i : grid0.Coords) : Prop := (Scalar.cmpi .ne (Scalar.extui (Scalar.cmpi .eq (BitVec.ofNat 32 (i 1).val) 0#32)) 0#32) = 1#1
abbrev isDiag (a b : BitVec 32) : Prop := (Scalar.cmpi .ne (Scalar.extui (Scalar.cmpi .eq a b)) 0#32) = 1#1

end Cert.KernelIdeal.Fl

end
-- ==== Proof.KI.Tab.lean ====
/- The pinned tables and the pipeline at them. -/
module

public import proofs.«01_k».proof.Proof.KI.Base

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The two tables' contents as @main sets them (query block and key block of each pair, key-major), and the pair. -/
def T0 : S136.Idx → BitVec 32 := fun x => lit0 (S136.rowMajor x)
def T1 : S136.Idx → BitVec 32 := fun x => lit1 (S136.rowMajor x)
set_option backward.proofsInPublic true in
def pfN : pre0.Contents (Elt F) := fun | ⟨0, _⟩ => T0 | ⟨1, _⟩ => T1 | ⟨_ + 2, h⟩ => absurd h (by simp)

/-! ## The blocks lie inside their arrays -/
theorem ok_0 : ∀ i : grid0.Coords, ∀ a, (cc0_transform_0 k0_off1_inb numel1_S1 (pfN (F := Bits)) i a + 1) * S2x512x256.size a ≤ S16x8192x256.size a := by decide +kernel
theorem ok_1 : ∀ i : grid0.Coords, ∀ a, (cc0_transform_1 k0_off1_inb numel1_S1 (pfN (F := Bits)) i a + 1) * S2x512x256.size a ≤ S16x8192x256.size a := by decide +kernel
theorem ok_2 : ∀ i : grid0.Coords, ∀ a, (cc0_transform_2 k0_off1_inb numel1_S1 (pfN (F := Bits)) i a + 1) * S2x512x128.size a ≤ S16x8192x128.size a := by decide +kernel
theorem ok_3 : ∀ i : grid0.Coords, ∀ a, (cc0_transform_3 k0_off1_inb numel1_S1 (pfN (F := Bits)) i a + 1) * S512x256.size a ≤ S8192x2048.size a := by decide +kernel
theorem ok_4 : ∀ i : grid0.Coords, ∀ a, (cc0_transform_4 k0_off1_inb numel1_S1 (pfN (F := Bits)) i a + 1) * S2x8x512.size a ≤ S16x8x8192.size a := by decide +kernel
theorem ok_5 : ∀ i : grid0.Coords, ∀ a, (cc0_transform_5 k0_off1_inb numel1_S1 (pfN (F := Bits)) i a + 1) * S2x8x512.size a ≤ S16x8x8192.size a := by decide +kernel
theorem ok_7 : ∀ i : grid0.Coords, ∀ a, (cc0_transform_7 k0_off1_inb numel1_S1 (pfN (F := Bits)) i a + 1) * S2x512x256.size a ≤ S16x8192x256.size a := by decide +kernel
theorem ok_8 : ∀ i : grid0.Coords, ∀ a, (cc0_transform_8 k0_off1_inb numel1_S1 (pfN (F := Bits)) i a + 1) * S2x512x128.size a ≤ S16x8192x128.size a := by decide +kernel
theorem ok_pf : ok0 (pfN (F := F)) :=
  ⟨fun i => ⟨ok_0 i, .inr (Affine.block_words_dvd (s := S16x8192x256) (p := EltTy.packing .bf16) (by decide) (by decide))⟩,
   fun i => ⟨ok_1 i, .inr (Affine.block_words_dvd (s := S16x8192x256) (p := EltTy.packing .bf16) (by decide) (by decide))⟩,
   fun i => ⟨ok_2 i, .inr (Affine.block_words_dvd (s := S16x8192x128) (p := EltTy.packing .bf16) (by decide) (by decide))⟩,
   fun i => ⟨ok_3 i, .inr (Affine.block_words_dvd (s := S8192x2048) (p := EltTy.packing .bf16) (by decide) (by decide))⟩,
   fun i => ⟨ok_4 i, .inl rfl⟩,
   fun i => ⟨ok_5 i, .inl rfl⟩,
   fun i => ⟨ok_7 i, .inr (Affine.block_words_dvd (s := S16x8192x256) (p := EltTy.packing .bf16) (by decide) (by decide))⟩,
   fun i => ⟨ok_8 i, .inr (Affine.block_words_dvd (s := S16x8192x128) (p := EltTy.packing .bf16) (by decide) (by decide))⟩⟩

/-- The pipeline at these tables. -/
def adm : (pcfg0 (F := F)).Adm := ⟨pfN, ok_pf⟩
abbrev cfgA (F : FTy → Type) [FloatOps F] [Named F] : Pipeline.Cfg sig Λ₀ := cfg0 (F := F) adm
abbrev pcs : Fin 1 → Pipeline.Cfg sig Λ₀ := Pipeline.pin (pcfgs (F := F)) fun _ => adm
abbrev crd (t : Fin (cfgA F).N) : grid0.Coords := (cfgA F).grid.coords t

end Cert.KernelIdeal.Fl

end
-- ==== Proof.KI.Facts.lean ====
/- Everything that is decided point by point over the grid. -/
module

public import proofs.«01_k».proof.Proof.KI.Tab

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- At the bit-exact floats a named constant is its own bits. -/
instance namedBits : Named Bits := ⟨fun _ _ {φ} b => Scalar.ofBits (F := Bits) φ b⟩

/-- What is decided at every grid point: the side condition of the row offsets; the mask decision is the diagonal one; the
    last pair of a head group is a diagonal one that ends its key block, and no first pair ends one; each result is
    written back exactly where the body stores it; the first point is a first pair. -/
abbrev FactsAt (t : Fin (cfgA Bits).N) : Prop :=
  (decide (k0_chk1 (wd0 (F := Bits) T0 (crd (F := Bits) t)) (wd1 (F := Bits) T1 (crd (F := Bits) t))) = true)
  ∧ (decide (k0_cond3 (wd0 (F := Bits) T0 (crd (F := Bits) t)) (wd1 (F := Bits) T1 (crd (F := Bits) t)) = 1#1) = !decide (isDiag (wd0 (F := Bits) T0 (crd (F := Bits) t)) (wd1 (F := Bits) T1 (crd (F := Bits) t))))
  ∧ (decide (k0_cond4 (wd0 (F := Bits) T0 (crd (F := Bits) t)) (wd1 (F := Bits) T1 (crd (F := Bits) t)) = 1#1) = decide (isDiag (wd0 (F := Bits) T0 (crd (F := Bits) t)) (wd1 (F := Bits) T1 (crd (F := Bits) t))))
  ∧ (decide (k0_cond6 (crd (F := Bits) t) = 1#1) = (!decide (isFst (crd (F := Bits) t)) && (decide (isDiag (wd0 (F := Bits) T0 (crd (F := Bits) t)) (wd1 (F := Bits) T1 (crd (F := Bits) t))) && decide (k0_cond5 (wd0 (F := Bits) T0 (crd (F := Bits) t)) = 1#1))))
  ∧ ((!decide (isFst (crd (F := Bits) t)) || (decide (isDiag (wd0 (F := Bits) T0 (crd (F := Bits) t)) (wd1 (F := Bits) T1 (crd (F := Bits) t))) && !decide (k0_cond5 (wd0 (F := Bits) T0 (crd (F := Bits) t)) = 1#1))) = true)
  ∧ (((cfgA Bits).win (6 : Fin 9)).flush t = decide (k0_cond6 (crd (F := Bits) t) = 1#1))
  ∧ (((cfgA Bits).win (7 : Fin 9)).flush t = decide (k0_cond5 (wd0 (F := Bits) T0 (crd (F := Bits) t)) = 1#1))
  ∧ (((cfgA Bits).win (8 : Fin 9)).flush t = decide (k0_cond5 (wd0 (F := Bits) T0 (crd (F := Bits) t)) = 1#1))
  ∧ ((cfgA Bits).idle (6 : Fin 9) (crd (F := Bits) t) = !decide (k0_cond6 (crd (F := Bits) t) = 1#1))
  ∧ ((cfgA Bits).idle (7 : Fin 9) (crd (F := Bits) t) = !decide (k0_cond5 (wd0 (F := Bits) T0 (crd (F := Bits) t)) = 1#1))
  ∧ ((cfgA Bits).idle (8 : Fin 9) (crd (F := Bits) t) = !decide (k0_cond5 (wd0 (F := Bits) T0 (crd (F := Bits) t)) = 1#1))
  ∧ ((!decide (t.val = 0) || decide (isFst (crd (F := Bits) t))) = true)
theorem facts_0 : ∀ t : Fin (cfgA Bits).N, 0 ≤ t.val → t.val < 136 → FactsAt t := by decide +kernel
theorem facts_1 : ∀ t : Fin (cfgA Bits).N, 136 ≤ t.val → t.val < 272 → FactsAt t := by decide +kernel
theorem facts_2 : ∀ t : Fin (cfgA Bits).N, 272 ≤ t.val → t.val < 408 → FactsAt t := by decide +kernel
theorem facts_3 : ∀ t : Fin (cfgA Bits).N, 408 ≤ t.val → t.val < 544 → FactsAt t := by decide +kernel
theorem facts_4 : ∀ t : Fin (cfgA Bits).N, 544 ≤ t.val → t.val < 680 → FactsAt t := by decide +kernel
theorem facts_5 : ∀ t : Fin (cfgA Bits).N, 680 ≤ t.val → t.val < 816 → FactsAt t := by decide +kernel
theorem facts_6 : ∀ t : Fin (cfgA Bits).N, 816 ≤ t.val → t.val < 952 → FactsAt t := by decide +kernel
theorem facts_7 : ∀ t : Fin (cfgA Bits).N, 952 ≤ t.val → t.val < 1088 → FactsAt t := by decide +kernel
theorem factsAt : ∀ t : Fin (cfgA Bits).N, FactsAt t := fun t => by
  have h0 : 0 ≤ t.val := Nat.zero_le _
  rcases Nat.lt_or_ge t.val 136 with h1 | h1; · exact facts_0 t h0 h1
  rcases Nat.lt_or_ge t.val 272 with h2 | h2; · exact facts_1 t h1 h2
  rcases Nat.lt_or_ge t.val 408 with h3 | h3; · exact facts_2 t h2 h3
  rcases Nat.lt_or_ge t.val 544 with h4 | h4; · exact facts_3 t h3 h4
  rcases Nat.lt_or_ge t.val 680 with h5 | h5; · exact facts_4 t h4 h5
  rcases Nat.lt_or_ge t.val 816 with h6 | h6; · exact facts_5 t h5 h6
  rcases Nat.lt_or_ge t.val 952 with h7 | h7; · exact facts_6 t h6 h7
  exact facts_7 t h7 t.isLt

end Cert.KernelIdeal.Fl

end
-- ==== Proof.KI.RunA.lean ====
/- Path A of the kernel body, executed symbolically. -/
module

public import proofs.«01_k».proof.Proof.KI.Base

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
/-- Path A of the body: the contents it leaves, with the proof that it runs to the continuation holding them. -/
noncomputable def runA (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x8x512 .f32) (harg8 : arg8.IsWhole) (arg9 : Memref sig .tc .vmem S2x8x512 .f32) (harg9 : arg9.IsWhole) (arg10 : Memref sig .tc .vmem S2x8192x256 .bf16) (harg10 : arg10.IsWhole) (arg11 : Memref sig .tc .vmem S2x512x256 .bf16) (harg11 : arg11.IsWhole) (arg12 : Memref sig .tc .vmem S2x512x128 .bf16) (harg12 : arg12.IsWhole)
    (T0 T1 : S136.Idx → Elt F .i32) (x0 : S2x512x256.Idx → Elt F .bf16) (x1 : S2x512x256.Idx → Elt F .bf16) (x2 : S2x512x128.Idx → Elt F .bf16) (x3 : S512x256.Idx → Elt F .bf16) (x4 : S2x8x512.Idx → Elt F .f32) (x5 : S2x8x512.Idx → Elt F .f32)
    (hw : k0_chk1 (wd0 (F := F) T0 i) (wd1 (F := F) T1 i)) (h1 : isFst i) (h2 : isDiag (wd0 (F := F) T0 i) (wd1 (F := F) T1 i))
    (h3 : ¬(k0_cond3 (wd0 (F := F) T0 i) (wd1 (F := F) T1 i) = 1#1)) (h4 : k0_cond4 (wd0 (F := F) T0 i) (wd1 (F := F) T1 i) = 1#1)
    (h5 : ¬(k0_cond5 (wd0 (F := F) T0 i) = 1#1)) (h6 : ¬(k0_cond6 i = 1#1)) :
    Σ' (new0 : Buf (Elt F) ((c : Thread nD τ).loc cc0_scratch0)) (new1 : Buf (Elt F) ((c : Thread nD τ).loc cc0_scratch1)), { new2 : Buf (Elt F) ((c : Thread nD τ).loc cc0_scratch2) //
      ∀ (y6 : S2x8192x256.Idx → Elt F .bf16) (y7 : S2x512x256.Idx → Elt F .bf16) (y8 : S2x512x128.Idx → Elt F .bf16) (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tb0.view.loc (c : Thread nD τ) ↦{fullShare.right} T0)
          ∗ (tb1.view.loc (c : Thread nD τ) ↦{fullShare.right} T1)
          ∗ owns (c : Thread nD τ) arg10 fullShare y6
          ∗ owns (c : Thread nD τ) arg11 fullShare y7
          ∗ owns (c : Thread nD τ) arg12 fullShare y8
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tb0.view.loc (c : Thread nD τ) ↦{fullShare.right} T0)
              ∗ (tb1.view.loc (c : Thread nD τ) ↦{fullShare.right} T1)
              ∗ owns (c : Thread nD τ) arg10 fullShare y6
              ∗ owns (c : Thread nD τ) arg11 fullShare y7
              ∗ owns (c : Thread nD τ) arg12 fullShare y8
              ∗ (sc0.view.loc (c : Thread nD τ) ↦{fullShare} new0)
              ∗ (sc1.view.loc (c : Thread nD τ) ↦{fullShare} new1)
              ∗ (sc2.view.loc (c : Thread nD τ) ↦{fullShare} new2)) -∗ K ⟨⟩))
          ⊢ wp frame (wpE (defs₀ (F := F)) Variants.none c none) Set.univ (cc0_flash_bwd i tb0 (Memref.isWhole_whole _) tb1 (Memref.isWhole_whole _) arg4 harg4 arg5 harg5 arg6 harg6 arg7 harg7 arg8 harg8 arg9 harg9 arg10 harg10 arg11 harg11 arg12 harg12 sc0 (Memref.isWhole_whole _) sc1 (Memref.isWhole_whole _) sc2 (Memref.isWhole_whole _)) K } :=
  ⟨_, _, _, fun y6 y7 y8 xa0 xa1 xa2 K => by
    unfold owns
    rw [cc0_flash_bwd_eq_skeleton]; unfold cc0_flash_bwd_skel
    iintro ⟨H0, H1, H2, H3, H4, H5, HT0, HT1, ⟨%f6, %hf6, HO6⟩, ⟨%f7, %hf7, HO7⟩, ⟨%f8, %hf8, HO8⟩, HS0, HS1, HS2, Hk⟩
    obtain rfl := harg10.eq_unread hf6
    obtain rfl := harg11.eq_unread hf7
    obtain rfl := harg12.eq_unread hf8
    have hS0 : (sc0 : Memref sig .tc .vmem S2x512x256 .f32).IsWhole := Memref.isWhole_whole _
    have hS1 : (sc1 : Memref sig .tc .vmem S2x512x128 .f32).IsWhole := Memref.isWhole_whole _
    have hS2 : (sc2 : Memref sig .tc .vmem S2x8192x256 .f32).IsWhole := Memref.isWhole_whole _
    have hT0 : (tb0 : Memref sig .tc .smem S136 .i32).IsWhole := Memref.isWhole_whole _
    have hT1 : (tb1 : Memref sig .tc .smem S136 .i32).IsWhole := Memref.isWhole_whole _
    sl_exec! (disch := first | (guard_target = k0_chk1 _ _; exact hw) | (guard_target = Scalar.cmpi = _; first | exact h1 | exact h2) | (guard_target = ¬(k0_cond3 _ _ = _); exact h3) | (guard_target = k0_cond4 _ _ = _; exact h4) | (guard_target = ¬(k0_cond5 _ = _); exact h5) | (guard_target = ¬(k0_cond6 _ = _); exact h6))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; isplitr; ipureintro; exact harg10.read_unread _; iexact HO6
    isplitl [HO7]; · iexists _; isplitr; ipureintro; exact harg11.read_unread _; iexact HO7
    isplitl [HO8]; · iexists _; isplitr; ipureintro; exact harg12.read_unread _; iexact HO8
    isplitl [HS0]; · iexact HS0
    isplitl [HS1]; · iexact HS1
    iexact HS2⟩

end Cert.KernelIdeal.Fl

end
-- ==== Proof.KI.RunB.lean ====
/- Path B of the kernel body, executed symbolically. -/
module

public import proofs.«01_k».proof.Proof.KI.Base

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
/-- Path B of the body: the contents it leaves, with the proof that it runs to the continuation holding them. -/
noncomputable def runB (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x8x512 .f32) (harg8 : arg8.IsWhole) (arg9 : Memref sig .tc .vmem S2x8x512 .f32) (harg9 : arg9.IsWhole) (arg10 : Memref sig .tc .vmem S2x8192x256 .bf16) (harg10 : arg10.IsWhole) (arg11 : Memref sig .tc .vmem S2x512x256 .bf16) (harg11 : arg11.IsWhole) (arg12 : Memref sig .tc .vmem S2x512x128 .bf16) (harg12 : arg12.IsWhole)
    (T0 T1 : S136.Idx → Elt F .i32) (x0 : S2x512x256.Idx → Elt F .bf16) (x1 : S2x512x256.Idx → Elt F .bf16) (x2 : S2x512x128.Idx → Elt F .bf16) (x3 : S512x256.Idx → Elt F .bf16) (x4 : S2x8x512.Idx → Elt F .f32) (x5 : S2x8x512.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (hw : k0_chk1 (wd0 (F := F) T0 i) (wd1 (F := F) T1 i)) (h1 : ¬(isFst i)) (h2 : ¬(isDiag (wd0 (F := F) T0 i) (wd1 (F := F) T1 i)))
    (h3 : k0_cond3 (wd0 (F := F) T0 i) (wd1 (F := F) T1 i) = 1#1) (h4 : ¬(k0_cond4 (wd0 (F := F) T0 i) (wd1 (F := F) T1 i) = 1#1))
    (h5 : ¬(k0_cond5 (wd0 (F := F) T0 i) = 1#1)) (h6 : ¬(k0_cond6 i = 1#1)) :
    Σ' (new0 : Buf (Elt F) ((c : Thread nD τ).loc cc0_scratch0)) (new1 : Buf (Elt F) ((c : Thread nD τ).loc cc0_scratch1)), { new2 : Buf (Elt F) ((c : Thread nD τ).loc cc0_scratch2) //
      ∀ (y6 : S2x8192x256.Idx → Elt F .bf16) (y7 : S2x512x256.Idx → Elt F .bf16) (y8 : S2x512x128.Idx → Elt F .bf16)  (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tb0.view.loc (c : Thread nD τ) ↦{fullShare.right} T0)
          ∗ (tb1.view.loc (c : Thread nD τ) ↦{fullShare.right} T1)
          ∗ owns (c : Thread nD τ) arg10 fullShare y6
          ∗ owns (c : Thread nD τ) arg11 fullShare y7
          ∗ owns (c : Thread nD τ) arg12 fullShare y8
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tb0.view.loc (c : Thread nD τ) ↦{fullShare.right} T0)
              ∗ (tb1.view.loc (c : Thread nD τ) ↦{fullShare.right} T1)
              ∗ owns (c : Thread nD τ) arg10 fullShare y6
              ∗ owns (c : Thread nD τ) arg11 fullShare y7
              ∗ owns (c : Thread nD τ) arg12 fullShare y8
              ∗ (sc0.view.loc (c : Thread nD τ) ↦{fullShare} new0)
              ∗ (sc1.view.loc (c : Thread nD τ) ↦{fullShare} new1)
              ∗ (sc2.view.loc (c : Thread nD τ) ↦{fullShare} new2)) -∗ K ⟨⟩))
          ⊢ wp frame (wpE (defs₀ (F := F)) Variants.none c none) Set.univ (cc0_flash_bwd i tb0 (Memref.isWhole_whole _) tb1 (Memref.isWhole_whole _) arg4 harg4 arg5 harg5 arg6 harg6 arg7 harg7 arg8 harg8 arg9 harg9 arg10 harg10 arg11 harg11 arg12 harg12 sc0 (Memref.isWhole_whole _) sc1 (Memref.isWhole_whole _) sc2 (Memref.isWhole_whole _)) K } :=
  ⟨_, _, _, fun y6 y7 y8  K => by
    unfold owns
    rw [cc0_flash_bwd_eq_skeleton]; unfold cc0_flash_bwd_skel
    iintro ⟨H0, H1, H2, H3, H4, H5, HT0, HT1, ⟨%f6, %hf6, HO6⟩, ⟨%f7, %hf7, HO7⟩, ⟨%f8, %hf8, HO8⟩, HS0, HS1, HS2, Hk⟩
    obtain rfl := harg10.eq_unread hf6
    obtain rfl := harg11.eq_unread hf7
    obtain rfl := harg12.eq_unread hf8
    have hS0 : (sc0 : Memref sig .tc .vmem S2x512x256 .f32).IsWhole := Memref.isWhole_whole _
    have hS1 : (sc1 : Memref sig .tc .vmem S2x512x128 .f32).IsWhole := Memref.isWhole_whole _
    have hS2 : (sc2 : Memref sig .tc .vmem S2x8192x256 .f32).IsWhole := Memref.isWhole_whole _
    have hT0 : (tb0 : Memref sig .tc .smem S136 .i32).IsWhole := Memref.isWhole_whole _
    have hT1 : (tb1 : Memref sig .tc .smem S136 .i32).IsWhole := Memref.isWhole_whole _
    sl_exec! (disch := first | (guard_target = k0_chk1 _ _; exact hw) | (guard_target = ¬(Scalar.cmpi = _); first | exact h1 | exact h2) | (guard_target = k0_cond3 _ _ = _; exact h3) | (guard_target = ¬(k0_cond4 _ _ = _); exact h4) | (guard_target = ¬(k0_cond5 _ = _); exact h5) | (guard_target = ¬(k0_cond6 _ = _); exact h6))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; isplitr; ipureintro; exact harg10.read_unread _; iexact HO6
    isplitl [HO7]; · iexists _; isplitr; ipureintro; exact harg11.read_unread _; iexact HO7
    isplitl [HO8]; · iexists _; isplitr; ipureintro; exact harg12.read_unread _; iexact HO8
    isplitl [HS0]; · iexact HS0
    isplitl [HS1]; · iexact HS1
    iexact HS2⟩

end Cert.KernelIdeal.Fl

end
-- ==== Proof.KI.RunC.lean ====
/- Path C of the kernel body, executed symbolically. -/
module

public import proofs.«01_k».proof.Proof.KI.Base

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
/-- Path C of the body: the contents it leaves, with the proof that it runs to the continuation holding them. -/
noncomputable def runC (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x8x512 .f32) (harg8 : arg8.IsWhole) (arg9 : Memref sig .tc .vmem S2x8x512 .f32) (harg9 : arg9.IsWhole) (arg10 : Memref sig .tc .vmem S2x8192x256 .bf16) (harg10 : arg10.IsWhole) (arg11 : Memref sig .tc .vmem S2x512x256 .bf16) (harg11 : arg11.IsWhole) (arg12 : Memref sig .tc .vmem S2x512x128 .bf16) (harg12 : arg12.IsWhole)
    (T0 T1 : S136.Idx → Elt F .i32) (x0 : S2x512x256.Idx → Elt F .bf16) (x1 : S2x512x256.Idx → Elt F .bf16) (x2 : S2x512x128.Idx → Elt F .bf16) (x3 : S512x256.Idx → Elt F .bf16) (x4 : S2x8x512.Idx → Elt F .f32) (x5 : S2x8x512.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (hw : k0_chk1 (wd0 (F := F) T0 i) (wd1 (F := F) T1 i)) (h1 : ¬(isFst i)) (h2 : ¬(isDiag (wd0 (F := F) T0 i) (wd1 (F := F) T1 i)))
    (h3 : k0_cond3 (wd0 (F := F) T0 i) (wd1 (F := F) T1 i) = 1#1) (h4 : ¬(k0_cond4 (wd0 (F := F) T0 i) (wd1 (F := F) T1 i) = 1#1))
    (h5 : k0_cond5 (wd0 (F := F) T0 i) = 1#1) (h6 : ¬(k0_cond6 i = 1#1)) :
    Σ' (out7 : List (View.Piece (Elt F) S2x512x256 .bf16)) (out8 : List (View.Piece (Elt F) S2x512x128 .bf16)) (new0 : Buf (Elt F) ((c : Thread nD τ).loc cc0_scratch0)) (new1 : Buf (Elt F) ((c : Thread nD τ).loc cc0_scratch1)), { new2 : Buf (Elt F) ((c : Thread nD τ).loc cc0_scratch2) //
      ∀ (y6 : S2x8192x256.Idx → Elt F .bf16)  (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tb0.view.loc (c : Thread nD τ) ↦{fullShare.right} T0)
          ∗ (tb1.view.loc (c : Thread nD τ) ↦{fullShare.right} T1)
          ∗ owns (c : Thread nD τ) arg10 fullShare y6
          ∗ (∃ d, owns (c : Thread nD τ) arg11 fullShare d)
          ∗ (∃ d, owns (c : Thread nD τ) arg12 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tb0.view.loc (c : Thread nD τ) ↦{fullShare.right} T0)
              ∗ (tb1.view.loc (c : Thread nD τ) ↦{fullShare.right} T1)
              ∗ owns (c : Thread nD τ) arg10 fullShare y6
              ∗ (∃ f, arg11.view.loc (c : Thread nD τ) ↦[arg11.view.set]{fullShare} arg11.view.writes (Elt F) f out7)
              ∗ (∃ f, arg12.view.loc (c : Thread nD τ) ↦[arg12.view.set]{fullShare} arg12.view.writes (Elt F) f out8)
              ∗ (sc0.view.loc (c : Thread nD τ) ↦{fullShare} new0)
              ∗ (sc1.view.loc (c : Thread nD τ) ↦{fullShare} new1)
              ∗ (sc2.view.loc (c : Thread nD τ) ↦{fullShare} new2)) -∗ K ⟨⟩))
          ⊢ wp frame (wpE (defs₀ (F := F)) Variants.none c none) Set.univ (cc0_flash_bwd i tb0 (Memref.isWhole_whole _) tb1 (Memref.isWhole_whole _) arg4 harg4 arg5 harg5 arg6 harg6 arg7 harg7 arg8 harg8 arg9 harg9 arg10 harg10 arg11 harg11 arg12 harg12 sc0 (Memref.isWhole_whole _) sc1 (Memref.isWhole_whole _) sc2 (Memref.isWhole_whole _)) K } :=
  ⟨_, _, _, _, _, fun y6  K => by
    unfold owns
    rw [cc0_flash_bwd_eq_skeleton]; unfold cc0_flash_bwd_skel
    iintro ⟨H0, H1, H2, H3, H4, H5, HT0, HT1, ⟨%f6, %hf6, HO6⟩, ⟨%d7, %f7, -, HO7⟩, ⟨%d8, %f8, -, HO8⟩, HS0, HS1, HS2, Hk⟩
    obtain rfl := harg10.eq_unread hf6
    have hS0 : (sc0 : Memref sig .tc .vmem S2x512x256 .f32).IsWhole := Memref.isWhole_whole _
    have hS1 : (sc1 : Memref sig .tc .vmem S2x512x128 .f32).IsWhole := Memref.isWhole_whole _
    have hS2 : (sc2 : Memref sig .tc .vmem S2x8192x256 .f32).IsWhole := Memref.isWhole_whole _
    have hT0 : (tb0 : Memref sig .tc .smem S136 .i32).IsWhole := Memref.isWhole_whole _
    have hT1 : (tb1 : Memref sig .tc .smem S136 .i32).IsWhole := Memref.isWhole_whole _
    sl_exec! (disch := first | (guard_target = k0_chk1 _ _; exact hw) | (guard_target = ¬(Scalar.cmpi = _); first | exact h1 | exact h2) | (guard_target = k0_cond3 _ _ = _; exact h3) | (guard_target = ¬(k0_cond4 _ _ = _); exact h4) | (guard_target = k0_cond5 _ = _; exact h5) | (guard_target = ¬(k0_cond6 _ = _); exact h6))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; isplitr; ipureintro; exact harg10.read_unread _; iexact HO6
    isplitl [HO7]; · iexists _; iexact HO7
    isplitl [HO8]; · iexists _; iexact HO8
    isplitl [HS0]; · iexact HS0
    isplitl [HS1]; · iexact HS1
    iexact HS2⟩

end Cert.KernelIdeal.Fl

end
-- ==== Proof.KI.RunD.lean ====
/- Path D of the kernel body, executed symbolically. -/
module

public import proofs.«01_k».proof.Proof.KI.Base

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
/-- Path D of the body: the contents it leaves, with the proof that it runs to the continuation holding them. -/
noncomputable def runD (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x8x512 .f32) (harg8 : arg8.IsWhole) (arg9 : Memref sig .tc .vmem S2x8x512 .f32) (harg9 : arg9.IsWhole) (arg10 : Memref sig .tc .vmem S2x8192x256 .bf16) (harg10 : arg10.IsWhole) (arg11 : Memref sig .tc .vmem S2x512x256 .bf16) (harg11 : arg11.IsWhole) (arg12 : Memref sig .tc .vmem S2x512x128 .bf16) (harg12 : arg12.IsWhole)
    (T0 T1 : S136.Idx → Elt F .i32) (x0 : S2x512x256.Idx → Elt F .bf16) (x1 : S2x512x256.Idx → Elt F .bf16) (x2 : S2x512x128.Idx → Elt F .bf16) (x3 : S512x256.Idx → Elt F .bf16) (x4 : S2x8x512.Idx → Elt F .f32) (x5 : S2x8x512.Idx → Elt F .f32) (xa2 : Buf (Elt F) ((c : Thread nD τ).loc cc0_scratch2))
    (hw : k0_chk1 (wd0 (F := F) T0 i) (wd1 (F := F) T1 i)) (h1 : ¬(isFst i)) (h2 : isDiag (wd0 (F := F) T0 i) (wd1 (F := F) T1 i))
    (h3 : ¬(k0_cond3 (wd0 (F := F) T0 i) (wd1 (F := F) T1 i) = 1#1)) (h4 : k0_cond4 (wd0 (F := F) T0 i) (wd1 (F := F) T1 i) = 1#1)
    (h5 : ¬(k0_cond5 (wd0 (F := F) T0 i) = 1#1)) (h6 : ¬(k0_cond6 i = 1#1)) :
    Σ' (new0 : Buf (Elt F) ((c : Thread nD τ).loc cc0_scratch0)) (new1 : Buf (Elt F) ((c : Thread nD τ).loc cc0_scratch1)), { new2 : Buf (Elt F) ((c : Thread nD τ).loc cc0_scratch2) //
      ∀ (y6 : S2x8192x256.Idx → Elt F .bf16) (y7 : S2x512x256.Idx → Elt F .bf16) (y8 : S2x512x128.Idx → Elt F .bf16) (xa0 : Buf (Elt F) ((c : Thread nD τ).loc cc0_scratch0)) (xa1 : Buf (Elt F) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tb0.view.loc (c : Thread nD τ) ↦{fullShare.right} T0)
          ∗ (tb1.view.loc (c : Thread nD τ) ↦{fullShare.right} T1)
          ∗ owns (c : Thread nD τ) arg10 fullShare y6
          ∗ owns (c : Thread nD τ) arg11 fullShare y7
          ∗ owns (c : Thread nD τ) arg12 fullShare y8
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tb0.view.loc (c : Thread nD τ) ↦{fullShare.right} T0)
              ∗ (tb1.view.loc (c : Thread nD τ) ↦{fullShare.right} T1)
              ∗ owns (c : Thread nD τ) arg10 fullShare y6
              ∗ owns (c : Thread nD τ) arg11 fullShare y7
              ∗ owns (c : Thread nD τ) arg12 fullShare y8
              ∗ (sc0.view.loc (c : Thread nD τ) ↦{fullShare} new0)
              ∗ (sc1.view.loc (c : Thread nD τ) ↦{fullShare} new1)
              ∗ (sc2.view.loc (c : Thread nD τ) ↦{fullShare} new2)) -∗ K ⟨⟩))
          ⊢ wp frame (wpE (defs₀ (F := F)) Variants.none c none) Set.univ (cc0_flash_bwd i tb0 (Memref.isWhole_whole _) tb1 (Memref.isWhole_whole _) arg4 harg4 arg5 harg5 arg6 harg6 arg7 harg7 arg8 harg8 arg9 harg9 arg10 harg10 arg11 harg11 arg12 harg12 sc0 (Memref.isWhole_whole _) sc1 (Memref.isWhole_whole _) sc2 (Memref.isWhole_whole _)) K } :=
  ⟨_, _, _, fun y6 y7 y8 xa0 xa1 K => by
    unfold owns
    rw [cc0_flash_bwd_eq_skeleton]; unfold cc0_flash_bwd_skel
    iintro ⟨H0, H1, H2, H3, H4, H5, HT0, HT1, ⟨%f6, %hf6, HO6⟩, ⟨%f7, %hf7, HO7⟩, ⟨%f8, %hf8, HO8⟩, HS0, HS1, HS2, Hk⟩
    obtain rfl := harg10.eq_unread hf6
    obtain rfl := harg11.eq_unread hf7
    obtain rfl := harg12.eq_unread hf8
    have hS0 : (sc0 : Memref sig .tc .vmem S2x512x256 .f32).IsWhole := Memref.isWhole_whole _
    have hS1 : (sc1 : Memref sig .tc .vmem S2x512x128 .f32).IsWhole := Memref.isWhole_whole _
    have hS2 : (sc2 : Memref sig .tc .vmem S2x8192x256 .f32).IsWhole := Memref.isWhole_whole _
    have hT0 : (tb0 : Memref sig .tc .smem S136 .i32).IsWhole := Memref.isWhole_whole _
    have hT1 : (tb1 : Memref sig .tc .smem S136 .i32).IsWhole := Memref.isWhole_whole _
    sl_exec! (disch := first | (guard_target = k0_chk1 _ _; exact hw) | (guard_target = ¬(Scalar.cmpi = _); exact h1) | (guard_target = Scalar.cmpi = _; exact h2) | (guard_target = ¬(k0_cond3 _ _ = _); exact h3) | (guard_target = k0_cond4 _ _ = _; exact h4) | (guard_target = ¬(k0_cond5 _ = _); exact h5) | (guard_target = ¬(k0_cond6 _ = _); exact h6))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; isplitr; ipureintro; exact harg10.read_unread _; iexact HO6
    isplitl [HO7]; · iexists _; isplitr; ipureintro; exact harg11.read_unread _; iexact HO7
    isplitl [HO8]; · iexists _; isplitr; ipureintro; exact harg12.read_unread _; iexact HO8
    isplitl [HS0]; · iexact HS0
    isplitl [HS1]; · iexact HS1
    iexact HS2⟩

end Cert.KernelIdeal.Fl

end
-- ==== Proof.KI.RunE.lean ====
/- Path E of the kernel body, executed symbolically. -/
module

public import proofs.«01_k».proof.Proof.KI.Base

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
/-- Path E of the body: the contents it leaves, with the proof that it runs to the continuation holding them. -/
noncomputable def runE (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x8x512 .f32) (harg8 : arg8.IsWhole) (arg9 : Memref sig .tc .vmem S2x8x512 .f32) (harg9 : arg9.IsWhole) (arg10 : Memref sig .tc .vmem S2x8192x256 .bf16) (harg10 : arg10.IsWhole) (arg11 : Memref sig .tc .vmem S2x512x256 .bf16) (harg11 : arg11.IsWhole) (arg12 : Memref sig .tc .vmem S2x512x128 .bf16) (harg12 : arg12.IsWhole)
    (T0 T1 : S136.Idx → Elt F .i32) (x0 : S2x512x256.Idx → Elt F .bf16) (x1 : S2x512x256.Idx → Elt F .bf16) (x2 : S2x512x128.Idx → Elt F .bf16) (x3 : S512x256.Idx → Elt F .bf16) (x4 : S2x8x512.Idx → Elt F .f32) (x5 : S2x8x512.Idx → Elt F .f32) (xa2 : Buf (Elt F) ((c : Thread nD τ).loc cc0_scratch2))
    (hw : k0_chk1 (wd0 (F := F) T0 i) (wd1 (F := F) T1 i)) (h1 : ¬(isFst i)) (h2 : isDiag (wd0 (F := F) T0 i) (wd1 (F := F) T1 i))
    (h3 : ¬(k0_cond3 (wd0 (F := F) T0 i) (wd1 (F := F) T1 i) = 1#1)) (h4 : k0_cond4 (wd0 (F := F) T0 i) (wd1 (F := F) T1 i) = 1#1)
    (h5 : k0_cond5 (wd0 (F := F) T0 i) = 1#1) (h6 : k0_cond6 i = 1#1) :
    Σ' (out6 : List (View.Piece (Elt F) S2x8192x256 .bf16)) (out7 : List (View.Piece (Elt F) S2x512x256 .bf16)) (out8 : List (View.Piece (Elt F) S2x512x128 .bf16)) (new0 : Buf (Elt F) ((c : Thread nD τ).loc cc0_scratch0)) (new1 : Buf (Elt F) ((c : Thread nD τ).loc cc0_scratch1)), { new2 : Buf (Elt F) ((c : Thread nD τ).loc cc0_scratch2) //
      ∀  (xa0 : Buf (Elt F) ((c : Thread nD τ).loc cc0_scratch0)) (xa1 : Buf (Elt F) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tb0.view.loc (c : Thread nD τ) ↦{fullShare.right} T0)
          ∗ (tb1.view.loc (c : Thread nD τ) ↦{fullShare.right} T1)
          ∗ (∃ d, owns (c : Thread nD τ) arg10 fullShare d)
          ∗ (∃ d, owns (c : Thread nD τ) arg11 fullShare d)
          ∗ (∃ d, owns (c : Thread nD τ) arg12 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tb0.view.loc (c : Thread nD τ) ↦{fullShare.right} T0)
              ∗ (tb1.view.loc (c : Thread nD τ) ↦{fullShare.right} T1)
              ∗ (∃ f, arg10.view.loc (c : Thread nD τ) ↦[arg10.view.set]{fullShare} arg10.view.writes (Elt F) f out6)
              ∗ (∃ f, arg11.view.loc (c : Thread nD τ) ↦[arg11.view.set]{fullShare} arg11.view.writes (Elt F) f out7)
              ∗ (∃ f, arg12.view.loc (c : Thread nD τ) ↦[arg12.view.set]{fullShare} arg12.view.writes (Elt F) f out8)
              ∗ (sc0.view.loc (c : Thread nD τ) ↦{fullShare} new0)
              ∗ (sc1.view.loc (c : Thread nD τ) ↦{fullShare} new1)
              ∗ (sc2.view.loc (c : Thread nD τ) ↦{fullShare} new2)) -∗ K ⟨⟩))
          ⊢ wp frame (wpE (defs₀ (F := F)) Variants.none c none) Set.univ (cc0_flash_bwd i tb0 (Memref.isWhole_whole _) tb1 (Memref.isWhole_whole _) arg4 harg4 arg5 harg5 arg6 harg6 arg7 harg7 arg8 harg8 arg9 harg9 arg10 harg10 arg11 harg11 arg12 harg12 sc0 (Memref.isWhole_whole _) sc1 (Memref.isWhole_whole _) sc2 (Memref.isWhole_whole _)) K } :=
  ⟨_, _, _, _, _, _, fun  xa0 xa1 K => by
    unfold owns
    rw [cc0_flash_bwd_eq_skeleton]; unfold cc0_flash_bwd_skel
    iintro ⟨H0, H1, H2, H3, H4, H5, HT0, HT1, ⟨%d6, %f6, -, HO6⟩, ⟨%d7, %f7, -, HO7⟩, ⟨%d8, %f8, -, HO8⟩, HS0, HS1, HS2, Hk⟩
    have hS0 : (sc0 : Memref sig .tc .vmem S2x512x256 .f32).IsWhole := Memref.isWhole_whole _
    have hS1 : (sc1 : Memref sig .tc .vmem S2x512x128 .f32).IsWhole := Memref.isWhole_whole _
    have hS2 : (sc2 : Memref sig .tc .vmem S2x8192x256 .f32).IsWhole := Memref.isWhole_whole _
    have hT0 : (tb0 : Memref sig .tc .smem S136 .i32).IsWhole := Memref.isWhole_whole _
    have hT1 : (tb1 : Memref sig .tc .smem S136 .i32).IsWhole := Memref.isWhole_whole _
    sl_exec! (disch := first | (guard_target = k0_chk1 _ _; exact hw) | (guard_target = ¬(Scalar.cmpi = _); exact h1) | (guard_target = Scalar.cmpi = _; exact h2) | (guard_target = ¬(k0_cond3 _ _ = _); exact h3) | (guard_target = k0_cond4 _ _ = _; exact h4) | (guard_target = k0_cond5 _ = _; exact h5) | (guard_target = k0_cond6 _ = _; exact h6))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HO7]; · iexists _; iexact HO7
    isplitl [HO8]; · iexists _; iexact HO8
    isplitl [HS0]; · iexact HS0
    isplitl [HS1]; · iexact HS1
    iexact HS2⟩

end Cert.KernelIdeal.Fl

end
-- ==== Proof.KI.Hyps.lean ====
/- The decided facts at any float interpretation; the runs at a grid point. -/
module

public import proofs.«01_k».proof.Proof.KI.Facts
public import proofs.«01_k».proof.Proof.KI.RunA
public import proofs.«01_k».proof.Proof.KI.RunB
public import proofs.«01_k».proof.Proof.KI.RunC
public import proofs.«01_k».proof.Proof.KI.RunD
public import proofs.«01_k».proof.Proof.KI.RunE

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The decisions at a point: first pair of a head group; diagonal pair; last query block of its key block. -/
abbrev pF (t : Fin (cfgA F).N) : Prop := isFst (crd t)
abbrev pD (t : Fin (cfgA F).N) : Prop := isDiag (wd0 (F := F) T0 (crd t)) (wd1 (F := F) T1 (crd t))
abbrev pE (t : Fin (cfgA F).N) : Prop := k0_cond5 (wd0 (F := F) T0 (crd t)) = 1#1
abbrev pL (t : Fin (cfgA F).N) : Prop := k0_cond6 (crd t) = 1#1

theorem chk (t : Fin (cfgA F).N) : k0_chk1 (wd0 (F := F) T0 (crd t)) (wd1 (F := F) T1 (crd t)) :=
  (of_decide_eq_true (factsAt t).1 : k0_chk1 (wd0 (F := Bits) T0 (crd (F := Bits) t)) (wd1 (F := Bits) T1 (crd (F := Bits) t)))

theorem c3B (t : Fin (cfgA Bits).N) : (pD t → ¬(k0_cond3 (wd0 (F := Bits) T0 (crd t)) (wd1 (F := Bits) T1 (crd t)) = 1#1)) ∧ (¬pD t → k0_cond3 (wd0 (F := Bits) T0 (crd t)) (wd1 (F := Bits) T1 (crd t)) = 1#1) := by
  have h := (factsAt t).2.1
  constructor
  · intro hd; rw [decide_eq_true (show isDiag _ _ from hd)] at h; exact of_decide_eq_false h
  · intro hd; rw [decide_eq_false (show ¬isDiag _ _ from hd)] at h; exact of_decide_eq_true h
theorem c3 (t : Fin (cfgA F).N) : (pD t → ¬(k0_cond3 (wd0 (F := F) T0 (crd t)) (wd1 (F := F) T1 (crd t)) = 1#1)) ∧ (¬pD t → k0_cond3 (wd0 (F := F) T0 (crd t)) (wd1 (F := F) T1 (crd t)) = 1#1) := c3B t
theorem c4B (t : Fin (cfgA Bits).N) : (pD t → (k0_cond4 (wd0 (F := Bits) T0 (crd t)) (wd1 (F := Bits) T1 (crd t)) = 1#1)) ∧ (¬pD t → ¬(k0_cond4 (wd0 (F := Bits) T0 (crd t)) (wd1 (F := Bits) T1 (crd t)) = 1#1)) := by
  have h := (factsAt t).2.2.1
  constructor
  · intro hd; rw [decide_eq_true (show isDiag _ _ from hd)] at h; exact of_decide_eq_true h
  · intro hd; rw [decide_eq_false (show ¬isDiag _ _ from hd)] at h; exact of_decide_eq_false h
theorem c4 (t : Fin (cfgA F).N) : (pD t → (k0_cond4 (wd0 (F := F) T0 (crd t)) (wd1 (F := F) T1 (crd t)) = 1#1)) ∧ (¬pD t → ¬(k0_cond4 (wd0 (F := F) T0 (crd t)) (wd1 (F := F) T1 (crd t)) = 1#1)) := c4B t
theorem dL (a b c d : Prop) [Decidable a] [Decidable b] [Decidable c] [Decidable d] (h : decide d = (!decide a && (decide b && decide c))) : d ↔ ¬a ∧ b ∧ c := by
  by_cases a <;> by_cases b <;> by_cases c <;> by_cases d <;> simp_all
theorem dF (a b c : Prop) [Decidable a] [Decidable b] [Decidable c] (h : (!decide a || (decide b && !decide c)) = true) : a → b ∧ ¬c := by
  by_cases a <;> by_cases b <;> by_cases c <;> simp_all
theorem lastB (t : Fin (cfgA Bits).N) : pL t ↔ ¬pF t ∧ pD t ∧ pE t := dL _ _ _ _ (factsAt t).2.2.2.1
theorem last (t : Fin (cfgA F).N) : pL t ↔ ¬pF t ∧ pD t ∧ pE t := lastB t
theorem fstB (t : Fin (cfgA Bits).N) : pF t → pD t ∧ ¬pE t := dF _ _ _ (factsAt t).2.2.2.2.1
theorem fst (t : Fin (cfgA F).N) : pF t → pD t ∧ ¬pE t := fstB t
theorem zeroB (t : Fin (cfgA Bits).N) : t.val = 0 → pF t := by
  have h := (factsAt t).2.2.2.2.2.2.2.2.2.2.2
  intro h0; rw [decide_eq_true h0] at h; simpa using h
theorem zero (t : Fin (cfgA F).N) : t.val = 0 → pF t := zeroB t
theorem fl6B (t : Fin (cfgA Bits).N) : ((cfgA Bits).win (6 : Fin 9)).flush t = decide (pL t) := (factsAt t).2.2.2.2.2.1
theorem fl6 (t : Fin (cfgA F).N) : ((cfgA F).win (6 : Fin 9)).flush t = decide (pL t) := fl6B t
theorem id6B (t : Fin (cfgA Bits).N) : (cfgA Bits).idle (6 : Fin 9) (crd (F := Bits) t) = !decide (pL t) := (factsAt t).2.2.2.2.2.2.2.2.1
theorem id6 (t : Fin (cfgA F).N) : (cfgA F).idle (6 : Fin 9) (crd t) = !decide (pL t) := id6B t
/-- Before every point result 0's staging buffer holds nothing a point has stored since its last write-back. -/
theorem fr6 (n : ℕ) (hn : n ≤ (cfgA F).N) : (cfgA F).fresh (6 : Fin 9) n = true := by
  rw [Pipeline.Cfg.fresh_tab (cfgA F) (6 : Fin 9) (fun _ => true) rfl (fun t => by rw [fl6 t, id6 t]; cases decide (pL t) <;> rfl) n hn]
theorem fl7B (t : Fin (cfgA Bits).N) : ((cfgA Bits).win (7 : Fin 9)).flush t = decide (pE t) := (factsAt t).2.2.2.2.2.2.1
theorem fl7 (t : Fin (cfgA F).N) : ((cfgA F).win (7 : Fin 9)).flush t = decide (pE t) := fl7B t
theorem id7B (t : Fin (cfgA Bits).N) : (cfgA Bits).idle (7 : Fin 9) (crd (F := Bits) t) = !decide (pE t) := (factsAt t).2.2.2.2.2.2.2.2.2.1
theorem id7 (t : Fin (cfgA F).N) : (cfgA F).idle (7 : Fin 9) (crd t) = !decide (pE t) := id7B t
/-- Before every point result 1's staging buffer holds nothing a point has stored since its last write-back. -/
theorem fr7 (n : ℕ) (hn : n ≤ (cfgA F).N) : (cfgA F).fresh (7 : Fin 9) n = true := by
  rw [Pipeline.Cfg.fresh_tab (cfgA F) (7 : Fin 9) (fun _ => true) rfl (fun t => by rw [fl7 t, id7 t]; cases decide (pE t) <;> rfl) n hn]
theorem fl8B (t : Fin (cfgA Bits).N) : ((cfgA Bits).win (8 : Fin 9)).flush t = decide (pE t) := (factsAt t).2.2.2.2.2.2.2.1
theorem fl8 (t : Fin (cfgA F).N) : ((cfgA F).win (8 : Fin 9)).flush t = decide (pE t) := fl8B t
theorem id8B (t : Fin (cfgA Bits).N) : (cfgA Bits).idle (8 : Fin 9) (crd (F := Bits) t) = !decide (pE t) := (factsAt t).2.2.2.2.2.2.2.2.2.2.1
theorem id8 (t : Fin (cfgA F).N) : (cfgA F).idle (8 : Fin 9) (crd t) = !decide (pE t) := id8B t
/-- Before every point result 2's staging buffer holds nothing a point has stored since its last write-back. -/
theorem fr8 (n : ℕ) (hn : n ≤ (cfgA F).N) : (cfgA F).fresh (8 : Fin 9) n = true := by
  rw [Pipeline.Cfg.fresh_tab (cfgA F) (8 : Fin 9) (fun _ => true) rfl (fun t => by rw [fl8 t, id8 t]; cases decide (pE t) <;> rfl) n hn]

/-! ## A point's staging memrefs and blocks -/

/-- The contents of core `c`'s buffers when the region is entered: the host operations have run. -/
def V (c : Dev nD) (b : Ref sig .tc) : Buf (Elt F) ((c : Thread nD τ).loc b) := StableHlo.after hostOps0 (fun b => m (c, b)) b
abbrev ms0 (t : Fin (cfgA F).N) : Memref sig .tc .vmem S2x512x256 .bf16 := spec0_0.stage ((cfgA F).slots t (0 : Fin 9))
abbrev hs0 (t : Fin (cfgA F).N) : (ms0 t).IsWhole := hstage0_0 (((cfgA F).slots t (0 : Fin 9)).cast nbuf0_0)
abbrev ms1 (t : Fin (cfgA F).N) : Memref sig .tc .vmem S2x512x256 .bf16 := spec0_1.stage ((cfgA F).slots t (1 : Fin 9))
abbrev hs1 (t : Fin (cfgA F).N) : (ms1 t).IsWhole := hstage0_1 (((cfgA F).slots t (1 : Fin 9)).cast nbuf0_1)
abbrev ms2 (t : Fin (cfgA F).N) : Memref sig .tc .vmem S2x512x128 .bf16 := spec0_2.stage ((cfgA F).slots t (2 : Fin 9))
abbrev hs2 (t : Fin (cfgA F).N) : (ms2 t).IsWhole := hstage0_2 (((cfgA F).slots t (2 : Fin 9)).cast nbuf0_2)
abbrev ms3 (t : Fin (cfgA F).N) : Memref sig .tc .vmem S512x256 .bf16 := spec0_3.stage ((cfgA F).slots t (3 : Fin 9))
abbrev hs3 (t : Fin (cfgA F).N) : (ms3 t).IsWhole := hstage0_3 (((cfgA F).slots t (3 : Fin 9)).cast nbuf0_3)
abbrev ms4 (t : Fin (cfgA F).N) : Memref sig .tc .vmem S2x8x512 .f32 := spec0_4.stage ((cfgA F).slots t (4 : Fin 9))
abbrev hs4 (t : Fin (cfgA F).N) : (ms4 t).IsWhole := hstage0_4 (((cfgA F).slots t (4 : Fin 9)).cast nbuf0_4)
abbrev ms5 (t : Fin (cfgA F).N) : Memref sig .tc .vmem S2x8x512 .f32 := spec0_5.stage ((cfgA F).slots t (5 : Fin 9))
abbrev hs5 (t : Fin (cfgA F).N) : (ms5 t).IsWhole := hstage0_5 (((cfgA F).slots t (5 : Fin 9)).cast nbuf0_5)
abbrev ms6 (t : Fin (cfgA F).N) : Memref sig .tc .vmem S2x8192x256 .bf16 := spec0_6.stage ((cfgA F).slots t (6 : Fin 9))
abbrev hs6 (t : Fin (cfgA F).N) : (ms6 t).IsWhole := hstage0_6 (((cfgA F).slots t (6 : Fin 9)).cast nbuf0_6)
abbrev ms7 (t : Fin (cfgA F).N) : Memref sig .tc .vmem S2x512x256 .bf16 := spec0_7.stage ((cfgA F).slots t (7 : Fin 9))
abbrev hs7 (t : Fin (cfgA F).N) : (ms7 t).IsWhole := hstage0_7 (((cfgA F).slots t (7 : Fin 9)).cast nbuf0_7)
abbrev ms8 (t : Fin (cfgA F).N) : Memref sig .tc .vmem S2x512x128 .bf16 := spec0_8.stage ((cfgA F).slots t (8 : Fin 9))
abbrev hs8 (t : Fin (cfgA F).N) : (ms8 t).IsWhole := hstage0_8 (((cfgA F).slots t (8 : Fin 9)).cast nbuf0_8)
abbrev VO6 : View sig .tc .vmem S2x8192x256 .bf16 := (Memref.whole cc0_stg6_0 : Memref sig .tc .vmem S2x8192x256 .bf16).view
abbrev VO7 : View sig .tc .vmem S2x512x256 .bf16 := (Memref.whole cc0_stg7_0 : Memref sig .tc .vmem S2x512x256 .bf16).view
abbrev VO8 : View sig .tc .vmem S2x512x128 .bf16 := (Memref.whole cc0_stg8_0 : Memref sig .tc .vmem S2x512x128 .bf16).view

/-- Window `w`'s block at point `t`. -/
def iblk (c : Dev nD) (w : Fin (cfgA F).W) (t : Fin (cfgA F).N) : (((cfgA F).win w).xblock (crd t)).Idx → Elt F ((cfgA F).win w).elt :=
  (((cfgA F).win w).blk t).view.read (Elt F) (V m c (Pipeline.arrRef (cfgA F).spec w))

/-- Path A at point `t`. -/
abbrev RA (c : Dev nD) (t : Fin (cfgA F).N)  (q0 : pF t) :=
  runA (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) T0 T1 (iblk m c (0 : Fin 9) t) (iblk m c (1 : Fin 9) t) (iblk m c (2 : Fin 9) t) (iblk m c (3 : Fin 9) t) (iblk m c (4 : Fin 9) t) (iblk m c (5 : Fin 9) t)  (chk t) q0 (fst t q0).1 ((c3 t).1 (fst t q0).1) ((c4 t).1 (fst t q0).1) (fst t q0).2 (fun h => ((last t).1 h).1 q0)

/-- Path B at point `t`. -/
abbrev RB (c : Dev nD) (t : Fin (cfgA F).N) (xa0 : Buf (Elt F) ((c : Thread nD τ).loc cc0_scratch0)) (xa1 : Buf (Elt F) ((c : Thread nD τ).loc cc0_scratch1)) (xa2 : Buf (Elt F) ((c : Thread nD τ).loc cc0_scratch2)) (q0 : ¬pF t) (q1 : ¬pD t) (q2 : ¬pE t) :=
  runB (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) T0 T1 (iblk m c (0 : Fin 9) t) (iblk m c (1 : Fin 9) t) (iblk m c (2 : Fin 9) t) (iblk m c (3 : Fin 9) t) (iblk m c (4 : Fin 9) t) (iblk m c (5 : Fin 9) t) xa0 xa1 xa2 (chk t) q0 q1 ((c3 t).2 q1) ((c4 t).2 q1) q2 (fun h => q1 ((last t).1 h).2.1)

/-- Path C at point `t`. -/
abbrev RC (c : Dev nD) (t : Fin (cfgA F).N) (xa0 : Buf (Elt F) ((c : Thread nD τ).loc cc0_scratch0)) (xa1 : Buf (Elt F) ((c : Thread nD τ).loc cc0_scratch1)) (xa2 : Buf (Elt F) ((c : Thread nD τ).loc cc0_scratch2)) (q0 : ¬pF t) (q1 : ¬pD t) (q2 : pE t) :=
  runC (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) T0 T1 (iblk m c (0 : Fin 9) t) (iblk m c (1 : Fin 9) t) (iblk m c (2 : Fin 9) t) (iblk m c (3 : Fin 9) t) (iblk m c (4 : Fin 9) t) (iblk m c (5 : Fin 9) t) xa0 xa1 xa2 (chk t) q0 q1 ((c3 t).2 q1) ((c4 t).2 q1) q2 (fun h => q1 ((last t).1 h).2.1)

/-- Path D at point `t`. -/
abbrev RD (c : Dev nD) (t : Fin (cfgA F).N) (xa2 : Buf (Elt F) ((c : Thread nD τ).loc cc0_scratch2)) (q0 : ¬pF t) (q1 : pD t) (q2 : ¬pE t) :=
  runD (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) T0 T1 (iblk m c (0 : Fin 9) t) (iblk m c (1 : Fin 9) t) (iblk m c (2 : Fin 9) t) (iblk m c (3 : Fin 9) t) (iblk m c (4 : Fin 9) t) (iblk m c (5 : Fin 9) t) xa2 (chk t) q0 q1 ((c3 t).1 q1) ((c4 t).1 q1) q2 (fun h => q2 ((last t).1 h).2.2)

/-- Path E at point `t`. -/
abbrev RE (c : Dev nD) (t : Fin (cfgA F).N) (xa2 : Buf (Elt F) ((c : Thread nD τ).loc cc0_scratch2)) (q0 : ¬pF t) (q1 : pD t) (q2 : pE t) :=
  runE (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) T0 T1 (iblk m c (0 : Fin 9) t) (iblk m c (1 : Fin 9) t) (iblk m c (2 : Fin 9) t) (iblk m c (3 : Fin 9) t) (iblk m c (4 : Fin 9) t) (iblk m c (5 : Fin 9) t) xa2 (chk t) q0 q1 ((c3 t).1 q1) ((c4 t).1 q1) q2 ((last t).2 ⟨q0, q1, q2⟩)

end Cert.KernelIdeal.Fl

end
-- ==== Proof.KI.Dat.lean ====
/- The trajectory of the scratch buffers and the proof data of the pipeline. -/
module

public import proofs.«01_k».proof.Proof.KI.Hyps

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-! ## The trajectory of the three scratch buffers -/

/-- The contents of the three scratch buffers. -/
abbrev St (F : FTy → Type) [FloatOps F] [Named F] (c : Dev nD) : Type :=
  Buf (Elt F) ((c : Thread nD τ).loc cc0_scratch0) × Buf (Elt F) ((c : Thread nD τ).loc cc0_scratch1) × Buf (Elt F) ((c : Thread nD τ).loc cc0_scratch2)

/-- One point: the scratches after it from the scratches before it. -/
def step (c : Dev nD) (t : Fin (cfgA F).N) (p : St F c) : St F c :=
  if q0 : pF t then ((RA m c t q0).1, (RA m c t q0).2.1, (RA m c t q0).2.2.1)
  else if q1 : pD t then
    if q2 : pE t then ((RE m c t p.2.2 q0 q1 q2).2.2.2.1, (RE m c t p.2.2 q0 q1 q2).2.2.2.2.1, (RE m c t p.2.2 q0 q1 q2).2.2.2.2.2.1)
    else ((RD m c t p.2.2 q0 q1 q2).1, (RD m c t p.2.2 q0 q1 q2).2.1, (RD m c t p.2.2 q0 q1 q2).2.2.1)
  else
    if q2 : pE t then ((RC m c t p.1 p.2.1 p.2.2 q0 q1 q2).2.2.1, (RC m c t p.1 p.2.1 p.2.2 q0 q1 q2).2.2.2.1, (RC m c t p.1 p.2.1 p.2.2 q0 q1 q2).2.2.2.2.1)
    else ((RB m c t p.1 p.2.1 p.2.2 q0 q1 q2).1, (RB m c t p.1 p.2.1 p.2.2 q0 q1 q2).2.1, (RB m c t p.1 p.2.1 p.2.2 q0 q1 q2).2.2.1)

/-- The scratches before point `n`; before the first point anything. -/
def traj (c : Dev nD) : ℕ → St F c
  | 0 => (m ((c : Thread nD τ).loc cc0_scratch0), m ((c : Thread nD τ).loc cc0_scratch1), m ((c : Thread nD τ).loc cc0_scratch2))
  | n + 1 => if h : n < (cfgA F).N then step m c ⟨n, h⟩ (traj c n) else traj c n

theorem traj_succ (c : Dev nD) (t : Fin (cfgA F).N) : traj m c (t.val + 1) = step m c t (traj m c t.val) := by
  rw [traj]; simp only [t.isLt, ↓reduceDIte, Fin.eta]

theorem step_A (c : Dev nD) (t : Fin (cfgA F).N) (p : St F c) (q0 : pF t) :
    step m c t p = ((RA m c t q0).1, (RA m c t q0).2.1, (RA m c t q0).2.2.1) := dif_pos q0
theorem step_B (c : Dev nD) (t : Fin (cfgA F).N) (p : St F c) (q0 : ¬pF t) (q1 : ¬pD t) (q2 : ¬pE t) :
    step m c t p = ((RB m c t p.1 p.2.1 p.2.2 q0 q1 q2).1, (RB m c t p.1 p.2.1 p.2.2 q0 q1 q2).2.1, (RB m c t p.1 p.2.1 p.2.2 q0 q1 q2).2.2.1) :=
  (dif_neg q0).trans ((dif_neg q1).trans (dif_neg q2))
theorem step_C (c : Dev nD) (t : Fin (cfgA F).N) (p : St F c) (q0 : ¬pF t) (q1 : ¬pD t) (q2 : pE t) :
    step m c t p = ((RC m c t p.1 p.2.1 p.2.2 q0 q1 q2).2.2.1, (RC m c t p.1 p.2.1 p.2.2 q0 q1 q2).2.2.2.1, (RC m c t p.1 p.2.1 p.2.2 q0 q1 q2).2.2.2.2.1) :=
  (dif_neg q0).trans ((dif_neg q1).trans (dif_pos q2))
theorem step_D (c : Dev nD) (t : Fin (cfgA F).N) (p : St F c) (q0 : ¬pF t) (q1 : pD t) (q2 : ¬pE t) :
    step m c t p = ((RD m c t p.2.2 q0 q1 q2).1, (RD m c t p.2.2 q0 q1 q2).2.1, (RD m c t p.2.2 q0 q1 q2).2.2.1) :=
  (dif_neg q0).trans ((dif_pos q1).trans (dif_neg q2))
theorem step_E (c : Dev nD) (t : Fin (cfgA F).N) (p : St F c) (q0 : ¬pF t) (q1 : pD t) (q2 : pE t) :
    step m c t p = ((RE m c t p.2.2 q0 q1 q2).2.2.2.1, (RE m c t p.2.2 q0 q1 q2).2.2.2.2.1, (RE m c t p.2.2 q0 q1 q2).2.2.2.2.2.1) :=
  (dif_neg q0).trans ((dif_pos q1).trans (dif_pos q2))

/-- What point `t` leaves in result 0's staging buffer (stored at a head group's last point only). -/
def aft6 (c : Dev nD) (t : Fin (cfgA F).N) (p : St F c) : S2x8192x256.Idx → Elt F .bf16 :=
  if q0 : pF t then VO6.read (Elt F) VO6.junk
  else if q1 : pD t then
    if q2 : pE t then VO6.read (Elt F) (VO6.writes (Elt F) VO6.junk (RE m c t p.2.2 q0 q1 q2).1) else VO6.read (Elt F) VO6.junk
  else VO6.read (Elt F) VO6.junk
/-- What point `t` leaves in result 1's staging buffer (stored at the last query block). -/
def aft7 (c : Dev nD) (t : Fin (cfgA F).N) (p : St F c) : S2x512x256.Idx → Elt F .bf16 :=
  if q0 : pF t then VO7.read (Elt F) VO7.junk
  else if q1 : pD t then
    if q2 : pE t then VO7.read (Elt F) (VO7.writes (Elt F) VO7.junk (RE m c t p.2.2 q0 q1 q2).2.1) else VO7.read (Elt F) VO7.junk
  else if q2 : pE t then VO7.read (Elt F) (VO7.writes (Elt F) VO7.junk (RC m c t p.1 p.2.1 p.2.2 q0 q1 q2).1) else VO7.read (Elt F) VO7.junk
/-- What point `t` leaves in result 2's staging buffer. -/
def aft8 (c : Dev nD) (t : Fin (cfgA F).N) (p : St F c) : S2x512x128.Idx → Elt F .bf16 :=
  if q0 : pF t then VO8.read (Elt F) VO8.junk
  else if q1 : pD t then
    if q2 : pE t then VO8.read (Elt F) (VO8.writes (Elt F) VO8.junk (RE m c t p.2.2 q0 q1 q2).2.2.1) else VO8.read (Elt F) VO8.junk
  else if q2 : pE t then VO8.read (Elt F) (VO8.writes (Elt F) VO8.junk (RC m c t p.1 p.2.1 p.2.2 q0 q1 q2).2.1) else VO8.read (Elt F) VO8.junk

theorem aft6_E (c : Dev nD) (t : Fin (cfgA F).N) (p : St F c) (q0 : ¬pF t) (q1 : pD t) (q2 : pE t) :
    aft6 m c t p = VO6.read (Elt F) (VO6.writes (Elt F) VO6.junk (RE m c t p.2.2 q0 q1 q2).1) := (dif_neg q0).trans ((dif_pos q1).trans (dif_pos q2))
theorem aft7_E (c : Dev nD) (t : Fin (cfgA F).N) (p : St F c) (q0 : ¬pF t) (q1 : pD t) (q2 : pE t) :
    aft7 m c t p = VO7.read (Elt F) (VO7.writes (Elt F) VO7.junk (RE m c t p.2.2 q0 q1 q2).2.1) := (dif_neg q0).trans ((dif_pos q1).trans (dif_pos q2))
theorem aft8_E (c : Dev nD) (t : Fin (cfgA F).N) (p : St F c) (q0 : ¬pF t) (q1 : pD t) (q2 : pE t) :
    aft8 m c t p = VO8.read (Elt F) (VO8.writes (Elt F) VO8.junk (RE m c t p.2.2 q0 q1 q2).2.2.1) := (dif_neg q0).trans ((dif_pos q1).trans (dif_pos q2))
theorem aft7_C (c : Dev nD) (t : Fin (cfgA F).N) (p : St F c) (q0 : ¬pF t) (q1 : ¬pD t) (q2 : pE t) :
    aft7 m c t p = VO7.read (Elt F) (VO7.writes (Elt F) VO7.junk (RC m c t p.1 p.2.1 p.2.2 q0 q1 q2).1) := (dif_neg q0).trans ((dif_neg q1).trans (dif_pos q2))
theorem aft8_C (c : Dev nD) (t : Fin (cfgA F).N) (p : St F c) (q0 : ¬pF t) (q1 : ¬pD t) (q2 : pE t) :
    aft8 m c t p = VO8.read (Elt F) (VO8.writes (Elt F) VO8.junk (RC m c t p.1 p.2.1 p.2.2 q0 q1 q2).2.1) := (dif_neg q0).trans ((dif_neg q1).trans (dif_pos q2))

/-- The invariant before point `n`: the scratches as the trajectory says (before the first point anything), the tables, the generator's register. -/
def Phi (c : Dev nD) (n : ℕ) : sProp 𝕄 :=
  iprop((∃ a0 a1 a2, ⌜n ≠ 0 → traj m c n = (a0, a1, a2)⌝ ∗ (sc0.view.loc (c : Thread nD τ) ↦{fullShare} a0)
      ∗ (sc1.view.loc (c : Thread nD τ) ↦{fullShare} a1) ∗ (sc2.view.loc (c : Thread nD τ) ↦{fullShare} a2))
    ∗ (tb0.view.loc (c : Thread nD τ) ↦{fullShare.right} T0) ∗ (tb1.view.loc (c : Thread nD τ) ↦{fullShare.right} T1) ∗ ∃ r, prngReg c r)

/-- The proof data of the pipeline on core `c`. -/
def dats (_ : Fin 1) (c : Dev nD) : Dat τ (Elt F) Unit ℕ (UR sig nD τ) ℕ (cfgA F) c where
  A w := V m c (Pipeline.arrRef (cfgA F).spec w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => aft6 m c t (traj m c t.val)
    | ⟨7, _⟩ => aft7 m c t (traj m c t.val)
    | ⟨8, _⟩ => aft8 m c t (traj m c t.val)
  Φ t := Phi m c t.val
  q _ := fullShare
  owed _ := 0

theorem after_0 (c : Dev nD) (t : Fin (cfgA F).N) : (dats m 0 c).after (0 : Fin 9) t = iblk m c (0 : Fin 9) t := rfl
theorem after_1 (c : Dev nD) (t : Fin (cfgA F).N) : (dats m 0 c).after (1 : Fin 9) t = iblk m c (1 : Fin 9) t := rfl
theorem after_2 (c : Dev nD) (t : Fin (cfgA F).N) : (dats m 0 c).after (2 : Fin 9) t = iblk m c (2 : Fin 9) t := rfl
theorem after_3 (c : Dev nD) (t : Fin (cfgA F).N) : (dats m 0 c).after (3 : Fin 9) t = iblk m c (3 : Fin 9) t := rfl
theorem after_4 (c : Dev nD) (t : Fin (cfgA F).N) : (dats m 0 c).after (4 : Fin 9) t = iblk m c (4 : Fin 9) t := rfl
theorem after_5 (c : Dev nD) (t : Fin (cfgA F).N) : (dats m 0 c).after (5 : Fin 9) t = iblk m c (5 : Fin 9) t := rfl
theorem after_6 (c : Dev nD) (t : Fin (cfgA F).N) : (dats m 0 c).after (6 : Fin 9) t = aft6 m c t (traj m c t.val) := rfl
theorem after_7 (c : Dev nD) (t : Fin (cfgA F).N) : (dats m 0 c).after (7 : Fin 9) t = aft7 m c t (traj m c t.val) := rfl
theorem after_8 (c : Dev nD) (t : Fin (cfgA F).N) : (dats m 0 c).after (8 : Fin 9) t = aft8 m c t (traj m c t.val) := rfl
theorem before_0 (c : Dev nD) (t : Fin (cfgA F).N) (d) : (dats m 0 c).before (0 : Fin 9) t d = iblk m c (0 : Fin 9) t :=
  ((dats m 0 c).before_in_eq_fetched (0 : Fin 9) rfl (fun _ => rfl) (fun _ _ _ => rfl) (fun t => by rw [after_0]; unfold Dat.blockOf iblk; rfl) t d).trans
    (by unfold Dat.fetched Dat.blockOf iblk; rfl)
theorem before_1 (c : Dev nD) (t : Fin (cfgA F).N) (d) : (dats m 0 c).before (1 : Fin 9) t d = iblk m c (1 : Fin 9) t :=
  ((dats m 0 c).before_in_eq_fetched (1 : Fin 9) rfl (fun _ => rfl) (fun _ _ _ => rfl) (fun t => by rw [after_1]; unfold Dat.blockOf iblk; rfl) t d).trans
    (by unfold Dat.fetched Dat.blockOf iblk; rfl)
theorem before_2 (c : Dev nD) (t : Fin (cfgA F).N) (d) : (dats m 0 c).before (2 : Fin 9) t d = iblk m c (2 : Fin 9) t :=
  ((dats m 0 c).before_in_eq_fetched (2 : Fin 9) rfl (fun _ => rfl) (fun _ _ _ => rfl) (fun t => by rw [after_2]; unfold Dat.blockOf iblk; rfl) t d).trans
    (by unfold Dat.fetched Dat.blockOf iblk; rfl)
theorem before_3 (c : Dev nD) (t : Fin (cfgA F).N) (d) : (dats m 0 c).before (3 : Fin 9) t d = iblk m c (3 : Fin 9) t :=
  ((dats m 0 c).before_in_eq_fetched (3 : Fin 9) rfl (fun _ => rfl) (fun _ _ _ => rfl) (fun t => by rw [after_3]; unfold Dat.blockOf iblk; rfl) t d).trans
    (by unfold Dat.fetched Dat.blockOf iblk; rfl)
theorem before_4 (c : Dev nD) (t : Fin (cfgA F).N) (d) : (dats m 0 c).before (4 : Fin 9) t d = iblk m c (4 : Fin 9) t :=
  ((dats m 0 c).before_in_eq_fetched (4 : Fin 9) rfl (fun _ => rfl) (fun _ _ _ => rfl) (fun t => by rw [after_4]; unfold Dat.blockOf iblk; rfl) t d).trans
    (by unfold Dat.fetched Dat.blockOf iblk; rfl)
theorem before_5 (c : Dev nD) (t : Fin (cfgA F).N) (d) : (dats m 0 c).before (5 : Fin 9) t d = iblk m c (5 : Fin 9) t :=
  ((dats m 0 c).before_in_eq_fetched (5 : Fin 9) rfl (fun _ => rfl) (fun _ _ _ => rfl) (fun t => by rw [after_5]; unfold Dat.blockOf iblk; rfl) t d).trans
    (by unfold Dat.fetched Dat.blockOf iblk; rfl)
theorem before_6 (c : Dev nD) (t : Fin (cfgA F).N) (d) : (dats m 0 c).before (6 : Fin 9) t d = d := by
  rw [(dats m 0 c).before_out_traj (6 : Fin 9) rfl (fun _ _ => rfl) (fun t _ _ hf => absurd (fr6 (F := F) t.val (Nat.le_of_lt t.isLt)) (by rw [hf]; decide)) t.val t rfl d,
    if_pos (fr6 (F := F) t.val (Nat.le_of_lt t.isLt))]
theorem before_7 (c : Dev nD) (t : Fin (cfgA F).N) (d) : (dats m 0 c).before (7 : Fin 9) t d = d := by
  rw [(dats m 0 c).before_out_traj (7 : Fin 9) rfl (fun _ _ => rfl) (fun t _ _ hf => absurd (fr7 (F := F) t.val (Nat.le_of_lt t.isLt)) (by rw [hf]; decide)) t.val t rfl d,
    if_pos (fr7 (F := F) t.val (Nat.le_of_lt t.isLt))]
theorem before_8 (c : Dev nD) (t : Fin (cfgA F).N) (d) : (dats m 0 c).before (8 : Fin 9) t d = d := by
  rw [(dats m 0 c).before_out_traj (8 : Fin 9) rfl (fun _ _ => rfl) (fun t _ _ hf => absurd (fr8 (F := F) t.val (Nat.le_of_lt t.isLt)) (by rw [hf]; decide)) t.val t rfl d,
    if_pos (fr8 (F := F) t.val (Nat.le_of_lt t.isLt))]

end Cert.KernelIdeal.Fl

end
-- ==== Proof.KI.Sound.lean ====
/- The body obligation at a point, as a proposition. -/
module

public import proofs.«01_k».proof.Proof.KI.Dat

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-- The body at point `t` on its staging memrefs, as the pipeline calls it. -/
abbrev bodyAt (t : Fin (cfgA F).N) : Prog (TpuEff nD τ sig (Elt F) Λ₀ .tc) PUnit :=
  cc0_flash_bwd (crd t) tb0 (Memref.isWhole_whole _) tb1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _)

/-- The body obligation at point `t`, its windows written out. -/
def Sound (c : Dev nD) (t : Fin (cfgA F).N) : Prop :=
    iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t))

theorem dats_Phi (c : Dev nD) (t : Fin ((cfgA F).N + 1)) : (dats m 0 c).Φ t = Phi m c t.val := rfl
theorem dats_owed (c : Dev nD) (t : Fin ((cfgA F).N + 1)) : (dats m 0 c).owed t = 0 := rfl
theorem dats_rec (c : Dev nD) (t : Fin ((cfgA F).N + 1)) : (dats m 0 c).recorded t = Set.univ := rfl
theorem Phi_succ (c : Dev nD) (t : Fin (cfgA F).N) : (dats m 0 c).Φ t.succ = Phi m c (t.val + 1) := by rw [dats_Phi, Fin.val_succ]
theorem Phi_cast (c : Dev nD) (t : Fin (cfgA F).N) : (dats m 0 c).Φ t.castSucc = Phi m c t.val := by rw [dats_Phi, Fin.val_castSucc]
theorem owes_succ (c : Dev nD) (t : Fin (cfgA F).N) : (dats m 0 c).owesAt () t.succ = (dats m 0 c).owesAt () t.castSucc := by
  unfold Dat.owesAt Dat.bound; simp only [dats_owed, dats_rec m c t.succ, dats_rec m c t.castSucc]

end Cert.KernelIdeal.Fl

end
-- ==== Proof.KI.Cov.lean ====
/- The stored pieces cover the results' blocks. -/
module

public import proofs.«01_k».proof.Proof.KI.Hyps

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-! ## What the stored pieces cover -/
/-- Path C writes every element of result 1's block. -/
theorem coverC7 (c : Dev nD) (t : Fin (cfgA F).N) (xa0 : Buf (Elt F) ((c : Thread nD τ).loc cc0_scratch0)) (xa1 : Buf (Elt F) ((c : Thread nD τ).loc cc0_scratch1)) (xa2 : Buf (Elt F) ((c : Thread nD τ).loc cc0_scratch2)) (q0 : ¬pF t) (q1 : ¬pD t) (q2 : pE t) (y : S2x512x256.Idx) :
    ∃ p ∈ (RC m c t xa0 xa1 xa2 q0 q1 q2).1, y ∈ p.1.set :=
  View.cover_of_tiledL ((RC m c t xa0 xa1 xa2 q0 q1 q2).1) S2x512x256.size (by sl_kernel_rfl) y
/-- Path C writes every element of result 2's block. -/
theorem coverC8 (c : Dev nD) (t : Fin (cfgA F).N) (xa0 : Buf (Elt F) ((c : Thread nD τ).loc cc0_scratch0)) (xa1 : Buf (Elt F) ((c : Thread nD τ).loc cc0_scratch1)) (xa2 : Buf (Elt F) ((c : Thread nD τ).loc cc0_scratch2)) (q0 : ¬pF t) (q1 : ¬pD t) (q2 : pE t) (y : S2x512x128.Idx) :
    ∃ p ∈ (RC m c t xa0 xa1 xa2 q0 q1 q2).2.1, y ∈ p.1.set :=
  View.cover_of_tiledL ((RC m c t xa0 xa1 xa2 q0 q1 q2).2.1) S2x512x128.size (by sl_kernel_rfl) y
/-- Path E writes every element of result 0's block. -/
theorem coverE6 (c : Dev nD) (t : Fin (cfgA F).N) (xa2 : Buf (Elt F) ((c : Thread nD τ).loc cc0_scratch2)) (q0 : ¬pF t) (q1 : pD t) (q2 : pE t) (y : S2x8192x256.Idx) :
    ∃ p ∈ (RE m c t xa2 q0 q1 q2).1, y ∈ p.1.set :=
  View.cover_of_tiledL ((RE m c t xa2 q0 q1 q2).1) S2x8192x256.size (by sl_kernel_rfl) y
/-- Path E writes every element of result 1's block. -/
theorem coverE7 (c : Dev nD) (t : Fin (cfgA F).N) (xa2 : Buf (Elt F) ((c : Thread nD τ).loc cc0_scratch2)) (q0 : ¬pF t) (q1 : pD t) (q2 : pE t) (y : S2x512x256.Idx) :
    ∃ p ∈ (RE m c t xa2 q0 q1 q2).2.1, y ∈ p.1.set :=
  View.cover_of_tiledL ((RE m c t xa2 q0 q1 q2).2.1) S2x512x256.size (by sl_kernel_rfl) y
/-- Path E writes every element of result 2's block. -/
theorem coverE8 (c : Dev nD) (t : Fin (cfgA F).N) (xa2 : Buf (Elt F) ((c : Thread nD τ).loc cc0_scratch2)) (q0 : ¬pF t) (q1 : pD t) (q2 : pE t) (y : S2x512x128.Idx) :
    ∃ p ∈ (RE m c t xa2 q0 q1 q2).2.2.1, y ∈ p.1.set :=
  View.cover_of_tiledL ((RE m c t xa2 q0 q1 q2).2.2.1) S2x512x128.size (by sl_kernel_rfl) y

end Cert.KernelIdeal.Fl

end
-- ==== Proof.KI.BodyA.lean ====
/- The body obligation on path A. -/
module

public import proofs.«01_k».proof.Proof.KI.Sound
public import proofs.«01_k».proof.Proof.KI.Cov

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
theorem bodyA (c : Dev nD) (t : Fin (cfgA F).N) (q0 : pF t) : Sound m c t := by
  unfold Sound
  have q6 : ¬pL t := (fun h => ((last t).1 h).1 q0)
  have q5 : ¬pE t := (fst t q0).2
  have f6 : ((cfgA F).win (6 : Fin 9)).flush t = false := by rw [fl6 t, decide_eq_false q6]
  have i6 : (cfgA F).idle (6 : Fin 9) ((cfgA F).grid.coords t) = true := by rw [show (cfgA F).idle (6 : Fin 9) ((cfgA F).grid.coords t) = _ from id6 t, decide_eq_false q6]; rfl
  have f7 : ((cfgA F).win (7 : Fin 9)).flush t = false := by rw [fl7 t, decide_eq_false q5]
  have i7 : (cfgA F).idle (7 : Fin 9) ((cfgA F).grid.coords t) = true := by rw [show (cfgA F).idle (7 : Fin 9) ((cfgA F).grid.coords t) = _ from id7 t, decide_eq_false q5]; rfl
  have f8 : ((cfgA F).win (8 : Fin 9)).flush t = false := by rw [fl8 t, decide_eq_false q5]
  have i8 : (cfgA F).idle (8 : Fin 9) ((cfgA F).grid.coords t) = true := by rw [show (cfgA F).idle (8 : Fin 9) ((cfgA F).grid.coords t) = _ from id8 t, decide_eq_false q5]; rfl
  rw [bigSep_W0]
  rewrite [i6, i7]
  try rewrite [i8]
  simp only [before_0, before_1, before_2, before_3, before_4, before_5, before_6, before_7, before_8, after_0, after_1, after_2, after_3, after_4, after_5, after_6, after_7, after_8, f6, f7, f8]
  rewrite [Phi_succ, Phi_cast, owes_succ]
  unfold Phi
  iintro ⟨⟨⟨%a0, %a1, %a2, %ha, HS0, HS1, HS2⟩, HT0, HT1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hs := (traj_succ m c t).trans (step_A m c t _ q0)
  iapply ((RA m c t  q0).2.2.2 d6 d7 d8 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, HT0, HT1, H6, H7, H8, HS0, HS1, HS2⟩
  isplitl [HS0 HS1 HS2 HT0 HT1 Hr]
  · isplitl [HS0 HS1 HS2]
    · iexists _; iexists _; iexists _; isplitr; swap
      · isplitl [HS0]; · iexact HS0
        isplitl [HS1]; · iexact HS1
        iexact HS2
      · ipureintro; intro _; exact hs
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · iexists d6; iexact H6
  isplitl [H7]
  · iexists d7; iexact H7
  iexists d8; iexact H8

end Cert.KernelIdeal.Fl

end
-- ==== Proof.KI.BodyB.lean ====
/- The body obligation on path B. -/
module

public import proofs.«01_k».proof.Proof.KI.Sound
public import proofs.«01_k».proof.Proof.KI.Cov

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
theorem bodyB (c : Dev nD) (t : Fin (cfgA F).N) (q0 : ¬pF t) (q1 : ¬pD t) (q2 : ¬pE t) : Sound m c t := by
  unfold Sound
  have q6 : ¬pL t := (fun h => q1 ((last t).1 h).2.1)
  have q5 : ¬pE t := q2
  have f6 : ((cfgA F).win (6 : Fin 9)).flush t = false := by rw [fl6 t, decide_eq_false q6]
  have i6 : (cfgA F).idle (6 : Fin 9) ((cfgA F).grid.coords t) = true := by rw [show (cfgA F).idle (6 : Fin 9) ((cfgA F).grid.coords t) = _ from id6 t, decide_eq_false q6]; rfl
  have f7 : ((cfgA F).win (7 : Fin 9)).flush t = false := by rw [fl7 t, decide_eq_false q5]
  have i7 : (cfgA F).idle (7 : Fin 9) ((cfgA F).grid.coords t) = true := by rw [show (cfgA F).idle (7 : Fin 9) ((cfgA F).grid.coords t) = _ from id7 t, decide_eq_false q5]; rfl
  have f8 : ((cfgA F).win (8 : Fin 9)).flush t = false := by rw [fl8 t, decide_eq_false q5]
  have i8 : (cfgA F).idle (8 : Fin 9) ((cfgA F).grid.coords t) = true := by rw [show (cfgA F).idle (8 : Fin 9) ((cfgA F).grid.coords t) = _ from id8 t, decide_eq_false q5]; rfl
  rw [bigSep_W0]
  rewrite [i6, i7]
  try rewrite [i8]
  simp only [before_0, before_1, before_2, before_3, before_4, before_5, before_6, before_7, before_8, after_0, after_1, after_2, after_3, after_4, after_5, after_6, after_7, after_8, f6, f7, f8]
  rewrite [Phi_succ, Phi_cast, owes_succ]
  unfold Phi
  iintro ⟨⟨⟨%a0, %a1, %a2, %ha, HS0, HS1, HS2⟩, HT0, HT1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hz : t.val ≠ 0 := fun h => q0 (zero t h)
  have ha' := ha hz
  have hs := (traj_succ m c t).trans ((congrArg (step m c t) ha').trans (step_B m c t (a0, a1, a2) q0 q1 q2))
  iapply ((RB m c t a0 a1 a2 q0 q1 q2).2.2.2 d6 d7 d8 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, HT0, HT1, H6, H7, H8, HS0, HS1, HS2⟩
  isplitl [HS0 HS1 HS2 HT0 HT1 Hr]
  · isplitl [HS0 HS1 HS2]
    · iexists _; iexists _; iexists _; isplitr; swap
      · isplitl [HS0]; · iexact HS0
        isplitl [HS1]; · iexact HS1
        iexact HS2
      · ipureintro; intro _; exact hs
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · iexists d6; iexact H6
  isplitl [H7]
  · iexists d7; iexact H7
  iexists d8; iexact H8

end Cert.KernelIdeal.Fl

end
-- ==== Proof.KI.BodyC.lean ====
/- The body obligation on path C. -/
module

public import proofs.«01_k».proof.Proof.KI.Sound
public import proofs.«01_k».proof.Proof.KI.Cov

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
theorem bodyC (c : Dev nD) (t : Fin (cfgA F).N) (q0 : ¬pF t) (q1 : ¬pD t) (q2 : pE t) : Sound m c t := by
  unfold Sound
  have q6 : ¬pL t := (fun h => q1 ((last t).1 h).2.1)
  have q5 : pE t := q2
  have f6 : ((cfgA F).win (6 : Fin 9)).flush t = false := by rw [fl6 t, decide_eq_false q6]
  have i6 : (cfgA F).idle (6 : Fin 9) ((cfgA F).grid.coords t) = true := by rw [show (cfgA F).idle (6 : Fin 9) ((cfgA F).grid.coords t) = _ from id6 t, decide_eq_false q6]; rfl
  have f7 : ((cfgA F).win (7 : Fin 9)).flush t = true := by rw [fl7 t, decide_eq_true q5]
  have i7 : (cfgA F).idle (7 : Fin 9) ((cfgA F).grid.coords t) = false := by rw [show (cfgA F).idle (7 : Fin 9) ((cfgA F).grid.coords t) = _ from id7 t, decide_eq_true q5]; rfl
  have f8 : ((cfgA F).win (8 : Fin 9)).flush t = true := by rw [fl8 t, decide_eq_true q5]
  have i8 : (cfgA F).idle (8 : Fin 9) ((cfgA F).grid.coords t) = false := by rw [show (cfgA F).idle (8 : Fin 9) ((cfgA F).grid.coords t) = _ from id8 t, decide_eq_true q5]; rfl
  rw [bigSep_W0]
  rewrite [i6, i7]
  try rewrite [i8]
  simp only [before_0, before_1, before_2, before_3, before_4, before_5, before_6, before_7, before_8, after_0, after_1, after_2, after_3, after_4, after_5, after_6, after_7, after_8, f6, f7, f8]
  rewrite [Phi_succ, Phi_cast, owes_succ]
  unfold Phi
  iintro ⟨⟨⟨%a0, %a1, %a2, %ha, HS0, HS1, HS2⟩, HT0, HT1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hz : t.val ≠ 0 := fun h => q0 (zero t h)
  have ha' := ha hz
  have hs := (traj_succ m c t).trans ((congrArg (step m c t) ha').trans (step_C m c t (a0, a1, a2) q0 q1 q2))
  have hw7 := (congrArg (aft7 m c t) ha').trans (aft7_C m c t (a0, a1, a2) q0 q1 q2)
  rewrite [hw7]
  have hw8 := (congrArg (aft8 m c t) ha').trans (aft8_C m c t (a0, a1, a2) q0 q1 q2)
  rewrite [hw8]
  iapply ((RC m c t a0 a1 a2 q0 q1 q2).2.2.2.2.2 d6 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, HT0, HT1, H6, ⟨%g7, H7⟩, ⟨%g8, H8⟩, HS0, HS1, HS2⟩
  isplitl [HS0 HS1 HS2 HT0 HT1 Hr]
  · isplitl [HS0 HS1 HS2]
    · iexists _; iexists _; iexists _; isplitr; swap
      · isplitl [HS0]; · iexact HS0
        isplitl [HS1]; · iexact HS1
        iexact HS2
      · ipureintro; intro _; exact hs
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · iexists d6; iexact H6
  isplitl [H7]
  · unfold owns; iexists _; isplitr; swap
    · iexact H7
    · ipureintro; exact View.read_writes_of_cover _ _ _ _ _ (coverC7 m c t a0 a1 a2 q0 q1 q2)
  unfold owns; iexists _; isplitr; swap
  · iexact H8
  · ipureintro; exact View.read_writes_of_cover _ _ _ _ _ (coverC8 m c t a0 a1 a2 q0 q1 q2)

end Cert.KernelIdeal.Fl

end
-- ==== Proof.KI.BodyD.lean ====
/- The body obligation on path D. -/
module

public import proofs.«01_k».proof.Proof.KI.Sound
public import proofs.«01_k».proof.Proof.KI.Cov

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
theorem bodyD (c : Dev nD) (t : Fin (cfgA F).N) (q0 : ¬pF t) (q1 : pD t) (q2 : ¬pE t) : Sound m c t := by
  unfold Sound
  have q6 : ¬pL t := (fun h => q2 ((last t).1 h).2.2)
  have q5 : ¬pE t := q2
  have f6 : ((cfgA F).win (6 : Fin 9)).flush t = false := by rw [fl6 t, decide_eq_false q6]
  have i6 : (cfgA F).idle (6 : Fin 9) ((cfgA F).grid.coords t) = true := by rw [show (cfgA F).idle (6 : Fin 9) ((cfgA F).grid.coords t) = _ from id6 t, decide_eq_false q6]; rfl
  have f7 : ((cfgA F).win (7 : Fin 9)).flush t = false := by rw [fl7 t, decide_eq_false q5]
  have i7 : (cfgA F).idle (7 : Fin 9) ((cfgA F).grid.coords t) = true := by rw [show (cfgA F).idle (7 : Fin 9) ((cfgA F).grid.coords t) = _ from id7 t, decide_eq_false q5]; rfl
  have f8 : ((cfgA F).win (8 : Fin 9)).flush t = false := by rw [fl8 t, decide_eq_false q5]
  have i8 : (cfgA F).idle (8 : Fin 9) ((cfgA F).grid.coords t) = true := by rw [show (cfgA F).idle (8 : Fin 9) ((cfgA F).grid.coords t) = _ from id8 t, decide_eq_false q5]; rfl
  rw [bigSep_W0]
  rewrite [i6, i7]
  try rewrite [i8]
  simp only [before_0, before_1, before_2, before_3, before_4, before_5, before_6, before_7, before_8, after_0, after_1, after_2, after_3, after_4, after_5, after_6, after_7, after_8, f6, f7, f8]
  rewrite [Phi_succ, Phi_cast, owes_succ]
  unfold Phi
  iintro ⟨⟨⟨%a0, %a1, %a2, %ha, HS0, HS1, HS2⟩, HT0, HT1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hz : t.val ≠ 0 := fun h => q0 (zero t h)
  have ha' := ha hz
  have hs := (traj_succ m c t).trans ((congrArg (step m c t) ha').trans (step_D m c t (a0, a1, a2) q0 q1 q2))
  iapply ((RD m c t a2 q0 q1 q2).2.2.2 d6 d7 d8 a0 a1 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, HT0, HT1, H6, H7, H8, HS0, HS1, HS2⟩
  isplitl [HS0 HS1 HS2 HT0 HT1 Hr]
  · isplitl [HS0 HS1 HS2]
    · iexists _; iexists _; iexists _; isplitr; swap
      · isplitl [HS0]; · iexact HS0
        isplitl [HS1]; · iexact HS1
        iexact HS2
      · ipureintro; intro _; exact hs
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · iexists d6; iexact H6
  isplitl [H7]
  · iexists d7; iexact H7
  iexists d8; iexact H8

end Cert.KernelIdeal.Fl

end
-- ==== Proof.KI.BodyE.lean ====
/- The body obligation on path E. -/
module

public import proofs.«01_k».proof.Proof.KI.Sound
public import proofs.«01_k».proof.Proof.KI.Cov

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 8000000 in
theorem bodyE (c : Dev nD) (t : Fin (cfgA F).N) (q0 : ¬pF t) (q1 : pD t) (q2 : pE t) : Sound m c t := by
  unfold Sound
  have q6 : pL t := ((last t).2 ⟨q0, q1, q2⟩)
  have q5 : pE t := q2
  have f6 : ((cfgA F).win (6 : Fin 9)).flush t = true := by rw [fl6 t, decide_eq_true q6]
  have i6 : (cfgA F).idle (6 : Fin 9) ((cfgA F).grid.coords t) = false := by rw [show (cfgA F).idle (6 : Fin 9) ((cfgA F).grid.coords t) = _ from id6 t, decide_eq_true q6]; rfl
  have f7 : ((cfgA F).win (7 : Fin 9)).flush t = true := by rw [fl7 t, decide_eq_true q5]
  have i7 : (cfgA F).idle (7 : Fin 9) ((cfgA F).grid.coords t) = false := by rw [show (cfgA F).idle (7 : Fin 9) ((cfgA F).grid.coords t) = _ from id7 t, decide_eq_true q5]; rfl
  have f8 : ((cfgA F).win (8 : Fin 9)).flush t = true := by rw [fl8 t, decide_eq_true q5]
  have i8 : (cfgA F).idle (8 : Fin 9) ((cfgA F).grid.coords t) = false := by rw [show (cfgA F).idle (8 : Fin 9) ((cfgA F).grid.coords t) = _ from id8 t, decide_eq_true q5]; rfl
  rw [bigSep_W0]
  rewrite [i6, i7]
  try rewrite [i8]
  simp only [before_0, before_1, before_2, before_3, before_4, before_5, before_6, before_7, before_8, after_0, after_1, after_2, after_3, after_4, after_5, after_6, after_7, after_8, f6, f7, f8]
  rewrite [Phi_succ, Phi_cast, owes_succ]
  unfold Phi
  iintro ⟨⟨⟨%a0, %a1, %a2, %ha, HS0, HS1, HS2⟩, HT0, HT1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hz : t.val ≠ 0 := fun h => q0 (zero t h)
  have ha' := ha hz
  have hs := (traj_succ m c t).trans ((congrArg (step m c t) ha').trans (step_E m c t (a0, a1, a2) q0 q1 q2))
  have hw6 := (congrArg (aft6 m c t) ha').trans (aft6_E m c t (a0, a1, a2) q0 q1 q2)
  rewrite [hw6]
  have hw7 := (congrArg (aft7 m c t) ha').trans (aft7_E m c t (a0, a1, a2) q0 q1 q2)
  rewrite [hw7]
  have hw8 := (congrArg (aft8 m c t) ha').trans (aft8_E m c t (a0, a1, a2) q0 q1 q2)
  rewrite [hw8]
  iapply ((RE m c t a2 q0 q1 q2).2.2.2.2.2.2  a0 a1 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, HT0, HT1, ⟨%g6, H6⟩, ⟨%g7, H7⟩, ⟨%g8, H8⟩, HS0, HS1, HS2⟩
  isplitl [HS0 HS1 HS2 HT0 HT1 Hr]
  · isplitl [HS0 HS1 HS2]
    · iexists _; iexists _; iexists _; isplitr; swap
      · isplitl [HS0]; · iexact HS0
        isplitl [HS1]; · iexact HS1
        iexact HS2
      · ipureintro; intro _; exact hs
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · unfold owns; iexists _; isplitr; swap
    · iexact H6
    · ipureintro; exact View.read_writes_of_cover _ _ _ _ _ (coverE6 m c t a2 q0 q1 q2)
  isplitl [H7]
  · unfold owns; iexists _; isplitr; swap
    · iexact H7
    · ipureintro; exact View.read_writes_of_cover _ _ _ _ _ (coverE7 m c t a2 q0 q1 q2)
  unfold owns; iexists _; isplitr; swap
  · iexact H8
  · ipureintro; exact View.read_writes_of_cover _ _ _ _ _ (coverE8 m c t a2 q0 q1 q2)

end Cert.KernelIdeal.Fl

end
-- ==== Proof.KI.Launch.lean ====
/- The launch: every execution terminates, and what it leaves. -/
module

public import proofs.«01_k».proof.Proof.KI.BodyA
public import proofs.«01_k».proof.Proof.KI.BodyB
public import proofs.«01_k».proof.Proof.KI.BodyC
public import proofs.«01_k».proof.Proof.KI.BodyD
public import proofs.«01_k».proof.Proof.KI.BodyE
public import Idealize.ShloMosaic.Lib.StableHlo.RunRead

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

open StableHlo in
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The host lines' contents at a buffer, spelt at the device. -/
theorem V_eq (c : Dev nD) (b : Ref sig .tc) : V m c b = StableHlo.after hostOps0 (fun b => m (c, b)) (Proc.devRef .tc b) := rfl
theorem V_tab0 (c : Dev nD) : V m c main_c = T0 := by
  rw [V_eq]; after_reads_simp; rfl
theorem V_tab1 (c : Dev nD) : V m c main_c_0 = T1 := by
  rw [V_eq]; after_reads_simp; rfl
theorem V_arg0 (c : Dev nD) : V m c main_arg0 = m ((c : Thread nD τ).loc main_arg0) := by
  rw [V_eq]; after_reads_simp
theorem V_arg1 (c : Dev nD) : V m c main_arg1 = m ((c : Thread nD τ).loc main_arg1) := by
  rw [V_eq]; after_reads_simp
theorem V_arg2 (c : Dev nD) : V m c main_arg2 = m ((c : Thread nD τ).loc main_arg2) := by
  rw [V_eq]; after_reads_simp
theorem V_arg3 (c : Dev nD) : V m c main_arg3 = m ((c : Thread nD τ).loc main_arg3) := by
  rw [V_eq]; after_reads_simp
theorem V_arg4 (c : Dev nD) : V m c main_arg4 = m ((c : Thread nD τ).loc main_arg4) := by
  rw [V_eq]; after_reads_simp
theorem V_arg5 (c : Dev nD) : V m c main_arg5 = m ((c : Thread nD τ).loc main_arg5) := by
  rw [V_eq]; after_reads_simp

theorem V_pre (c : Dev nD) : ∀ k, V m c (pre0.ref k) = (pfN (F := F)) k := fun
  | ⟨0, _⟩ => V_tab0 m c | ⟨1, _⟩ => V_tab1 m c | ⟨_ + 2, h⟩ => absurd h (by simp)

theorem body_obligation (c : Dev nD) : BodyObligation (dats m 0 c) (defs₀ (F := F)) Variants.none () Set.univ := fun t => by
  rw [bigSep_W0]
  by_cases q0 : pF t
  · exact bodyA m c t q0
  · by_cases q1 : pD t <;> by_cases q2 : pE t
    · exact bodyE m c t q0 q1 q2
    · exact bodyD m c t q0 q1 q2
    · exact bodyC m c t q0 q1 q2
    · exact bodyB m c t q0 q1 q2

theorem tables_split (c : Dev nD) :
    (Pipeline.ΦT pre0 (pfN (F := F)) c : sProp 𝕄) = iprop((tb0.view.loc (c : Thread nD τ) ↦{fullShare.right} T0) ∗ (tb1.view.loc (c : Thread nD τ) ↦{fullShare.right} T1)) := by
  unfold Pipeline.ΦT Pipeline.prefHeld
  rw [show (Finset.univ : Finset (Fin pre0.K)) = insert (0 : Fin 2) {1} from by decide, bigSep_insert (by decide), bigSep_singleton]; rfl

theorem Phi_in (c : Dev nD) : iprop(Pipeline.ΦA spec0 c ∗ Pipeline.ΦT pre0 (pfN (F := F)) c) ⊢ (Phi m c 0 : sProp 𝕄) := by
  rw [tables_split]; unfold Pipeline.ΦA; rw [scopedRest0_eq]; unfold Phi
  iintro ⟨⟨⟨⟨%a0, H0⟩, ⟨%a1, H1⟩, ⟨%a2, H2⟩⟩, Hr⟩, HT0, HT1⟩
  isplitl [H0 H1 H2]
  · iexists a0; iexists a1; iexists a2; isplitr; swap
    · isplitl [H0]; · iexact H0
      isplitl [H1]; · iexact H1
      iexact H2
    · ipureintro; intro h; exact absurd rfl h
  isplitl [HT0]; · iexact HT0
  isplitl [HT1]; · iexact HT1
  iexact Hr

theorem Phi_out (c : Dev nD) (n : ℕ) : (Phi m c n : sProp 𝕄) ⊢ Pipeline.ΦA spec0 c := by
  unfold Pipeline.ΦA; rw [scopedRest0_eq]; unfold Phi
  iintro ⟨⟨%a0, %a1, %a2, -, H0, H1, H2⟩, -, -, Hr⟩
  isplitl [H0 H1 H2]
  · isplitl [H0]; · iexists a0; iexact H0
    isplitl [H1]; · iexists a1; iexact H1
    iexists a2; iexact H2
  iexact Hr

/-- Every execution of the program terminates; at the end the windows' arrays stand at the proof data's account and every other buffer at the host lines' contents. -/
theorem run_post (g : Dev nD → PrngReg) :
    θ_run (defs (F := F)) (onTc (main (F := F))) (s₀ m g) fun r => Pipeline.FramePost (pcs (F := F)) (dats m) 0 (V m) r ∧ r.2.sem = (fun _ => 0) :=
  Pipeline.θ_run_frameP_track (pcfgs (F := F)) (fun _ => adm) (dats m) 0 launch0 defs₀ Variants.none m g (main (F := F))
    (fun c => (body_obligation m c).loose) (fun c w => by unfold Dat.share; split <;> rfl) (fun _ _ => rfl) (V m)
    (Pipeline.hmainP_prefix _ _ _ _ m (main (F := F)) hostOps0 hostOps0_sub hostOps0_fresh main_chain)
    (fun _ _ => rfl) (V_pre m) (Phi_in m) (fun c => Phi_out m c _) _ (fun _ h => h)

theorem rest_arg0 : main_arg0 ∈ Pipeline.restRefs sig spec0 := Pipeline.mem_restRefs_of main_arg0 rfl (by decide)
theorem rest_arg1 : main_arg1 ∈ Pipeline.restRefs sig spec0 := Pipeline.mem_restRefs_of main_arg1 rfl (by decide)
theorem rest_arg2 : main_arg2 ∈ Pipeline.restRefs sig spec0 := Pipeline.mem_restRefs_of main_arg2 rfl (by decide)
theorem rest_arg3 : main_arg3 ∈ Pipeline.restRefs sig spec0 := Pipeline.mem_restRefs_of main_arg3 rfl (by decide)
theorem rest_arg4 : main_arg4 ∈ Pipeline.restRefs sig spec0 := Pipeline.mem_restRefs_of main_arg4 rfl (by decide)
theorem rest_arg5 : main_arg5 ∈ Pipeline.restRefs sig spec0 := Pipeline.mem_restRefs_of main_arg5 rfl (by decide)

/-- The run's three results and its arguments. -/
theorem run_main (g : Dev nD → PrngReg) :
    θ_run (defs (F := F)) (onTc (main (F := F))) (s₀ m g) fun r => ((∀ c : Dev nD,
      (r.2.mem ((c : Thread nD τ).loc main_v48_0) = (dats m 0 c).arrAt (6 : Fin 9) (cfgA F).N
      ∧ r.2.mem ((c : Thread nD τ).loc main_v48_1) = (dats m 0 c).arrAt (7 : Fin 9) (cfgA F).N
      ∧ r.2.mem ((c : Thread nD τ).loc main_v48_2) = (dats m 0 c).arrAt (8 : Fin 9) (cfgA F).N)
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))
      ∧ r.2.sem = (fun _ => 0)) :=
  (θ_run (defs (F := F)) _ _).mono (fun r h => ⟨fun c => ⟨⟨(h.1 c).1 (6 : Fin 9), (h.1 c).1 (7 : Fin 9), (h.1 c).1 (8 : Fin 9)⟩,
      ((h.1 c).2 main_arg0 rest_arg0).trans (V_arg0 m c), ((h.1 c).2 main_arg1 rest_arg1).trans (V_arg1 m c), ((h.1 c).2 main_arg2 rest_arg2).trans (V_arg2 m c), ((h.1 c).2 main_arg3 rest_arg3).trans (V_arg3 m c), ((h.1 c).2 main_arg4 rest_arg4).trans (V_arg4 m c), ((h.1 c).2 main_arg5 rest_arg5).trans (V_arg5 m c)⟩, h.2⟩) (run_post m g)

end Cert.KernelIdeal.Fl

end
-- ==== Proof.FrameIdeal.lean ====
/- The frames of the ideal program and of the reference, and the rewrite between the two programs. -/
module

public import proofs.«01_k».proof.Defs
public import proofs.«01_k».proof.Proof.Gen.ReferenceIdeal.Run
public import proofs.«01_k».proof.Proof.Gen.Pre_finite
public import proofs.«01_k».proof.Proof.KI.Launch

@[expose] public section

set_option maxRecDepth 16384
set_option Elab.async false

noncomputable section

namespace Cert.Proof

open Idealize.ShloMosaic Idealize.SL.Sem

theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdeal.Fl.run_main (F := Ideal) m g)

theorem frame_ideal_finite : Cert.quiescent_KernelIdeal_pre_finite (hKernelIdeal := Cert.KernelIdeal.Gen.facts) (hPre_finite := Cert.Pre_finite.Gen.facts) :=
  fun m g _ => frame_ideal m g (trivial)

theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2.2.2, sem_eq_zero_of_no_sems (by decide) r.2⟩) (Cert.ReferenceIdeal.Value.run (F := Ideal) m g)

theorem frame_reference_finite : Cert.quiescent_ReferenceIdeal_pre_finite (hReferenceIdeal := Cert.ReferenceIdeal.Gen.facts) (hPre_finite := Cert.Pre_finite.Gen.facts) :=
  fun m g _ => frame_reference m g (trivial)

/-- The one rewrite: the f32 number nearest `ln 2` read as `ln 2`. -/
theorem preserves : Cert.preserves_Kernel_KernelIdeal :=
  IdealRules.named_const.statement Cert.KernelIdeal.κ "ln2" .f32 0x3F317218#32 ((Real.log 2 : ℝ) : EReal) rfl

end Cert.Proof

end
-- ==== Proof.Attn.lean ====
/- The mathematics both programs compute, over the reals: causal attention's probabilities and the gradients of its
   queries, keys and values, with what the two programs write identified with it. -/
module

public import Idealize.ShloMosaic.PureOps.Ideal
public import Idealize.ShloMosaic.PureOps.Ideal.Laws

@[expose] public section

noncomputable section

namespace Cert.Attn

open Idealize.ShloMosaic

/-- A finite sum of real numbers is the same among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The score scale: the rounded constant both programs hold. -/
def scl : ℝ := (Ideal.ofBits .f32 0x3D93CD3A#32).toReal
theorem scl_coe : Ideal.ofBits .f32 0x3D93CD3A#32 = (scl : EReal) := by
  refine (EReal.coe_toReal ?_ ?_).symm
  all_goals simp [Ideal.ofBits, Ideal.ieee]
  all_goals first | exact EReal.coe_ne_top _ | exact EReal.coe_ne_bot _

/-- The six arguments as real numbers. -/
structure Args where
  qn : Fin 8192 → Fin 16 → Fin 128 → ℝ
  qr : Fin 8192 → Fin 16 → Fin 64 → ℝ
  kn : Fin 8192 → Fin 16 → Fin 128 → ℝ
  kr : Fin 8192 → Fin 64 → ℝ
  v : Fin 8192 → Fin 16 → Fin 128 → ℝ
  ct : Fin 8192 → Fin 16 → Fin 128 → ℝ

/-- A 128-wide part and a 64-wide part packed into 256 entries, the rest zero. -/
def cc (a : Fin 128 → ℝ) (b : Fin 64 → ℝ) (d : Fin 256) : ℝ :=
  if h : d.val < 128 then a ⟨d.val, h⟩ else if h : d.val - 128 < 64 then b ⟨d.val - 128, h⟩ else 0

/-- The product of two packed rows is the sum of the parts' products. -/
theorem cc_dot (a a' : Fin 128 → ℝ) (b b' : Fin 64 → ℝ) :
    ∑ d, cc a b d * cc a' b' d = (∑ d, a d * a' d) + ∑ d, b d * b' d := by
  have e : ∑ d : Fin 256, cc a b d * cc a' b' d = ∑ d : Fin (128 + (64 + 64)), cc a b d * cc a' b' d := rfl
  rw [e, Fin.sum_univ_add, Fin.sum_univ_add]
  have h1 : ∀ d : Fin 128, cc a b (Fin.castAdd (64 + 64) d) = a d := fun d => by
    unfold cc; rw [dif_pos (by simp)]; rfl
  have h1' : ∀ d : Fin 128, cc a' b' (Fin.castAdd (64 + 64) d) = a' d := fun d => by
    unfold cc; rw [dif_pos (by simp)]; rfl
  have h2 : ∀ d : Fin 64, cc a b (Fin.natAdd 128 (Fin.castAdd 64 d)) = b d := fun d => by
    unfold cc; rw [dif_neg (by simp), dif_pos (by simp)]; congr 1; ext; simp
  have h2' : ∀ d : Fin 64, cc a' b' (Fin.natAdd 128 (Fin.castAdd 64 d)) = b' d := fun d => by
    unfold cc; rw [dif_neg (by simp), dif_pos (by simp)]; congr 1; ext; simp
  have h3 : ∀ d : Fin 64, cc a b (Fin.natAdd 128 (Fin.natAdd 64 d)) = 0 := fun d => by
    unfold cc; rw [dif_neg (by simp), dif_neg (by simp)]
  simp only [h1, h1', h2, h2', h3, zero_mul, Finset.sum_const_zero, add_zero]

variable (a : Args)

/-- The scaled score of query row `R` against key row `K`. -/
def sc (H : Fin 16) (R K : Fin 8192) : ℝ :=
  ((∑ d, a.qn R H d * a.kn K H d) + ∑ d, a.qr R H d * a.kr K d) * scl
/-- The exponential of a score less a row's shift, nothing above the diagonal. -/
def ew (M : ℝ) (H : Fin 16) (R K : Fin 8192) : ℝ := if K ≤ R then Real.exp (sc a H R K - M) else 0
/-- The row's sum of them. -/
def el (M : ℝ) (H : Fin 16) (R : Fin 8192) : ℝ := ∑ K, ew a M H R K
/-- The attention probability. -/
def pr (H : Fin 16) (R K : Fin 8192) : ℝ := ew a 0 H R K / el a 0 H R
/-- The gradient reaching a probability. -/
def dp (H : Fin 16) (R K : Fin 8192) : ℝ := ∑ x, a.v K H x * a.ct R H x
/-- The row's mean of that gradient. -/
def del (H : Fin 16) (R : Fin 8192) : ℝ := ∑ K, pr a H R K * dp a H R K
/-- The gradient of a score before the scale. -/
def ds (H : Fin 16) (R K : Fin 8192) : ℝ := pr a H R K * (dp a H R K - del a H R)

theorem el_pos (M : ℝ) (H : Fin 16) (R : Fin 8192) : 0 < el a M H R := by
  unfold el
  refine Finset.sum_pos' (fun K _ => ?_) ⟨R, Finset.mem_univ _, ?_⟩
  · unfold ew; split
    · exact (Real.exp_pos _).le
    · exact le_rfl
  · unfold ew; rw [if_pos le_rfl]; exact Real.exp_pos _

theorem ew_shift (M : ℝ) (H : Fin 16) (R K : Fin 8192) : ew a M H R K = ew a 0 H R K * Real.exp (-M) := by
  unfold ew; split
  · rw [← Real.exp_add]; congr 1; ring
  · rw [zero_mul]
theorem el_shift (M : ℝ) (H : Fin 16) (R : Fin 8192) : el a M H R = el a 0 H R * Real.exp (-M) := by
  unfold el; rw [Finset.sum_mul]; exact Finset.sum_congr rfl fun K _ => ew_shift a M H R K
/-- The shift cancels. -/
theorem pr_eq (M : ℝ) (H : Fin 16) (R K : Fin 8192) : ew a M H R K / el a M H R = pr a H R K := by
  unfold pr; rw [ew_shift, el_shift, mul_div_mul_right _ _ (Real.exp_pos _).ne']

/-- A power of two at a base-two exponent is the exponential. -/
theorem rpow_two_log (x : ℝ) : Real.rpow 2 (x * (1 / Real.log 2)) = Real.exp x := by
  have h : Real.log 2 ≠ 0 := (Real.log_pos (by norm_num)).ne'
  show (2 : ℝ) ^ (x * (1 / Real.log 2)) = _
  rw [Real.rpow_def_of_pos (by norm_num)]; congr 1; field_simp

/-- The kernel's exponential of a score less the row's saved logarithm is the probability. -/
theorem pow_pr (M : ℝ) (H : Fin 16) (R K : Fin 8192) (h : K ≤ R) :
    Real.rpow 2 (sc a H R K * (1 / Real.log 2) - (M + Real.log (el a M H R)) * (1 / Real.log 2)) = pr a H R K := by
  rw [← sub_mul, rpow_two_log, ← pr_eq a M, ← sub_sub, Real.exp_sub, Real.exp_log (el_pos a M H R)]
  unfold ew; rw [if_pos h]

/-- The packed rows' product at the kernel's prescaled queries. -/
theorem dot_sc (H : Fin 16) (R K : Fin 8192) :
    ∑ d, cc (a.kn K H) (a.kr K) d * (cc (a.qn R H) (a.qr R H) d * (scl * (1 / Real.log 2)))
      = sc a H R K * (1 / Real.log 2) := by
  simp only [← mul_assoc]
  rw [← Finset.sum_mul, ← Finset.sum_mul, cc_dot]
  unfold sc
  congr 2
  congr 1 <;> exact Finset.sum_congr rfl fun d _ => mul_comm _ _

/-- The row's mean from the saved output: the gradient against the attention's output. -/
theorem del_eq (H : Fin 16) (R : Fin 8192) :
    ∑ x, a.ct R H x * (∑ K, a.v K H x * pr a H R K) = del a H R := by
  unfold del dp
  simp only [Finset.mul_sum]
  rw [Finset.sum_comm]
  exact Finset.sum_congr rfl fun K _ => Finset.sum_congr rfl fun x _ => by ring

/-- The reference's order of the same gradient: each quotient's two halves. -/
theorem ds_eq (M : ℝ) (H : Fin 16) (R K : Fin 8192) :
    (dp a H R K / el a M H R
        + -(∑ K', dp a H R K' * (1 / (el a M H R * el a M H R)) * ew a M H R K')) * ew a M H R K = ds a H R K := by
  have hl := (el_pos a M H R).ne'
  have e : ∑ K', dp a H R K' * (1 / (el a M H R * el a M H R)) * ew a M H R K' = del a H R / el a M H R := by
    unfold del; rw [Finset.sum_div]
    refine Finset.sum_congr rfl fun K' _ => ?_
    rw [← pr_eq a M]; field_simp
  rw [e]; unfold ds; rw [← pr_eq a M H R K]; field_simp; ring

/-- The gradients the two programs write. -/
def oQ (H : Fin 16) (R : Fin 8192) (d : Fin 256) : ℝ := (∑ K, ds a H R K * cc (a.kn K H) (a.kr K) d) * scl
def oK (H : Fin 16) (K : Fin 8192) (d : Fin 256) : ℝ := (∑ R, ds a H R K * cc (a.qn R H) (a.qr R H) d) * scl
def oV (H : Fin 16) (K : Fin 8192) (x : Fin 128) : ℝ := ∑ R, pr a H R K * a.ct R H x

theorem oK_eq (H : Fin 16) (K : Fin 8192) (d : Fin 256) :
    (∑ R, ds a H R K * (cc (a.qn R H) (a.qr R H) d * (scl * (1 / Real.log 2)))) * Real.log 2 = oK a H K d := by
  have h : Real.log 2 ≠ 0 := (Real.log_pos (by norm_num)).ne'
  unfold oK
  rw [Finset.sum_mul, Finset.sum_mul]
  exact Finset.sum_congr rfl fun R _ => by field_simp

/-- The maximum over finitely many values, none of them plus infinity and one of them real, is real. -/
theorem fold_max_real {ι : Type*} (s : Finset ι) (f : ι → EReal) (hf : ∀ i, f i ≠ ⊤) (i : ι) (hi : i ∈ s)
    (hb : f i ≠ ⊥) : ∃ r : ℝ, s.fold max ⊥ f = (r : EReal) := by
  classical
  have ht : ∀ u : Finset ι, u.fold max ⊥ f ≠ ⊤ := fun u => by
    induction u using Finset.induction_on with
    | empty => simp
    | insert b u hbu ih => rw [Finset.fold_insert hbu]; rcases max_choice (f b) (u.fold max ⊥ f) with h | h <;> rw [h]
                           · exact hf b
                           · exact ih
  have hge : f i ≤ s.fold max ⊥ f := (Finset.le_fold_max (f i)).2 (Or.inr ⟨i, hi, le_rfl⟩)
  exact ⟨_, (EReal.coe_toReal (ht s) (fun h => hb (le_bot_iff.1 (h ▸ hge)))).symm⟩

/-! ## The elementwise operations at real numbers -/

/-- The causal mask: the comparison of two positions chooses by their order. -/
theorem sel_le (x y : ℕ) (hx : x < 8192) (hy : y < 8192) (u w : EReal) :
    Scalar.select (IntOp.cmpi CmpIPredicate.sle (BitVec.ofNat 32 x) (BitVec.ofNat 32 y)) u w = if x ≤ y then u else w := by
  have s : (BitVec.ofNat 32 x).sle (BitVec.ofNat 32 y) = decide (x ≤ y) := by
    rw [BitVec.sle, BitVec.toInt_eq_toNat_of_lt (by rw [BitVec.toNat_ofNat]; omega),
      BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr Int.ofNat_le
  have e : IntOp.cmpi CmpIPredicate.sle (BitVec.ofNat 32 x) (BitVec.ofNat 32 y) = BitVec.ofBool (decide (x ≤ y)) :=
    congrArg BitVec.ofBool s
  rw [e]
  by_cases h : x ≤ y
  · rw [if_pos h, decide_eq_true h]; rfl
  · rw [if_neg h, decide_eq_false h]; rfl

theorem bot_bits : Ideal.ofBits .f32 0xFF800000#32 = ⊥ := by simp [Ideal.ofBits, Ideal.ieee]
theorem two_bits : Ideal.ofBits .f32 0x40000000#32 = ((2 : ℝ) : EReal) := by
  simp [Ideal.ofBits, Ideal.ieee, -EReal.coe_mul]; norm_num
theorem one_bits : Ideal.ofBits .f32 0x3F800000#32 = ((1 : ℝ) : EReal) := by
  simp [Ideal.ofBits, Ideal.ieee, -EReal.coe_mul]; norm_num
theorem div_real (x y : ℝ) (h : y ≠ 0) : Ideal.div (x : EReal) (y : EReal) = ((x / y : ℝ) : EReal) := by
  rw [Ideal.div_coe h, ← EReal.coe_mul, mul_one_div]
theorem log_real (x : ℝ) (h : 0 < x) : Ideal.log (x : EReal) = (Real.log x : EReal) := by
  rw [Ideal.log_coe, if_neg (not_le.mpr h)]

/-- A masked score as both programs hold it. -/
def ms (a : Args) (H : Fin 16) (R K : Fin 8192) : EReal := if K ≤ R then (sc a H R K : EReal) else ⊥

/-- A row's maximum is a real number. -/
theorem max_ms (a : Args) (H : Fin 16) (R : Fin 8192) :
    ∃ r : ℝ, (Finset.univ : Finset (Fin 8192)).fold max ⊥ (fun K => ms a H R K) = (r : EReal) := by
  refine fold_max_real _ _ (fun K => ?_) R (Finset.mem_univ _) ?_
  · unfold ms; split
    · exact EReal.coe_ne_top _
    · exact (bot_lt_top (α := EReal)).ne
  · unfold ms; rw [if_pos le_rfl]; exact EReal.coe_ne_bot _

/-- The exponential of a masked score less a real shift. -/
theorem exp_ms (a : Args) (M : ℝ) (H : Fin 16) (R K : Fin 8192) : Ideal.exp (ms a H R K - (M : EReal)) = (ew a M H R K : EReal) := by
  unfold ms ew
  by_cases h : K ≤ R
  · rw [if_pos h, if_pos h, ← EReal.coe_sub]; rfl
  · rw [if_neg h, if_neg h, sub_eq_add_neg, EReal.bot_add]; rfl

end Cert.Attn
-- ==== Proof.RI.Lines.lean ====
/- The reference's lines at real arguments, up to the scores' gradient. -/
module

public import proofs.«01_k».proof.Proof.Gen.ReferenceIdeal.Read
public import proofs.«01_k».proof.Proof.Attn
public import Idealize.ShloMosaic.Lib.Pointwise

@[expose] public section

set_option maxRecDepth 16384
set_option Elab.async false

noncomputable section

namespace Cert.ReferenceIdeal.Fl

open Cert.ReferenceIdeal Cert.ReferenceIdeal.Gen Cert.ReferenceIdeal.Read Cert.Attn
open Idealize.ShloMosaic
open Idealize.ShloMosaic.TcCoe Idealize.ShloMosaic.Tactic

/-- The rows' maxima. -/
def rmax (s : FVec Ideal S16x8192x8192 .f32) : FVec Ideal S16x8192 .f32 :=
  Host.reduce FloatOps.maximumf s (constant S_ .f32 0xFF800000#32) reducesTo_S16x8192x8192_S16x8192_d2 h_S_

theorem red_a (s : FVec Ideal S16x8192x8192 .f32) (H : Fin 16) (R : Fin 8192) :
    (rmax s (ix2 H R) : EReal) = Finset.fold max (Ideal.ofBits FTy.f32 0xFF800000#32) (fun K => (s (ix3 H R K) : EReal)) Finset.univ := by
  unfold rmax
  pointwise

theorem red_b (y : FVec Ideal S16x8192 .f32) (i : S16x8192.Idx) : (maximumf (val_main_v21 (F := Ideal)) y i : EReal) = max (Ideal.ofBits FTy.f32 0xFF800000#32) (y i) := by
  rw [val_main_v21, val_main_cst_3]
  rfl

theorem red_d (x0 : FVec Ideal S8192x16x128 .f32) (x1 : FVec Ideal S8192x16x64 .f32) (x2 : FVec Ideal S8192x16x128 .f32) (x3 : FVec Ideal S8192x64 .f32) :
    val_main_v15 (F := Ideal) x0 x1 x2 x3 = rmax (val_main_v14_0 (F := Ideal) x0 x1 x2 x3) := by
  unfold val_main_v15 rmax val_main_cst_1
  rfl

theorem red_c (x0 : FVec Ideal S8192x16x128 .f32) (x1 : FVec Ideal S8192x16x64 .f32) (x2 : FVec Ideal S8192x16x128 .f32) (x3 : FVec Ideal S8192x64 .f32) (H : Fin 16) (R : Fin 8192) :
    (val_main_v22 (F := Ideal) x0 x1 x2 x3 (ix2 H R) : EReal) = max (Ideal.ofBits FTy.f32 0xFF800000#32) (rmax (val_main_v14_0 (F := Ideal) x0 x1 x2 x3) (ix2 H R)) := by
  rw [val_main_v22, red_d]
  exact red_b _ _

/-- Arguments that are real numbers. -/
structure Real6 (x0 : FVec Ideal S8192x16x128 .f32) (x1 : FVec Ideal S8192x16x64 .f32) (x2 : FVec Ideal S8192x16x128 .f32) (x3 : FVec Ideal S8192x64 .f32)
    (x4 x5 : FVec Ideal S8192x16x128 .f32) (A : Args) : Prop where
  h0 : ∀ R H d, (x0 (ix3 R H d) : EReal) = (A.qn R H d : EReal)
  h1 : ∀ R H d, (x1 (ix3 R H d) : EReal) = (A.qr R H d : EReal)
  h2 : ∀ R H d, (x2 (ix3 R H d) : EReal) = (A.kn R H d : EReal)
  h3 : ∀ R d, (x3 (ix2 R d) : EReal) = (A.kr R d : EReal)
  h4 : ∀ R H d, (x4 (ix3 R H d) : EReal) = (A.v R H d : EReal)
  h5 : ∀ R H d, (x5 (ix3 R H d) : EReal) = (A.ct R H d : EReal)

variable {x0 : FVec Ideal S8192x16x128 .f32} {x1 : FVec Ideal S8192x16x64 .f32} {x2 : FVec Ideal S8192x16x128 .f32} {x3 : FVec Ideal S8192x64 .f32}
  {x4 x5 : FVec Ideal S8192x16x128 .f32} {A : Args} (r : Real6 x0 x1 x2 x3 x4 x5 A)
include r

/-! ## The forward lines -/

theorem s14 (H : Fin 16) (R K : Fin 8192) : (val_main_v14_0 (F := Ideal) x0 x1 x2 x3 (ix3 H R K) : EReal) = ms A H R K := by
  have e : (val_main_v14_0 (F := Ideal) x0 x1 x2 x3 (ix3 H R K) : EReal) = Scalar.select (IntOp.cmpi CmpIPredicate.sle (BitVec.ofNat 32 K.val) (BitVec.ofNat 32 R.val))
      ((∑ x, x0 (ix3 R H x) * x2 (ix3 K H x) + ∑ x, x1 (ix3 R H x) * x3 (ix2 K x)) * Ideal.ofBits FTy.f32 0x3D93CD3A#32)
      (Ideal.ofBits FTy.f32 0xFF800000#32) := by
    unfold val_main_v14_0 val_main_v14_1 val_main_v13 val_main_v12 val_main_v11 val_main_v10 val_main_v9 val_main_v8 val_main_v7 val_main_v6 val_main_v5 val_main_cst
      val_main_v4 val_main_v3 val_main_v2 val_main_v1 val_main_v0 val_main_call0_v2 val_main_call0_v0 val_main_cst_0
    pointwise
    rfl
  rw [e, sel_le _ _ K.isLt R.isLt, bot_bits, scl_coe]
  simp only [r.h0, r.h1, r.h2, r.h3, ← EReal.coe_mul]
  rw [coe_sum, coe_sum, ← EReal.coe_add, ← EReal.coe_mul]
  rfl

theorem s22 (H : Fin 16) (R : Fin 8192) : ∃ M : ℝ, (val_main_v22 (F := Ideal) x0 x1 x2 x3 (ix2 H R) : EReal) = (M : EReal) := by
  obtain ⟨M, h⟩ := max_ms A H R
  refine ⟨M, ?_⟩
  rw [← h]
  rw [red_c, red_a, bot_bits]
  simp only [s14 r]
  exact max_eq_right bot_le

theorem s35 {M : Fin 16 → Fin 8192 → ℝ} (hM : ∀ H R, (val_main_v22 (F := Ideal) x0 x1 x2 x3 (ix2 H R) : EReal) = (M H R : EReal)) (H : Fin 16) (R K : Fin 8192) :
    (val_main_v35 (F := Ideal) x0 x1 x2 x3 (ix3 H R K) : EReal) = (ew A (M H R) H R K : EReal) := by
  rw [← exp_ms, ← s14 r, ← hM]
  unfold val_main_v35 val_main_v34 val_main_v33 val_main_v32
  generalize val_main_v14_0 (F := Ideal) x0 x1 x2 x3 = s
  generalize val_main_v22 (F := Ideal) x0 x1 x2 x3 = y
  pointwise
omit r

theorem s37 {M : Fin 16 → Fin 8192 → ℝ} (he : ∀ H R K, (val_main_v35 (F := Ideal) x0 x1 x2 x3 (ix3 H R K) : EReal) = (ew A (M H R) H R K : EReal)) (H : Fin 16) (R : Fin 8192) :
    (val_main_v37 (F := Ideal) x0 x1 x2 x3 (ix3 H R 0) : EReal) = (el A (M H R) H R : EReal) := by
  have h : (val_main_v37 (F := Ideal) x0 x1 x2 x3 (ix3 H R 0) : EReal) = ∑ K, val_main_v35 (F := Ideal) x0 x1 x2 x3 (ix3 H R K) := by
    unfold val_main_v37 val_main_v36 val_main_cst_9
    generalize val_main_v35 (F := Ideal) x0 x1 x2 x3 = s
    pointwise
  rw [h]
  simp only [he]
  rw [coe_sum]; rfl

theorem s39 {M : Fin 16 → Fin 8192 → ℝ} (he : ∀ H R K, (val_main_v35 (F := Ideal) x0 x1 x2 x3 (ix3 H R K) : EReal) = (ew A (M H R) H R K : EReal)) (H : Fin 16) (R K : Fin 8192) :
    (val_main_v39 (F := Ideal) x0 x1 x2 x3 (ix3 H R K) : EReal) = (pr A H R K : EReal) := by
  have h : (val_main_v39 (F := Ideal) x0 x1 x2 x3 (ix3 H R K) : EReal)
      = Ideal.div (val_main_v35 (F := Ideal) x0 x1 x2 x3 (ix3 H R K)) (val_main_v37 (F := Ideal) x0 x1 x2 x3 (ix3 H R 0)) := by
    unfold val_main_v39 val_main_v38
    generalize val_main_v35 (F := Ideal) x0 x1 x2 x3 = s
    generalize val_main_v37 (F := Ideal) x0 x1 x2 x3 = y
    pointwise
  rw [h, he, s37 he, div_real _ _ (el_pos A _ H R).ne', pr_eq]

/-! ## The backward lines -/

include r
theorem s46 (H : Fin 16) (R K : Fin 8192) : (val_main_v46 (F := Ideal) x4 x5 (ix3 H R K) : EReal) = (dp A H R K : EReal) := by
  have h : (val_main_v46 (F := Ideal) x4 x5 (ix3 H R K) : EReal) = ∑ x, x5 (ix3 R H x) * x4 (ix3 K H x) := by
    unfold val_main_v46 val_main_v45
    pointwise
  rw [h]
  simp only [r.h4, r.h5, ← EReal.coe_mul]
  rw [coe_sum]
  unfold dp
  exact congrArg _ (Finset.sum_congr rfl fun x _ => mul_comm _ _)

theorem s63 {M : Fin 16 → Fin 8192 → ℝ} (he : ∀ H R K, (val_main_v35 (F := Ideal) x0 x1 x2 x3 (ix3 H R K) : EReal) = (ew A (M H R) H R K : EReal)) (H : Fin 16) (R K : Fin 8192) :
    (val_main_v63 (F := Ideal) x0 x1 x2 x3 x4 x5 (ix3 H R K) : EReal) = ((ds A H R K * scl : ℝ) : EReal) := by
  have hl := s37 he
  have hd := s46 r
  have hn := (el_pos A (M H R) H R).ne'
  have e : (val_main_v63 (F := Ideal) x0 x1 x2 x3 x4 x5 (ix3 H R K) : EReal)
      = Scalar.select (IntOp.cmpi CmpIPredicate.sle (BitVec.ofNat 32 K.val) (BitVec.ofNat 32 R.val))
        ((Ideal.div (val_main_v46 (F := Ideal) x4 x5 (ix3 H R K)) (val_main_v37 (F := Ideal) x0 x1 x2 x3 (ix3 H R 0))
          + -(∑ K', val_main_v46 (F := Ideal) x4 x5 (ix3 H R K')
              * Ideal.div (Ideal.ofBits FTy.f32 0x3F800000#32) (val_main_v37 (F := Ideal) x0 x1 x2 x3 (ix3 H R 0) * val_main_v37 (F := Ideal) x0 x1 x2 x3 (ix3 H R 0))
              * val_main_v35 (F := Ideal) x0 x1 x2 x3 (ix3 H R K')))
          * val_main_v35 (F := Ideal) x0 x1 x2 x3 (ix3 H R K)) 0 * Ideal.ofBits FTy.f32 0x3D93CD3A#32 := by
    unfold val_main_v63 val_main_v62 val_main_cst_13 val_main_v61 val_main_call1_v0 val_main_call1_cst val_main_v60 val_main_v59 val_main_v58 val_main_v57 val_main_cst_12
      val_main_v56 val_main_v55 val_main_v54 val_main_v53 val_main_v52 val_main_cst_11 val_main_v51 val_main_v50 val_main_v49 val_main_v42 val_main_v41 val_main_cst_10 val_main_v40
      val_main_v14_1 val_main_v13 val_main_v12 val_main_v11 val_main_v10 val_main_v9 val_main_v8 val_main_v7
    generalize val_main_v35 (F := Ideal) x0 x1 x2 x3 = s
    generalize val_main_v37 (F := Ideal) x0 x1 x2 x3 = y
    generalize val_main_v46 (F := Ideal) x4 x5 = z
    pointwise
    simp only [Finset.sum_const, Finset.card_univ, Fintype.card_fin, one_smul]
  rw [e, sel_le _ _ K.isLt R.isLt, scl_coe, one_bits, hl]
  simp only [hd, he, ← EReal.coe_mul]
  rw [div_real _ _ (mul_ne_zero hn hn), div_real _ _ hn]
  simp only [← EReal.coe_mul]
  rw [coe_sum, ← EReal.coe_neg, ← EReal.coe_add, ← EReal.coe_mul, ds_eq]
  by_cases h : K.val ≤ R.val
  · rw [if_pos h, ← EReal.coe_mul]
  · rw [if_neg h]
    unfold ds pr ew
    rw [if_neg (show ¬K ≤ R from h)]
    simp

end Cert.ReferenceIdeal.Fl

end
-- ==== Proof.Finite.lean ====
/- The precondition: arguments below infinity in magnitude are real numbers. -/
module

public import proofs.«01_k».proof.Defs
public import proofs.«01_k».proof.Proof.Gen.Pre_finite
public import proofs.«01_k».proof.Proof.RI.Lines

@[expose] public section

set_option maxRecDepth 16384
set_option Elab.async false

noncomputable section

namespace Cert.Proof

open Idealize.ShloMosaic Idealize.SL.Sem Cert.Attn
open Idealize.ShloMosaic.TcCoe Idealize.ShloMosaic.Tactic

theorem inf_bits : Ideal.ofBits FTy.f32 0x7F800000#32 = (⊤ : EReal) := by
  simp [Ideal.ofBits, Ideal.ieee]

/-- A number of magnitude below infinity is a real number. -/
theorem real_of_olt {x : EReal} (h : Ideal.cmp .olt (max x (-x)) (⊤ : EReal) = 1#1) : x = (x.toReal : EReal) := by
  have hlt : max x (-x) < ⊤ := by
    by_contra hn
    simp [Ideal.cmp, hn] at h
  refine (EReal.coe_toReal ?_ ?_).symm
  · rintro rfl; simp at hlt
  · rintro rfl; simp at hlt

/-- The arguments' real values. -/
def argsOf (x0 : FVec Ideal ⟨3, ![8192, 16, 128]⟩ .f32) (x1 : FVec Ideal ⟨3, ![8192, 16, 64]⟩ .f32) (x2 : FVec Ideal ⟨3, ![8192, 16, 128]⟩ .f32)
    (x3 : FVec Ideal ⟨2, ![8192, 64]⟩ .f32) (x4 x5 : FVec Ideal ⟨3, ![8192, 16, 128]⟩ .f32) : Args where
  qn R H d := EReal.toReal (x0 (ix3 R H d))
  qr R H d := EReal.toReal (x1 (ix3 R H d))
  kn R H d := EReal.toReal (x2 (ix3 R H d))
  kr R d := EReal.toReal (x3 (ix2 R d))
  v R H d := EReal.toReal (x4 (ix3 R H d))
  ct R H d := EReal.toReal (x5 (ix3 R H d))

theorem real3 {n : ℕ} (x : FVec Ideal ⟨3, ![8192, 16, n]⟩ .f32) (hb : (⟨0, ![]⟩ : Shape).BroadcastsInDim ⟨3, ![8192, 16, n]⟩ (![] : Fin 0 → Fin 3))
    (h : cmpf .olt (Host.absf x) (broadcastInDim (⟨3, ![8192, 16, n]⟩ : Shape) ![] hb (constant (F := Ideal) ⟨0, ![]⟩ .f32 0x7F800000#32)) = fun _ => 1#1)
    (R : Fin 8192) (H : Fin 16) (d : Fin n) : (x (ix3 R H d) : EReal) = (EReal.toReal (x (ix3 R H d)) : EReal) := by
  have e := congrFun h (ix3 R H d)
  refine real_of_olt ?_
  rw [← inf_bits]
  exact e

theorem real2 (x : FVec Ideal ⟨2, ![8192, 64]⟩ .f32) (hb : (⟨0, ![]⟩ : Shape).BroadcastsInDim ⟨2, ![8192, 64]⟩ (![] : Fin 0 → Fin 2))
    (h : cmpf .olt (Host.absf x) (broadcastInDim (⟨2, ![8192, 64]⟩ : Shape) ![] hb (constant (F := Ideal) ⟨0, ![]⟩ .f32 0x7F800000#32)) = fun _ => 1#1)
    (R : Fin 8192) (d : Fin 64) : (x (ix2 R d) : EReal) = (EReal.toReal (x (ix2 R d)) : EReal) := by
  have e := congrFun h (ix2 R d)
  refine real_of_olt ?_
  rw [← inf_bits]
  exact e

/-- What the precondition says of six arguments: they are the real numbers `argsOf` takes from them. -/
theorem real_of_finite {x0 : FVec Ideal ⟨3, ![8192, 16, 128]⟩ .f32} {x1 : FVec Ideal ⟨3, ![8192, 16, 64]⟩ .f32} {x2 : FVec Ideal ⟨3, ![8192, 16, 128]⟩ .f32}
    {x3 : FVec Ideal ⟨2, ![8192, 64]⟩ .f32} {x4 x5 : FVec Ideal ⟨3, ![8192, 16, 128]⟩ .f32}
    (h : letI := Cert.Pre_finite.Gen.facts
      (Cert.Pre_finite.fn (F := Ideal) x0 x1 x2 x3 x4 x5).1 = (fun _ => 1#1) ∧ (Cert.Pre_finite.fn (F := Ideal) x0 x1 x2 x3 x4 x5).2.1 = (fun _ => 1#1)
      ∧ (Cert.Pre_finite.fn (F := Ideal) x0 x1 x2 x3 x4 x5).2.2.1 = (fun _ => 1#1) ∧ (Cert.Pre_finite.fn (F := Ideal) x0 x1 x2 x3 x4 x5).2.2.2.1 = (fun _ => 1#1)
      ∧ (Cert.Pre_finite.fn (F := Ideal) x0 x1 x2 x3 x4 x5).2.2.2.2.1 = (fun _ => 1#1) ∧ (Cert.Pre_finite.fn (F := Ideal) x0 x1 x2 x3 x4 x5).2.2.2.2.2 = (fun _ => 1#1)) :
    Cert.ReferenceIdeal.Fl.Real6 x0 x1 x2 x3 x4 x5 (argsOf x0 x1 x2 x3 x4 x5) := by
  obtain ⟨h0, h1, h2, h3, h4, h5⟩ := h
  exact ⟨real3 x0 _ h0, real3 x1 _ h1, real3 x2 _ h2, real2 x3 _ h3, real3 x4 _ h4, real3 x5 _ h5⟩

end Cert.Proof

end
-- ==== Proof.RI.Real.lean ====
/- The reference's results at real arguments. -/
module

public import proofs.«01_k».proof.Proof.RI.Lines

@[expose] public section

set_option maxRecDepth 16384
set_option Elab.async false

noncomputable section

namespace Cert.ReferenceIdeal.Fl

open Cert.ReferenceIdeal Cert.ReferenceIdeal.Gen Cert.ReferenceIdeal.Read Cert.Attn
open Idealize.ShloMosaic
open Idealize.ShloMosaic.TcCoe Idealize.ShloMosaic.Tactic

variable {x0 : FVec Ideal S8192x16x128 .f32} {x1 : FVec Ideal S8192x16x64 .f32} {x2 : FVec Ideal S8192x16x128 .f32} {x3 : FVec Ideal S8192x64 .f32}
  {x4 x5 : FVec Ideal S8192x16x128 .f32} {A : Args} (r : Real6 x0 x1 x2 x3 x4 x5 A)
include r

/-- A packed gradient row: the 128-wide and the 64-wide products under one sum. -/
theorem cc_sum (f : Fin 8192 → ℝ) (a : Fin 8192 → Fin 128 → ℝ) (b : Fin 8192 → Fin 64 → ℝ) (d : Fin 256) :
    (if h : d.val < 128 then ((∑ K, f K * scl * a K ⟨d.val, h⟩ : ℝ) : EReal) else if h : d.val - 128 < 64 then ((∑ K, f K * scl * b K ⟨d.val - 128, h⟩ : ℝ) : EReal) else 0)
      = (((∑ K, f K * cc (a K) (b K) d) * scl : ℝ) : EReal) := by
  rw [Finset.sum_mul]
  unfold cc
  by_cases h1 : d.val < 128
  · simp only [dif_pos h1]
    exact congrArg _ (Finset.sum_congr rfl fun K _ => by ring)
  · simp only [dif_neg h1]
    by_cases h2 : d.val - 128 < 64
    · simp only [dif_pos h2]
      exact congrArg _ (Finset.sum_congr rfl fun K _ => by ring)
    · simp only [dif_neg h2, mul_zero, zero_mul, Finset.sum_const_zero, EReal.coe_zero]

theorem rows : ∃ M : Fin 16 → Fin 8192 → ℝ, ∀ H R K, (val_main_v35 (F := Ideal) x0 x1 x2 x3 (ix3 H R K) : EReal) = (ew A (M H R) H R K : EReal) := by
  choose M hM using s22 r
  exact ⟨M, s35 r hM⟩

/-- The queries' gradient. -/
theorem s75 (H : Fin 16) (R : Fin 8192) (d : Fin 256) : (val_main_v75 (F := Ideal) x0 x1 x2 x3 x4 x5 (ix3 H R d) : EReal) = (oQ A H R d : EReal) := by
  obtain ⟨M, he⟩ := rows r
  have hS := s63 r he
  have e : (val_main_v75 (F := Ideal) x0 x1 x2 x3 x4 x5 (ix3 H R d) : EReal)
      = if h : d.val < 128 then ∑ K, val_main_v63 (F := Ideal) x0 x1 x2 x3 x4 x5 (ix3 H R K) * x2 (ix3 K H ⟨d.val, h⟩)
        else if h : d.val - 128 < 64 then ∑ K, val_main_v63 (F := Ideal) x0 x1 x2 x3 x4 x5 (ix3 H R K) * x3 (ix2 K ⟨d.val - 128, h⟩) else 0 := by
    unfold val_main_v75 val_main_v74 val_main_v73 val_main_v72 val_main_cst_14 val_main_v71 val_main_v70 val_main_v67 val_main_v66 val_main_v1 val_main_v0
    generalize val_main_v63 (F := Ideal) x0 x1 x2 x3 x4 x5 = s
    pointwise
  rw [e]
  simp only [hS, r.h2, r.h3, ← EReal.coe_mul, coe_sum]
  exact cc_sum r (fun K => ds A H R K) (fun K => A.kn K H) (fun K => A.kr K) d

/-- The keys' gradient. -/
theorem s78 (H : Fin 16) (K : Fin 8192) (d : Fin 256) : (val_main_v78 (F := Ideal) x0 x1 x2 x3 x4 x5 (ix3 H K d) : EReal) = (oK A H K d : EReal) := by
  obtain ⟨M, he⟩ := rows r
  have hS := s63 r he
  have e : (val_main_v78 (F := Ideal) x0 x1 x2 x3 x4 x5 (ix3 H K d) : EReal)
      = if h : d.val < 128 then ∑ R, val_main_v63 (F := Ideal) x0 x1 x2 x3 x4 x5 (ix3 H R K) * x0 (ix3 R H ⟨d.val, h⟩)
        else if h : d.val - 128 < 64 then ∑ R, val_main_v63 (F := Ideal) x0 x1 x2 x3 x4 x5 (ix3 H R K) * x1 (ix3 R H ⟨d.val - 128, h⟩) else 0 := by
    unfold val_main_v78 val_main_v77 val_main_v76 val_main_v72 val_main_cst_14 val_main_v69 val_main_v68 val_main_v65 val_main_v64
    generalize val_main_v63 (F := Ideal) x0 x1 x2 x3 x4 x5 = s
    pointwise
  rw [e]
  simp only [hS, r.h0, r.h1, ← EReal.coe_mul, coe_sum]
  exact cc_sum r (fun R => ds A H R K) (fun R => A.qn R H) (fun R => A.qr R H) d

/-- The values' gradient. -/
theorem s80 (H : Fin 16) (K : Fin 8192) (d : Fin 128) : (val_main_v80 (F := Ideal) x0 x1 x2 x3 x5 (ix3 H K d) : EReal) = (oV A H K d : EReal) := by
  obtain ⟨M, he⟩ := rows r
  have hP := s39 he
  have e : (val_main_v80 (F := Ideal) x0 x1 x2 x3 x5 (ix3 H K d) : EReal)
      = ∑ R, x5 (ix3 R H d) * val_main_v39 (F := Ideal) x0 x1 x2 x3 (ix3 H R K) := by
    unfold val_main_v80 val_main_v79 val_main_v48 val_main_v47 val_main_v45
    generalize val_main_v39 (F := Ideal) x0 x1 x2 x3 = s
    pointwise
  rw [e]
  simp only [hP, r.h5, ← EReal.coe_mul]
  rw [coe_sum]
  unfold oV
  exact congrArg _ (Finset.sum_congr rfl fun R _ => mul_comm _ _)

end Cert.ReferenceIdeal.Fl

end
-- ==== Proof.KI.HostA.lean ====
/- The host lines before the launch: their values as functions of the arguments. -/
module

public import proofs.«01_k».proof.Proof.KI.Launch
public import Idealize.ShloMosaic.Lib.StableHlo.RunRead

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic

/-- The arguments' types. -/
abbrev A128 := FVec Ideal S8192x16x128 .f32
abbrev A64 := FVec Ideal S8192x16x64 .f32
abbrev AK := FVec Ideal S8192x64 .f32
abbrev ASS := FVec Ideal S16x8192x8192 .f32

/-! ## The host lines' values, as functions of the arguments -/

section
variable (x0 x2 x4 x5 : A128) (x1 : A64) (x3 : AK)

/-- The base-two logarithm of e, as the host divides it out. -/
def hlog : FVec Ideal S_ .f32 := Host.divf (constant S_ .f32 0x3F800000#32) (Host.log (constant S_ .f32 0x40000000#32))
/-- The zeros the packed rows end in. -/
def hz : A64 := broadcastInDim S8192x16x64 ![] bcast_S_S8192x16x64 (constant S_ .f32 0x00000000#32)
/-- The rotary key, at every head. -/
def hkr : A64 := broadcastInDim S8192x16x64 ![0, 2] bcast_S8192x64_S8192x16x64_0_2 x3
/-- A row packed from its two parts. -/
def hcat (a : A128) (b : A64) : FVec Ideal S8192x16x256 .f32 :=
  concatenate S8192x16x256 2 [⟨S8192x16x128, a⟩, ⟨S8192x16x64, b⟩, ⟨S8192x16x64, hz⟩] concatenates_S8192x16x128_S8192x16x64_S8192x16x64_S8192x16x256_d2
/-- The packed queries, prescaled. -/
def hq : FVec Ideal S16x8192x256 .bf16 :=
  truncf .bf16 (transpose S16x8192x256 [1, 0, 2] (mulf (hcat x0 x1) (broadcastInDim S8192x16x256 ![] bcast_S_S8192x16x256 (mulf (constant S_ .f32 0x3D93CD3A#32) hlog))) transposes_S8192x16x256_S16x8192x256_1_0_2) bitsLt_bf16_f32
/-- The packed keys. -/
def hk : FVec Ideal S16x8192x256 .bf16 :=
  truncf .bf16 (transpose S16x8192x256 [1, 0, 2] (hcat x2 (hkr x3)) transposes_S8192x16x256_S16x8192x256_1_0_2) bitsLt_bf16_f32
/-- The values. -/
def hv : FVec Ideal S16x8192x128 .bf16 :=
  truncf .bf16 (transpose S16x8192x128 [1, 0, 2] x4 transposes_S8192x16x128_S16x8192x128_1_0_2) bitsLt_bf16_f32
/-- The output's gradient, two heads side by side. -/
def ho : FVec Ideal S8192x2048 .bf16 :=
  truncf .bf16 (shapeCast S8192x2048 x5 shapeCasts_S8192x16x128_S8192x2048) bitsLt_bf16_f32
/-- The scores, minus infinity above the diagonal. -/
def hs : ASS :=
  select (cmpi .sle (iotaInDim S16x8192x8192 32 2) (iotaInDim S16x8192x8192 32 1))
    (mulf (addf (Host.dotGeneral dot_S8192x16x128_S8192x16x128_S16x8192x8192_2_2_0_0_1_1 none x0 x2)
        (Host.dotGeneral dot_S8192x16x64_S8192x16x64_S16x8192x8192_2_2_0_0_1_1 none x1 (hkr x3)))
      (broadcastInDim S16x8192x8192 ![] bcast_S_S16x8192x8192 (constant S_ .f32 0x3D93CD3A#32)))
    (broadcastInDim S16x8192x8192 ![] bcast_S_S16x8192x8192 (constant S_ .f32 0xFF800000#32))
/-- A row's maximum, and its sum, kept as a column. -/
def hcol1 (y : FVec Ideal S16x8192 .f32) : FVec Ideal S16x8192x1 .f32 := broadcastInDim S16x8192x1 ![0, 1] bcast_S16x8192_S16x8192x1_0_1 y
def hrow (y : FVec Ideal S16x8192x1 .f32) : ASS := broadcastInDim S16x8192x8192 ![0, 1, 2] bcast_S16x8192x1_S16x8192x8192_0_1_2 y
def hm (s : ASS) : FVec Ideal S16x8192x1 .f32 :=
  hcol1 (Host.reduce FloatOps.maximumf s (constant S_ .f32 0xFF800000#32) reducesTo_S16x8192x8192_S16x8192_d2 h_S_)
def he (s : ASS) (M : FVec Ideal S16x8192x1 .f32) : ASS := Host.exp (subf s (hrow M))
def hl (e : ASS) : FVec Ideal S16x8192x1 .f32 :=
  hcol1 (Host.reduceAdd e (constant S_ .f32 0x00000000#32) reducesTo_S16x8192x8192_S16x8192_d2 h_S_)
/-- The attention's output. -/
def hatt (e : ASS) (L : FVec Ideal S16x8192x1 .f32) : A128 :=
  transpose S8192x16x128 [2, 0, 1] (Host.dotGeneral dot_S8192x16x128_S16x8192x8192_S16x128x8192_0_2_2_1_1_0 none x4 (Host.divf e (hrow L))) transposes_S16x128x8192_S8192x16x128_2_0_1
/-- The saved logarithm, base two. -/
def hlse (M L : FVec Ideal S16x8192x1 .f32) : FVec Ideal S16x8x8192 .f32 :=
  broadcastInDim S16x8x8192 ![0, 2] bcast_S16x8192_S16x8x8192_0_2
    (mulf (shapeCast S16x8192 (addf M (Host.log L)) shapeCasts_S16x8192x1_S16x8192) (broadcastInDim S16x8192 ![] bcast_S_S16x8192 hlog))
/-- The row's mean of the gradient. -/
def hdel (o : A128) : FVec Ideal S16x8x8192 .f32 :=
  broadcastInDim S16x8x8192 ![0, 2] bcast_S16x8192_S16x8x8192_0_2
    (transpose S16x8192 [1, 0] (Host.reduceAdd (mulf x5 o) (constant S_ .f32 0x00000000#32) reducesTo_S8192x16x128_S8192x16_d2 h_S_) transposes_S8192x16_S16x8192_1_0)
end

variable (m : (ℓ : Loc nD τ sig) → Buf (Elt Ideal) ℓ) (c : Dev nD)

/-- The arguments at a device. -/
def a0 : A128 := m ((c : Thread nD τ).loc main_arg0)
def a1 : A64 := m ((c : Thread nD τ).loc main_arg1)
def a2 : A128 := m ((c : Thread nD τ).loc main_arg2)
def a3 : AK := m ((c : Thread nD τ).loc main_arg3)
def a4 : A128 := m ((c : Thread nD τ).loc main_arg4)
def a5 : A128 := m ((c : Thread nD τ).loc main_arg5)

theorem V_q : V m c main_v8 = hq (a0 m c) (a1 m c) := by
  rw [V_eq]; after_reads_simp; rfl
theorem V_k : V m c main_v12 = hk (a2 m c) (a3 m c) := by
  rw [V_eq]; after_reads_simp; rfl
theorem V_v : V m c main_v14 = hv (a4 m c) := by
  rw [V_eq]; after_reads_simp; rfl
theorem V_o : V m c main_v16 = ho (a5 m c) := by
  rw [V_eq]; after_reads_simp; rfl

end Cert.KernelIdeal.Fl

end
-- ==== Proof.KI.HostB.lean ====
/- The saved logarithm and the row means, from the arguments. -/
module

public import proofs.«01_k».proof.Proof.KI.HostA

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

/-- The scores, the row maxima, the exponentials and their sums at a device. -/
def vs : ASS := hs (a0 m c) (a2 m c) (a1 m c) (a3 m c)
def vm : FVec Ideal S16x8192x1 .f32 := hm (vs m c)
def ve : ASS := he (vs m c) (vm m c)
def vl : FVec Ideal S16x8192x1 .f32 := hl (ve m c)
def vo : A128 := hatt (a4 m c) (ve m c) (vl m c)

theorem V_lse : V m c main_v46 = hlse (vm m c) (vl m c) := by
  rw [V_eq]; after_reads_simp; rfl
theorem V_del : V m c main_v47 = hdel (a5 m c) (vo m c) := by
  rw [V_eq]; after_reads_simp; rfl

end Cert.KernelIdeal.Fl

end
-- ==== Proof.KI.HostC.lean ====
/- The host lines at real arguments. -/
module

public import proofs.«01_k».proof.Proof.KI.HostB
public import proofs.«01_k».proof.Proof.Attn
public import Idealize.ShloMosaic.Lib.Pointwise

@[expose] public section

set_option maxRecDepth 16384
set_option Elab.async false

noncomputable section

namespace Cert.KernelIdeal.Fl

open Cert.KernelIdeal Cert.KernelIdeal.Gen Cert.Attn
open Idealize.ShloMosaic
open Idealize.ShloMosaic.TcCoe Idealize.ShloMosaic.Tactic

/-- Arguments that are real numbers. -/
structure Real6 (x0 : A128) (x1 : A64) (x2 : A128) (x3 : AK) (x4 x5 : A128) (A : Args) : Prop where
  h0 : ∀ R H d, (x0 (ix3 R H d) : EReal) = (A.qn R H d : EReal)
  h1 : ∀ R H d, (x1 (ix3 R H d) : EReal) = (A.qr R H d : EReal)
  h2 : ∀ R H d, (x2 (ix3 R H d) : EReal) = (A.kn R H d : EReal)
  h3 : ∀ R d, (x3 (ix2 R d) : EReal) = (A.kr R d : EReal)
  h4 : ∀ R H d, (x4 (ix3 R H d) : EReal) = (A.v R H d : EReal)
  h5 : ∀ R H d, (x5 (ix3 R H d) : EReal) = (A.ct R H d : EReal)

theorem log2_ne : Real.log 2 ≠ 0 := (Real.log_pos (by norm_num)).ne'

theorem hlog_real : (hlog Idealize.ShloMosaic.ix0 : EReal) = ((1 / Real.log 2 : ℝ) : EReal) := by
  unfold hlog
  pointwise
  rw [two_bits, log_real _ (by norm_num)]
  exact div_real 1 _ log2_ne

theorem hcat_real (a : A128) (b : A64) (f : Fin 128 → ℝ) (g : Fin 64 → ℝ) (R : Fin 8192) (H : Fin 16) (d : Fin 256)
    (hf : ∀ d, (a (ix3 R H d) : EReal) = (f d : EReal)) (hg : ∀ d, (b (ix3 R H d) : EReal) = (g d : EReal)) :
    (hcat a b (ix3 R H d) : EReal) = (cc f g d : EReal) := by
  unfold hcat hz cc
  pointwise
  by_cases h1 : d.val < 128
  · rw [dif_pos h1, dif_pos h1]; exact hf _
  · rw [dif_neg h1, dif_neg h1]
    by_cases h2 : d.val - 128 < 64
    · rw [dif_pos h2, dif_pos h2]; exact hg _
    · rw [dif_neg h2, dif_neg h2]; rfl

theorem hkr_apply (x3 : AK) (R : Fin 8192) (H : Fin 16) (d : Fin 64) : (hkr x3 (ix3 R H d) : EReal) = x3 (ix2 R d) := by
  unfold hkr; pointwise

variable {x0 : A128} {x1 : A64} {x2 : A128} {x3 : AK} {x4 x5 : A128} {A : Args} (r : Real6 x0 x1 x2 x3 x4 x5 A)
include r

theorem hq_real (H : Fin 16) (R : Fin 8192) (d : Fin 256) :
    (hq x0 x1 (ix3 H R d) : EReal) = ((cc (A.qn R H) (A.qr R H) d * (scl * (1 / Real.log 2)) : ℝ) : EReal) := by
  have e : (hq x0 x1 (ix3 H R d) : EReal) = hcat x0 x1 (ix3 R H d) * (Ideal.ofBits .f32 0x3D93CD3A#32 * hlog Idealize.ShloMosaic.ix0) := by
    unfold hq
    pointwise
  rw [e, hcat_real x0 x1 _ _ R H d (r.h0 R H) (r.h1 R H), scl_coe, hlog_real, ← EReal.coe_mul, ← EReal.coe_mul]
theorem hk_real (H : Fin 16) (R : Fin 8192) (d : Fin 256) :
    (hk x2 x3 (ix3 H R d) : EReal) = ((cc (A.kn R H) (A.kr R) d : ℝ) : EReal) := by
  have e : (hk x2 x3 (ix3 H R d) : EReal) = hcat x2 (hkr x3) (ix3 R H d) := by
    unfold hk
    pointwise
  rw [e]
  exact hcat_real x2 _ _ _ R H d (r.h2 R H) (fun d => (hkr_apply x3 R H d).trans (r.h3 R d))
theorem hv_real (H : Fin 16) (R : Fin 8192) (d : Fin 128) : (hv x4 (ix3 H R d) : EReal) = (A.v R H d : EReal) := by
  have e : (hv x4 (ix3 H R d) : EReal) = x4 (ix3 R H d) := by
    unfold hv
    pointwise
  rw [e]; exact r.h4 R H d
theorem ho_real (H : Fin 16) (R : Fin 8192) (d : Fin 128) (h : 128 * H.val + d.val < 2048) :
    (ho x5 (ix2 R ⟨128 * H.val + d.val, h⟩) : EReal) = (A.ct R H d : EReal) := by
  rw [← r.h5 R H d]
  unfold ho
  pointwise

theorem hs_real (H : Fin 16) (R K : Fin 8192) : (hs x0 x2 x1 x3 (ix3 H R K) : EReal) = ms A H R K := by
  have e : (hs x0 x2 x1 x3 (ix3 H R K) : EReal) = Scalar.select (IntOp.cmpi CmpIPredicate.sle (BitVec.ofNat 32 K.val) (BitVec.ofNat 32 R.val))
      ((∑ x, x0 (ix3 R H x) * x2 (ix3 K H x) + ∑ x, x1 (ix3 R H x) * x3 (ix2 K x)) * Ideal.ofBits FTy.f32 0x3D93CD3A#32)
      (Ideal.ofBits FTy.f32 0xFF800000#32) := by
    unfold hs hkr
    pointwise
  rw [e, sel_le _ _ K.isLt R.isLt, bot_bits, scl_coe]
  simp only [r.h0, r.h1, r.h2, r.h3, ← EReal.coe_mul]
  rw [coe_sum, coe_sum, ← EReal.coe_add, ← EReal.coe_mul]
  rfl
omit r

theorem hm_real {s : ASS} (hs : ∀ H R K, (s (ix3 H R K) : EReal) = ms A H R K) (H : Fin 16) (R : Fin 8192) :
    ∃ M : ℝ, (hm s (ix3 H R 0) : EReal) = (M : EReal) := by
  obtain ⟨M, h⟩ := max_ms A H R
  refine ⟨M, ?_⟩
  rw [← h]
  unfold hm hcol1
  pointwise [hs, bot_bits]

theorem he_real {s : ASS} (hs : ∀ H R K, (s (ix3 H R K) : EReal) = ms A H R K) {y : FVec Ideal S16x8192x1 .f32} {M : Fin 16 → Fin 8192 → ℝ}
    (hM : ∀ H R, (y (ix3 H R 0) : EReal) = (M H R : EReal)) (H : Fin 16) (R K : Fin 8192) :
    (he s y (ix3 H R K) : EReal) = (ew A (M H R) H R K : EReal) := by
  rw [← exp_ms, ← hs, ← hM]
  unfold he hrow
  pointwise

theorem hl_real {e : ASS} {M : Fin 16 → Fin 8192 → ℝ} (he : ∀ H R K, (e (ix3 H R K) : EReal) = (ew A (M H R) H R K : EReal)) (H : Fin 16) (R : Fin 8192) :
    (hl e (ix3 H R 0) : EReal) = (el A (M H R) H R : EReal) := by
  have h : (hl e (ix3 H R 0) : EReal) = ∑ K, e (ix3 H R K) := by
    unfold hl hcol1
    pointwise
  rw [h]
  simp only [he]
  rw [coe_sum]; rfl

theorem hlse_real {y l : FVec Ideal S16x8192x1 .f32} {M : Fin 16 → Fin 8192 → ℝ} (hM : ∀ H R, (y (ix3 H R 0) : EReal) = (M H R : EReal))
    (hl : ∀ H R, (l (ix3 H R 0) : EReal) = (el A (M H R) H R : EReal)) (H : Fin 16) (R : Fin 8192) :
    (hlse y l (ix3 H 0 R) : EReal) = (((M H R + Real.log (el A (M H R) H R)) * (1 / Real.log 2) : ℝ) : EReal) := by
  have h : (hlse y l (ix3 H 0 R) : EReal) = (y (ix3 H R 0) + Ideal.log (l (ix3 H R 0))) * hlog Idealize.ShloMosaic.ix0 := by
    unfold hlse
    pointwise
  rw [h, hM, hl, hlog_real, log_real _ (el_pos A _ H R), ← EReal.coe_add, ← EReal.coe_mul]

include r
theorem hdel_real {e : ASS} {l : FVec Ideal S16x8192x1 .f32} {M : Fin 16 → Fin 8192 → ℝ}
    (he : ∀ H R K, (e (ix3 H R K) : EReal) = (ew A (M H R) H R K : EReal))
    (hl : ∀ H R, (l (ix3 H R 0) : EReal) = (el A (M H R) H R : EReal)) (H : Fin 16) (R : Fin 8192) :
    (hdel x5 (hatt x4 e l) (ix3 H 0 R) : EReal) = (del A H R : EReal) := by
  have ho : ∀ x, (hatt x4 e l (ix3 R H x) : EReal) = ((∑ K, A.v K H x * pr A H R K : ℝ) : EReal) := fun x => by
    have h : (hatt x4 e l (ix3 R H x) : EReal) = ∑ K, x4 (ix3 K H x) * Ideal.div (e (ix3 H R K)) (l (ix3 H R 0)) := by
      unfold hatt hrow
      pointwise
    rw [h]
    simp only [r.h4, he, hl]
    rw [← coe_sum]
    refine Finset.sum_congr rfl fun K _ => ?_
    rw [div_real _ _ (el_pos A _ H R).ne', pr_eq, ← EReal.coe_mul]
  have h : (hdel x5 (hatt x4 e l) (ix3 H 0 R) : EReal) = ∑ x, x5 (ix3 R H x) * hatt x4 e l (ix3 R H x) := by
    generalize hatt x4 e l = o
    unfold hdel
    pointwise
  rw [h]
  simp only [ho, r.h5, ← EReal.coe_mul]
  rw [coe_sum, del_eq]

end Cert.KernelIdeal.Fl

end
-- ==== Proof.KI.Tile.lean ====
/- One tile of the gradient at an element, and reading stored tiles back. -/
module

public import proofs.«01_k».proof.Proof.KI.Base
public import Idealize.ShloMosaic.Lib.WritesUnit
public import Idealize.ShloMosaic.Lib.Pointwise

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

/-! ## One tile: the weights and their gradients at an element -/

abbrev B0 := S2x512x256.Idx → EReal
abbrev B2 := S2x512x128.Idx → EReal
abbrev B3 := S512x256.Idx → EReal
abbrev B4 := S2x8x512.Idx → EReal

/-- Column `128 h + e` of a block of two heads side by side. -/
def hcol (h : Fin 2) (e : Fin 128) : Fin 256 := ⟨128 * h.val + e.val, by omega⟩

/-- The exponential of head `h`'s score of key row `k` against query row `r`; on a diagonal block only the keys up to the query count. -/
def wt (dg : Prop) [Decidable dg] (x0 x1 : B0) (x4 : B4) (h : Fin 2) (k r : Fin 512) : EReal :=
  if dg ∧ ¬ k.val ≤ r.val then 0 else Ideal.exp2 (∑ d : Fin 256, x1 (ix3 h k d) * x0 (ix3 h r d) - x4 (ix3 h 0 r))

/-- Head `h`'s gradient of the weight of key row `k` by query row `r`, less the query row's mean. -/
def dwt (x2 : B2) (x3 : B3) (x5 : B4) (h : Fin 2) (k r : Fin 512) : EReal :=
  ∑ e : Fin 128, x2 (ix3 h k e) * x3 (ix2 r (hcol h e)) - x5 (ix3 h 0 r)

/-- The gradient of the score. -/
def dsc (dg : Prop) [Decidable dg] (x0 x1 : B0) (x2 : B2) (x3 : B3) (x4 x5 : B4) (h : Fin 2) (k r : Fin 512) : EReal :=
  wt dg x0 x1 x4 h k r * dwt x2 x3 x5 h k r

/-! ## Reading stored tiles back -/

section Read

variable {sig' : RefSig} {κ : Kind} {sp : Space} {e : EltTy}

theorem rd0 (v : View sig' κ sp S2x512x256 e) (f : v.ty.Contents (Elt Ideal)) (o : ℕ)
    (inb : ∀ a, (![o, 0, 0] : Fin 3 → ℕ) a + (![1, 512, 256] : Fin 3 → ℕ) a ≤ S2x512x256.size a)
    (w : (Rect.unit (s := S2x512x256) ![o, 0, 0] (![1, 512, 256] : Fin 3 → ℕ) inb).shape.Idx → Elt Ideal e) (L : List (View.Piece (Elt Ideal) S2x512x256 e))
    (h : Fin 2) (k : Fin 512) (d : Fin 256) :
    v.read (Elt Ideal) (v.writes (Elt Ideal) f ((⟨Rect.unit ![o, 0, 0] (![1, 512, 256] : Fin 3 → ℕ) inb, w⟩ : View.Piece (Elt Ideal) S2x512x256 e) :: L)) (ix3 h k d)
      = if h.val = o then w (ix3 (0 : Fin 1) k d) else v.read (Elt Ideal) (v.writes (Elt Ideal) f L) (ix3 h k d) := by
  by_cases hh : h.val = o
  · rw [if_pos hh]
    refine View.read_writes_cons_unit_of_mem v f inb w L (ix3 h k d) (ix3 (0 : Fin 1) k d) rfl fun a => ?_
    match a with
    | ⟨0, _⟩ => exact hh.trans (Nat.add_zero o).symm
    | ⟨1, _⟩ => exact (Nat.zero_add k.val).symm
    | ⟨2, _⟩ => exact (Nat.zero_add d.val).symm
  · rw [if_neg hh]
    refine View.read_writes_cons_unit_of_not_mem v f inb w L (ix3 h k d) rfl (0 : Fin 3) ?_
    show h.val < o ∨ o + 1 ≤ h.val
    omega

theorem rd1 (v : View sig' κ sp S2x512x128 e) (f : v.ty.Contents (Elt Ideal)) (o : ℕ)
    (inb : ∀ a, (![o, 0, 0] : Fin 3 → ℕ) a + (![1, 512, 128] : Fin 3 → ℕ) a ≤ S2x512x128.size a)
    (w : (Rect.unit (s := S2x512x128) ![o, 0, 0] (![1, 512, 128] : Fin 3 → ℕ) inb).shape.Idx → Elt Ideal e) (L : List (View.Piece (Elt Ideal) S2x512x128 e))
    (h : Fin 2) (k : Fin 512) (d : Fin 128) :
    v.read (Elt Ideal) (v.writes (Elt Ideal) f ((⟨Rect.unit ![o, 0, 0] (![1, 512, 128] : Fin 3 → ℕ) inb, w⟩ : View.Piece (Elt Ideal) S2x512x128 e) :: L)) (ix3 h k d)
      = if h.val = o then w (ix3 (0 : Fin 1) k d) else v.read (Elt Ideal) (v.writes (Elt Ideal) f L) (ix3 h k d) := by
  by_cases hh : h.val = o
  · rw [if_pos hh]
    refine View.read_writes_cons_unit_of_mem v f inb w L (ix3 h k d) (ix3 (0 : Fin 1) k d) rfl fun a => ?_
    match a with
    | ⟨0, _⟩ => exact hh.trans (Nat.add_zero o).symm
    | ⟨1, _⟩ => exact (Nat.zero_add k.val).symm
    | ⟨2, _⟩ => exact (Nat.zero_add d.val).symm
  · rw [if_neg hh]
    refine View.read_writes_cons_unit_of_not_mem v f inb w L (ix3 h k d) rfl (0 : Fin 3) ?_
    show h.val < o ∨ o + 1 ≤ h.val
    omega

theorem rd2 (v : View sig' κ sp S2x8192x256 e) (f : v.ty.Contents (Elt Ideal)) (off : Fin 3 → ℕ) (o b : ℕ)
    (inb : ∀ a, off a + (![1, 256, 256] : Fin 3 → ℕ) a ≤ S2x8192x256.size a)
    (w : (Rect.unit (s := S2x8192x256) off (![1, 256, 256] : Fin 3 → ℕ) inb).shape.Idx → Elt Ideal e) (L : List (View.Piece (Elt Ideal) S2x8192x256 e))
    (h : Fin 2) (k : Fin 8192) (d : Fin 256) (ho : off = ![o, b, 0]) :
    v.read (Elt Ideal) (v.writes (Elt Ideal) f ((⟨Rect.unit off (![1, 256, 256] : Fin 3 → ℕ) inb, w⟩ : View.Piece (Elt Ideal) S2x8192x256 e) :: L)) (ix3 h k d)
      = if hh : h.val = o ∧ b ≤ k.val ∧ k.val < b + 256 then w (ix3 (0 : Fin 1) (⟨k.val - b, by omega⟩ : Fin 256) d) else v.read (Elt Ideal) (v.writes (Elt Ideal) f L) (ix3 h k d) := by
  by_cases hh : h.val = o ∧ b ≤ k.val ∧ k.val < b + 256
  · rw [dif_pos hh]
    refine View.read_writes_cons_unit_of_mem v f inb w L (ix3 h k d) (ix3 (0 : Fin 1) (⟨k.val - b, by omega⟩ : Fin 256) d) ho fun a => ?_
    match a with
    | ⟨0, _⟩ => exact hh.1.trans (Nat.add_zero o).symm
    | ⟨1, _⟩ => show k.val = b + (k.val - b); omega
    | ⟨2, _⟩ => exact (Nat.zero_add d.val).symm
  · rw [dif_neg hh]
    by_cases h1 : h.val = o
    · refine View.read_writes_cons_unit_of_not_mem v f inb w L (ix3 h k d) ho (1 : Fin 3) ?_
      show k.val < b ∨ b + 256 ≤ k.val
      omega
    · refine View.read_writes_cons_unit_of_not_mem v f inb w L (ix3 h k d) ho (0 : Fin 3) ?_
      show h.val < o ∨ o + 1 ≤ h.val
      omega

/-- A whole piece reads back as stored. -/
theorem rdw {a b c : ℕ} (v : View sig' κ sp ⟨3, ![a, b, c]⟩ e) (f : v.ty.Contents (Elt Ideal))
    (inb : ∀ x, (![0, 0, 0] : Fin 3 → ℕ) x + (![a, b, c] : Fin 3 → ℕ) x ≤ (![a, b, c] : Fin 3 → ℕ) x)
    (w : (Rect.unit (s := ⟨3, ![a, b, c]⟩) ![0, 0, 0] ![a, b, c] inb).shape.Idx → Elt Ideal e) (L : List (View.Piece (Elt Ideal) ⟨3, ![a, b, c]⟩ e))
    (h : Fin a) (k : Fin b) (d : Fin c) :
    v.read (Elt Ideal) (v.writes (Elt Ideal) f ((⟨Rect.unit ![0, 0, 0] ![a, b, c] inb, w⟩ : View.Piece (Elt Ideal) ⟨3, ![a, b, c]⟩ e) :: L)) (ix3 h k d)
      = w (ix3 h k d) :=
  View.read_writes_cons_unit_of_mem v f inb w L (ix3 h k d) (ix3 h k d) rfl fun x => by
    match x with
    | ⟨0, _⟩ => exact (Nat.zero_add h.val).symm
    | ⟨1, _⟩ => exact (Nat.zero_add k.val).symm
    | ⟨2, _⟩ => exact (Nat.zero_add d.val).symm

end Read

/-! ## Query-row gradients, accumulated four tiles at a point -/

section Acc

variable {sig' : RefSig} {κ : Kind} {sp : Space} (v : View sig' κ sp S2x8192x256 .f32) (f : v.ty.Contents (Elt Ideal))

/-- A load of 256 rows, at an element. -/
theorem ra2 (off : Fin 3 → ℕ) (o : Fin 2) (b : ℕ) (hb : b + 256 ≤ 8192)
    (inb : ∀ a, off a + (![1, 256, 256] : Fin 3 → ℕ) a ≤ S2x8192x256.size a) (ho : off = ![o.val, b, 0]) (z : Fin 1) (r d : Fin 256) :
    v.readAt (Elt Ideal) (Rect.unit (s := S2x8192x256) off (![1, 256, 256] : Fin 3 → ℕ) inb).toLoadRect f (ix3 z r d)
      = v.read (Elt Ideal) f (ix3 o (⟨b + r.val, by omega⟩ : Fin 8192) d) := by
  subst ho
  rw [View.readAt_apply]
  refine congrArg _ (funext fun a => Fin.ext ?_)
  have hz := z.isLt
  match a with
  | ⟨0, _⟩ => show o.val + 1 * z.val = o.val; omega
  | ⟨1, _⟩ => show b + 1 * r.val = b + r.val; omega
  | ⟨2, _⟩ => show 0 + 1 * d.val = d.val; omega

/-- One tile added onto 256 rows. -/
theorem acc2 (off : Fin 3 → ℕ) (o b : ℕ) (inb : ∀ a, off a + (![1, 256, 256] : Fin 3 → ℕ) a ≤ S2x8192x256.size a)
    (w : (Rect.unit (s := S2x8192x256) off (![1, 256, 256] : Fin 3 → ℕ) inb).shape.Idx → Elt Ideal .f32) (L : List (View.Piece (Elt Ideal) S2x8192x256 .f32))
    (ho : off = ![o, b, 0]) (hb : b + 256 ≤ 8192) (ho2 : o < 2) (G : Fin 256 → Fin 256 → EReal)
    (H : ∀ r d : Fin 256, w (ix3 (0 : Fin 1) r d) = (v.read (Elt Ideal) (v.writes (Elt Ideal) f L) (ix3 (⟨o, ho2⟩ : Fin 2) (⟨b + r.val, by omega⟩ : Fin 8192) d) : EReal) + G r d)
    (h : Fin 2) (k : Fin 8192) (d : Fin 256) :
    (v.read (Elt Ideal) (v.writes (Elt Ideal) f ((⟨Rect.unit off (![1, 256, 256] : Fin 3 → ℕ) inb, w⟩ : View.Piece (Elt Ideal) S2x8192x256 .f32) :: L)) (ix3 h k d) : EReal)
      = (v.read (Elt Ideal) (v.writes (Elt Ideal) f L) (ix3 h k d) : EReal) + (if hh : h.val = o ∧ b ≤ k.val ∧ k.val < b + 256 then G ⟨k.val - b, by omega⟩ d else 0) := by
  rw [rd2 v f off o b inb w L h k d ho]
  by_cases hh : h.val = o ∧ b ≤ k.val ∧ k.val < b + 256
  · rw [dif_pos hh, dif_pos hh, H]
    have e1 : (⟨o, ho2⟩ : Fin 2) = h := Fin.ext hh.1.symm
    have e2 : (⟨b + (k.val - b), by omega⟩ : Fin 8192) = k := Fin.ext (by show b + (k.val - b) = k.val; omega)
    rw [e1, e2]
  · rw [dif_neg hh, dif_neg hh]
    exact (add_zero _).symm

def lo (r : Fin 256) : Fin 512 := ⟨r.val, by omega⟩
def hi (r : Fin 256) : Fin 512 := ⟨256 + r.val, by omega⟩

/-- The four contributions of a point are one, on the 512 rows of its query block. -/
theorem comb2 (q : ℕ) (hq : q < 16) (G : Fin 2 → Fin 512 → EReal) (x : EReal) (h : Fin 2) (k : Fin 8192) :
    (((x + (if hh : h.val = 0 ∧ 512 * q ≤ k.val ∧ k.val < 512 * q + 256 then G 0 (lo ⟨k.val - 512 * q, by omega⟩) else 0))
      + (if hh : h.val = 0 ∧ 512 * q + 256 ≤ k.val ∧ k.val < 512 * q + 256 + 256 then G 0 (hi ⟨k.val - (512 * q + 256), by omega⟩) else 0))
      + (if hh : h.val = 1 ∧ 512 * q ≤ k.val ∧ k.val < 512 * q + 256 then G 1 (lo ⟨k.val - 512 * q, by omega⟩) else 0))
      + (if hh : h.val = 1 ∧ 512 * q + 256 ≤ k.val ∧ k.val < 512 * q + 256 + 256 then G 1 (hi ⟨k.val - (512 * q + 256), by omega⟩) else 0)
      = x + (if hh : 512 * q ≤ k.val ∧ k.val < 512 * q + 512 then G h ⟨k.val - 512 * q, by omega⟩ else 0) := by
  obtain rfl | rfl : h = 0 ∨ h = 1 := by omega
  all_goals
    by_cases h1 : 512 * q ≤ k.val ∧ k.val < 512 * q + 256
    · have n2 : ¬(512 * q + 256 ≤ k.val) := by omega
      have n3 : 512 * q ≤ k.val ∧ k.val < 512 * q + 512 := by omega
      simp [h1, n2, n3, lo]
    · by_cases h2 : 512 * q + 256 ≤ k.val ∧ k.val < 512 * q + 256 + 256
      · have n3 : 512 * q ≤ k.val ∧ k.val < 512 * q + 512 := by omega
        have e : 256 + (k.val - (512 * q + 256)) = k.val - 512 * q := by omega
        have n1 : ¬(k.val < 512 * q + 256) := by omega
        simp [n1, h2, n3, hi, e]
      · have n3 : ¬(512 * q ≤ k.val ∧ k.val < 512 * q + 512) := by omega
        simp [h1, h2, n3]

theorem chain2 (L : List (View.Piece (Elt Ideal) S2x8192x256 .f32)) (off1 off2 off3 off4 : Fin 3 → ℕ)
    (inb1 : ∀ a, off1 a + (![1, 256, 256] : Fin 3 → ℕ) a ≤ S2x8192x256.size a) (inb2 : ∀ a, off2 a + (![1, 256, 256] : Fin 3 → ℕ) a ≤ S2x8192x256.size a)
    (inb3 : ∀ a, off3 a + (![1, 256, 256] : Fin 3 → ℕ) a ≤ S2x8192x256.size a) (inb4 : ∀ a, off4 a + (![1, 256, 256] : Fin 3 → ℕ) a ≤ S2x8192x256.size a)
    (w1 : (Rect.unit (s := S2x8192x256) off1 (![1, 256, 256] : Fin 3 → ℕ) inb1).shape.Idx → Elt Ideal .f32)
    (w2 : (Rect.unit (s := S2x8192x256) off2 (![1, 256, 256] : Fin 3 → ℕ) inb2).shape.Idx → Elt Ideal .f32)
    (w3 : (Rect.unit (s := S2x8192x256) off3 (![1, 256, 256] : Fin 3 → ℕ) inb3).shape.Idx → Elt Ideal .f32)
    (w4 : (Rect.unit (s := S2x8192x256) off4 (![1, 256, 256] : Fin 3 → ℕ) inb4).shape.Idx → Elt Ideal .f32)
    (q : ℕ) (hq : q < 16) (ho1 : off1 = ![0, 512 * q, 0]) (ho2 : off2 = ![0, 512 * q + 256, 0]) (ho3 : off3 = ![1, 512 * q, 0]) (ho4 : off4 = ![1, 512 * q + 256, 0])
    (G : Fin 2 → Fin 512 → Fin 256 → EReal)
    (H1 : ∀ r d : Fin 256, w1 (ix3 (0 : Fin 1) r d) = (v.read (Elt Ideal) (v.writes (Elt Ideal) f L) (ix3 (0 : Fin 2) (⟨512 * q + r.val, by omega⟩ : Fin 8192) d) : EReal) + G 0 (lo r) d)
    (H2 : ∀ r d : Fin 256, w2 (ix3 (0 : Fin 1) r d) = (v.read (Elt Ideal) (v.writes (Elt Ideal) f ((⟨Rect.unit off1 (![1, 256, 256] : Fin 3 → ℕ) inb1, w1⟩ : View.Piece (Elt Ideal) S2x8192x256 .f32) :: L)) (ix3 (0 : Fin 2) (⟨512 * q + 256 + r.val, by omega⟩ : Fin 8192) d) : EReal) + G 0 (hi r) d)
    (H3 : ∀ r d : Fin 256, w3 (ix3 (0 : Fin 1) r d) = (v.read (Elt Ideal) (v.writes (Elt Ideal) f ((⟨Rect.unit off2 (![1, 256, 256] : Fin 3 → ℕ) inb2, w2⟩ : View.Piece (Elt Ideal) S2x8192x256 .f32) :: (⟨Rect.unit off1 (![1, 256, 256] : Fin 3 → ℕ) inb1, w1⟩ : View.Piece (Elt Ideal) S2x8192x256 .f32) :: L)) (ix3 (1 : Fin 2) (⟨512 * q + r.val, by omega⟩ : Fin 8192) d) : EReal) + G 1 (lo r) d)
    (H4 : ∀ r d : Fin 256, w4 (ix3 (0 : Fin 1) r d) = (v.read (Elt Ideal) (v.writes (Elt Ideal) f ((⟨Rect.unit off3 (![1, 256, 256] : Fin 3 → ℕ) inb3, w3⟩ : View.Piece (Elt Ideal) S2x8192x256 .f32) :: (⟨Rect.unit off2 (![1, 256, 256] : Fin 3 → ℕ) inb2, w2⟩ : View.Piece (Elt Ideal) S2x8192x256 .f32) :: (⟨Rect.unit off1 (![1, 256, 256] : Fin 3 → ℕ) inb1, w1⟩ : View.Piece (Elt Ideal) S2x8192x256 .f32) :: L)) (ix3 (1 : Fin 2) (⟨512 * q + 256 + r.val, by omega⟩ : Fin 8192) d) : EReal) + G 1 (hi r) d)
    (h : Fin 2) (k : Fin 8192) (d : Fin 256) :
    (v.read (Elt Ideal) (v.writes (Elt Ideal) f ((⟨Rect.unit off4 (![1, 256, 256] : Fin 3 → ℕ) inb4, w4⟩ : View.Piece (Elt Ideal) S2x8192x256 .f32) :: (⟨Rect.unit off3 (![1, 256, 256] : Fin 3 → ℕ) inb3, w3⟩ : View.Piece (Elt Ideal) S2x8192x256 .f32) :: (⟨Rect.unit off2 (![1, 256, 256] : Fin 3 → ℕ) inb2, w2⟩ : View.Piece (Elt Ideal) S2x8192x256 .f32) :: (⟨Rect.unit off1 (![1, 256, 256] : Fin 3 → ℕ) inb1, w1⟩ : View.Piece (Elt Ideal) S2x8192x256 .f32) :: L)) (ix3 h k d) : EReal)
      = (v.read (Elt Ideal) (v.writes (Elt Ideal) f L) (ix3 h k d) : EReal) + (if hh : 512 * q ≤ k.val ∧ k.val < 512 * q + 512 then G h ⟨k.val - 512 * q, by omega⟩ d else 0) := by
  rw [acc2 v f off4 1 (512 * q + 256) inb4 w4 _ ho4 (by omega) (by omega) (fun r d => G 1 (hi r) d) H4,
    acc2 v f off3 1 (512 * q) inb3 w3 _ ho3 (by omega) (by omega) (fun r d => G 1 (lo r) d) H3,
    acc2 v f off2 0 (512 * q + 256) inb2 w2 _ ho2 (by omega) (by omega) (fun r d => G 0 (hi r) d) H2,
    acc2 v f off1 0 (512 * q) inb1 w1 _ ho1 (by omega) (by omega) (fun r d => G 0 (lo r) d) H1]
  exact comb2 q hq (fun h r => G h r d) _ h k

end Acc

/-! ## The four row offsets of query block `q` -/

theorem off2_0 (q : ℕ) (hq : q < 16) (w : BitVec 32) (hw : w = BitVec.ofNat 32 q) : k0_off2 w 0#32 = ![0, 512 * q, 0] := by
  subst hw
  have : ∀ q : Fin 16, k0_off2 (BitVec.ofNat 32 q.val) 0#32 = ![0, 512 * q.val, 0] := by decide
  exact this ⟨q, hq⟩

theorem off2_256 (q : ℕ) (hq : q < 16) (w : BitVec 32) (hw : w = BitVec.ofNat 32 q) : k0_off2 w 256#32 = ![0, 512 * q + 256, 0] := by
  subst hw
  have : ∀ q : Fin 16, k0_off2 (BitVec.ofNat 32 q.val) 256#32 = ![0, 512 * q.val + 256, 0] := by decide
  exact this ⟨q, hq⟩

theorem off3_0 (q : ℕ) (hq : q < 16) (w : BitVec 32) (hw : w = BitVec.ofNat 32 q) : k0_off3 w 0#32 = ![1, 512 * q, 0] := by
  subst hw
  have : ∀ q : Fin 16, k0_off3 (BitVec.ofNat 32 q.val) 0#32 = ![1, 512 * q.val, 0] := by decide
  exact this ⟨q, hq⟩

theorem off3_256 (q : ℕ) (hq : q < 16) (w : BitVec 32) (hw : w = BitVec.ofNat 32 q) : k0_off3 w 256#32 = ![1, 512 * q + 256, 0] := by
  subst hw
  have : ∀ q : Fin 16, k0_off3 (BitVec.ofNat 32 q.val) 256#32 = ![1, 512 * q.val + 256, 0] := by decide
  exact this ⟨q, hq⟩

theorem off4_0 (q : ℕ) (hq : q < 16) (w : BitVec 32) (hw : w = BitVec.ofNat 32 q) : k0_off4 w 0#32 = ![0, 512 * q, 0] := by
  subst hw
  have : ∀ q : Fin 16, k0_off4 (BitVec.ofNat 32 q.val) 0#32 = ![0, 512 * q.val, 0] := by decide
  exact this ⟨q, hq⟩

theorem off4_256 (q : ℕ) (hq : q < 16) (w : BitVec 32) (hw : w = BitVec.ofNat 32 q) : k0_off4 w 256#32 = ![0, 512 * q + 256, 0] := by
  subst hw
  have : ∀ q : Fin 16, k0_off4 (BitVec.ofNat 32 q.val) 256#32 = ![0, 512 * q.val + 256, 0] := by decide
  exact this ⟨q, hq⟩

theorem off5_0 (q : ℕ) (hq : q < 16) (w : BitVec 32) (hw : w = BitVec.ofNat 32 q) : k0_off5 w 0#32 = ![1, 512 * q, 0] := by
  subst hw
  have : ∀ q : Fin 16, k0_off5 (BitVec.ofNat 32 q.val) 0#32 = ![1, 512 * q.val, 0] := by decide
  exact this ⟨q, hq⟩

theorem off5_256 (q : ℕ) (hq : q < 16) (w : BitVec 32) (hw : w = BitVec.ofNat 32 q) : k0_off5 w 256#32 = ![1, 512 * q + 256, 0] := by
  subst hw
  have : ∀ q : Fin 16, k0_off5 (BitVec.ofNat 32 q.val) 256#32 = ![1, 512 * q.val + 256, 0] := by decide
  exact this ⟨q, hq⟩

/-! ## The diagonal block's mask -/

theorem sle_iff (k x : ℕ) (hk : k < 1024) (hx : x < 1024) : (BitVec.ofNat 32 k).sle (BitVec.ofNat 32 x) = decide (k ≤ x) := by
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact decide_eq_decide.mpr Int.ofNat_le

theorem msel (k : Fin 512) (x : ℕ) (hx : x < 1024) (a b : EReal) :
    Scalar.select (IntOp.cmpi CmpIPredicate.sle (BitVec.ofNat 32 k.val) (BitVec.ofNat 32 x)) a b = if ¬k.val ≤ x then b else a := by
  have e : IntOp.cmpi CmpIPredicate.sle (BitVec.ofNat 32 k.val) (BitVec.ofNat 32 x) = BitVec.ofBool (decide (k.val ≤ x)) :=
    congrArg BitVec.ofBool (sle_iff k.val x (by omega) hx)
  rw [e]
  by_cases h : k.val ≤ x
  · rw [if_neg (not_not.mpr h), decide_eq_true h]; rfl
  · rw [if_pos h, decide_eq_false h]; rfl

theorem msel0 (k : Fin 512) (x : Fin 256) (a b : EReal) :
    Scalar.select (IntOp.cmpi CmpIPredicate.sle (BitVec.ofNat 32 k.val) (IntOp.addi (BitVec.ofNat 32 x.val) 0#32)) a b = if ¬k.val ≤ x.val then b else a := by
  rw [← msel k x.val (by omega) a b]
  congr 2
  exact BitVec.add_zero _

theorem msel1 (k : Fin 512) (x : Fin 256) (a b : EReal) :
    Scalar.select (IntOp.cmpi CmpIPredicate.sle (BitVec.ofNat 32 k.val) (IntOp.addi (BitVec.ofNat 32 x.val) 256#32)) a b = if ¬k.val ≤ 256 + x.val then b else a := by
  rw [← msel k (256 + x.val) (by omega) a b]
  congr 2
  show BitVec.ofNat 32 x.val + BitVec.ofNat 32 256 = _
  rw [← BitVec.ofNat_add, Nat.add_comm]

end Cert.KernelIdeal.Fl

end
-- ==== Proof.KI.Sums.lean ====
/- The sums of the attention gradient, block by block and whole. -/
module

public import proofs.«01_k».proof.Proof.KI.Tile

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

/-! ## The gradient's sums, by head and position -/

section
variable (q k : ℕ → ℕ → Fin 256 → EReal) (v o : ℕ → ℕ → Fin 128 → EReal) (l e : ℕ → ℕ → EReal)

/-- The causal weight of key `K` for query `R`. -/
def gW (H K R : ℕ) : EReal := if K ≤ R then Ideal.exp2 (∑ d : Fin 256, k H K d * q H R d - l H R) else 0
/-- The weight's gradient, less the query's mean. -/
def gP (H K R : ℕ) : EReal := ∑ x : Fin 128, v H K x * o H R x - e H R
/-- The score's gradient. -/
def gS (H K R : ℕ) : EReal := gW q k l H K R * gP v o e H K R
/-- What query block `i` adds to the key's gradient. -/
def D0 (H K : ℕ) (d : Fin 256) (i : ℕ) : EReal := ∑ r : Fin 512, gS q k v o l e H K (512 * i + r.val) * q H (512 * i + r.val) d
/-- What query block `i` adds to the value's gradient. -/
def D1 (H K : ℕ) (d : Fin 128) (i : ℕ) : EReal := ∑ r : Fin 512, gW q k l H K (512 * i + r.val) * o H (512 * i + r.val) d
/-- What key block `j` adds to the query's gradient. -/
def D2 (H R : ℕ) (d : Fin 256) (j : ℕ) : EReal := ∑ x : Fin 512, gS q k v o l e H (512 * j + x.val) R * k H (512 * j + x.val) d

theorem sum_blocks (f : ℕ → EReal) : ∑ i ∈ Finset.range 16, ∑ r : Fin 512, f (512 * i + r.val) = ∑ R : Fin 8192, f R.val := by
  rw [Finset.sum_range]
  rw [← Fintype.sum_prod_type' (fun (i : Fin 16) (r : Fin 512) => f (512 * i.val + r.val))]
  refine Fintype.sum_equiv (finProdFinEquiv (m := 16) (n := 512)) _ _ fun x => ?_
  congr 1
  simp only [finProdFinEquiv_apply_val]
  omega

theorem D0_zero (H K : ℕ) (d : Fin 256) (i : ℕ) (h : 512 * i + 512 ≤ K) : D0 q k v o l e H K d i = 0 :=
  Finset.sum_eq_zero fun r _ => by
    rw [gS, gW, if_neg (by have := r.isLt; omega), zero_mul, zero_mul]
theorem D1_zero (H K : ℕ) (d : Fin 128) (i : ℕ) (h : 512 * i + 512 ≤ K) : D1 q k o l H K d i = 0 :=
  Finset.sum_eq_zero fun r _ => by
    rw [gW, if_neg (by have := r.isLt; omega), zero_mul]
theorem D2_zero (H R : ℕ) (d : Fin 256) (j : ℕ) (h : R < 512 * j) : D2 q k v o l e H R d j = 0 :=
  Finset.sum_eq_zero fun x _ => by
    rw [gS, gW, if_neg (by omega), zero_mul, zero_mul]

/-- A sum over the query blocks from the diagonal on is the sum over all queries. -/
theorem sum_up (g : ℕ → EReal) (f : ℕ → EReal) (hg : ∀ i, g i = ∑ r : Fin 512, f (512 * i + r.val)) (j : ℕ) (hj : j < 16)
    (h0 : ∀ i, i < j → g i = 0) : ∑ i ∈ Finset.Icc j 15, g i = ∑ R : Fin 8192, f R.val := by
  rw [← sum_blocks f, ← Finset.sum_congr (s₁ := Finset.range 16) (f := g) rfl fun i _ => hg i]
  refine Finset.sum_subset (fun i hi => ?_) (fun i hi hn => ?_)
  · rw [Finset.mem_Icc] at hi; rw [Finset.mem_range]; omega
  · rw [Finset.mem_range] at hi; rw [Finset.mem_Icc] at hn; exact h0 i (by omega)

/-- The walk's account of the query's gradient at the end of the grid's last row. -/
theorem sum_down (g : ℕ → EReal) (f : ℕ → EReal) (hg : ∀ j, g j = ∑ r : Fin 512, f (512 * j + r.val)) (I : ℕ) (hI : I < 16)
    (h0 : ∀ j, I < j → g j = 0) :
    ∑ j ∈ Finset.range 15, (if j ≤ I then g j else 0) + (if 15 ≤ I ∧ I ≤ 15 then g 15 else 0) = ∑ R : Fin 8192, f R.val := by
  rw [← sum_blocks f, ← Finset.sum_congr (s₁ := Finset.range 16) (f := g) rfl fun i _ => hg i, Finset.sum_range_succ g 15]
  congr 1
  · refine Finset.sum_congr rfl fun j _ => ?_
    by_cases h : j ≤ I
    · rw [if_pos h]
    · rw [if_neg h, h0 j (by omega)]
  · by_cases h : 15 ≤ I
    · rw [if_pos (by omega)]
    · rw [if_neg (by omega), h0 15 (by omega)]
end

end Cert.KernelIdeal.Fl

end
-- ==== Proof.KI.Idx.lean ====
/- The walk over the grid: query block, key block and head pair of every point. -/
module

public import proofs.«01_k».proof.Proof.KI.Hyps

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

/-! ## Query block, key block and head pair of a point -/

def qL : List ℕ := [0, 1, 2, 3, 4, 5, 6, 7, 8, 9, 10, 11, 12, 13, 14, 15, 1, 2, 3, 4, 5, 6, 7, 8, 9, 10, 11, 12, 13, 14, 15, 2, 3, 4, 5, 6, 7, 8, 9, 10, 11, 12, 13, 14, 15, 3, 4, 5, 6, 7, 8, 9, 10, 11, 12, 13, 14, 15, 4, 5, 6, 7, 8, 9, 10, 11, 12, 13, 14, 15, 5, 6, 7, 8, 9, 10, 11, 12, 13, 14, 15, 6, 7, 8, 9, 10, 11, 12, 13, 14, 15, 7, 8, 9, 10, 11, 12, 13, 14, 15, 8, 9, 10, 11, 12, 13, 14, 15, 9, 10, 11, 12, 13, 14, 15, 10, 11, 12, 13, 14, 15, 11, 12, 13, 14, 15, 12, 13, 14, 15, 13, 14, 15, 14, 15, 15]
def kL : List ℕ := [0, 0, 0, 0, 0, 0, 0, 0, 0, 0, 0, 0, 0, 0, 0, 0, 1, 1, 1, 1, 1, 1, 1, 1, 1, 1, 1, 1, 1, 1, 1, 2, 2, 2, 2, 2, 2, 2, 2, 2, 2, 2, 2, 2, 2, 3, 3, 3, 3, 3, 3, 3, 3, 3, 3, 3, 3, 3, 4, 4, 4, 4, 4, 4, 4, 4, 4, 4, 4, 4, 5, 5, 5, 5, 5, 5, 5, 5, 5, 5, 5, 6, 6, 6, 6, 6, 6, 6, 6, 6, 6, 7, 7, 7, 7, 7, 7, 7, 7, 7, 8, 8, 8, 8, 8, 8, 8, 8, 9, 9, 9, 9, 9, 9, 9, 10, 10, 10, 10, 10, 10, 11, 11, 11, 11, 11, 12, 12, 12, 12, 13, 13, 13, 14, 14, 15]
/-- Query block of point `n`. -/
def qN (n : ℕ) : ℕ := qL.getD (n % 136) 0
/-- Key block of point `n`. -/
def kN (n : ℕ) : ℕ := kL.getD (n % 136) 0
/-- Head pair of point `n`. -/
def gN (n : ℕ) : ℕ := n / 136

theorem walk : ∀ n : Fin 136, kN n.val ≤ qN n.val ∧ qN n.val < 16 ∧ (n.val = 0 → qN n.val = 0 ∧ kN n.val = 0)
    ∧ (n.val ≠ 0 → (qN n.val = kN n.val → kN n.val = kN (n.val - 1) + 1 ∧ qN (n.val - 1) = 15)
      ∧ (qN n.val ≠ kN n.val → kN n.val = kN (n.val - 1) ∧ qN n.val = qN (n.val - 1) + 1)) := by decide +kernel

abbrev FactsV (t : Fin (cfgA Bits).N) : Prop :=
  ((crd (F := Bits) t (0 : Fin 2)).val = gN t.val) ∧ ((wd0 (F := Bits) T0 (crd (F := Bits) t)) = BitVec.ofNat 32 (qN t.val)) ∧ ((wd1 (F := Bits) T1 (crd (F := Bits) t)) = BitVec.ofNat 32 (kN t.val))
  ∧ (decide (isFst (crd (F := Bits) t)) = decide (t.val % 136 = 0))
  ∧ (decide (isDiag (wd0 (F := Bits) T0 (crd (F := Bits) t)) (wd1 (F := Bits) T1 (crd (F := Bits) t))) = decide (qN t.val = kN t.val))
  ∧ (decide (k0_cond5 (wd0 (F := Bits) T0 (crd (F := Bits) t)) = 1#1) = decide (qN t.val = 15))
  ∧ (decide (k0_cond6 (crd (F := Bits) t) = 1#1) = decide (t.val % 136 = 135))
theorem fv_0 : ∀ t : Fin (cfgA Bits).N, 0 ≤ t.val → t.val < 136 → FactsV t := by decide +kernel
theorem fv_1 : ∀ t : Fin (cfgA Bits).N, 136 ≤ t.val → t.val < 272 → FactsV t := by decide +kernel
theorem fv_2 : ∀ t : Fin (cfgA Bits).N, 272 ≤ t.val → t.val < 408 → FactsV t := by decide +kernel
theorem fv_3 : ∀ t : Fin (cfgA Bits).N, 408 ≤ t.val → t.val < 544 → FactsV t := by decide +kernel
theorem fv_4 : ∀ t : Fin (cfgA Bits).N, 544 ≤ t.val → t.val < 680 → FactsV t := by decide +kernel
theorem fv_5 : ∀ t : Fin (cfgA Bits).N, 680 ≤ t.val → t.val < 816 → FactsV t := by decide +kernel
theorem fv_6 : ∀ t : Fin (cfgA Bits).N, 816 ≤ t.val → t.val < 952 → FactsV t := by decide +kernel
theorem fv_7 : ∀ t : Fin (cfgA Bits).N, 952 ≤ t.val → t.val < 1088 → FactsV t := by decide +kernel
theorem factsV : ∀ t : Fin (cfgA Bits).N, FactsV t := fun t => by
  have h0 : 0 ≤ t.val := Nat.zero_le _
  rcases Nat.lt_or_ge t.val 136 with h1 | h1; · exact fv_0 t h0 h1
  rcases Nat.lt_or_ge t.val 272 with h2 | h2; · exact fv_1 t h1 h2
  rcases Nat.lt_or_ge t.val 408 with h3 | h3; · exact fv_2 t h2 h3
  rcases Nat.lt_or_ge t.val 544 with h4 | h4; · exact fv_3 t h3 h4
  rcases Nat.lt_or_ge t.val 680 with h5 | h5; · exact fv_4 t h4 h5
  rcases Nat.lt_or_ge t.val 816 with h6 | h6; · exact fv_5 t h5 h6
  rcases Nat.lt_or_ge t.val 952 with h7 | h7; · exact fv_6 t h6 h7
  exact fv_7 t h7 t.isLt

variable {F : FTy → Type} [FloatOps F] [Named F]

theorem iff_of_dec (a b : Prop) [Decidable a] [Decidable b] (h : decide a = decide b) : a ↔ b := by
  by_cases a <;> by_cases b <;> simp_all

theorem gvB (t : Fin (cfgA Bits).N) : (crd (F := Bits) t (0 : Fin 2)).val = gN t.val := (factsV t).1
theorem gv (t : Fin (cfgA F).N) : (crd t (0 : Fin 2)).val = gN t.val := gvB t
theorem w0B (t : Fin (cfgA Bits).N) : wd0 (F := Bits) T0 (crd (F := Bits) t) = BitVec.ofNat 32 (qN t.val) := (factsV t).2.1
theorem w0 (t : Fin (cfgA F).N) : wd0 (F := F) T0 (crd t) = BitVec.ofNat 32 (qN t.val) := w0B t
theorem w1B (t : Fin (cfgA Bits).N) : wd1 (F := Bits) T1 (crd (F := Bits) t) = BitVec.ofNat 32 (kN t.val) := (factsV t).2.2.1
theorem w1 (t : Fin (cfgA F).N) : wd1 (F := F) T1 (crd t) = BitVec.ofNat 32 (kN t.val) := w1B t
theorem pFvB (t : Fin (cfgA Bits).N) : pF t ↔ t.val % 136 = 0 := iff_of_dec _ _ (factsV t).2.2.2.1
theorem pFv (t : Fin (cfgA F).N) : pF t ↔ t.val % 136 = 0 := pFvB t
theorem pDvB (t : Fin (cfgA Bits).N) : pD t ↔ qN t.val = kN t.val := iff_of_dec _ _ (factsV t).2.2.2.2.1
theorem pDv (t : Fin (cfgA F).N) : pD t ↔ qN t.val = kN t.val := pDvB t
theorem pEvB (t : Fin (cfgA Bits).N) : pE t ↔ qN t.val = 15 := iff_of_dec _ _ (factsV t).2.2.2.2.2.1
theorem pEv (t : Fin (cfgA F).N) : pE t ↔ qN t.val = 15 := pEvB t
theorem pLvB (t : Fin (cfgA Bits).N) : pL t ↔ t.val % 136 = 135 := iff_of_dec _ _ (factsV t).2.2.2.2.2.2
theorem pLv (t : Fin (cfgA F).N) : pL t ↔ t.val % 136 = 135 := pLvB t
theorem Nv : (cfgA F).N = 1088 := rfl
theorem qN_mod (n : ℕ) : qN (n % 136) = qN n := by unfold qN; rw [Nat.mod_mod]
theorem kN_mod (n : ℕ) : kN (n % 136) = kN n := by unfold kN; rw [Nat.mod_mod]
theorem qN_lt (n : ℕ) : qN n < 16 := by
  rw [← qN_mod]; exact (walk ⟨n % 136, Nat.mod_lt _ (by decide)⟩).2.1
theorem kN_le (n : ℕ) : kN n ≤ qN n := by
  rw [← qN_mod, ← kN_mod]; exact (walk ⟨n % 136, Nat.mod_lt _ (by decide)⟩).1
theorem kN_lt (n : ℕ) : kN n < 16 := lt_of_le_of_lt (kN_le n) (qN_lt n)
theorem walk_0 (n : ℕ) (h : n % 136 = 0) : qN n = 0 ∧ kN n = 0 := by
  rw [← qN_mod, ← kN_mod]; exact (walk ⟨n % 136, Nat.mod_lt _ (by decide)⟩).2.2.1 h
/-- The next point of a head group: the next key block's diagonal pair, or the next query block. -/
theorem walk_s (n : ℕ) (h : (n + 1) % 136 ≠ 0) :
    gN (n + 1) = gN n ∧ (qN (n + 1) = kN (n + 1) → kN (n + 1) = kN n + 1 ∧ qN n = 15)
      ∧ (qN (n + 1) ≠ kN (n + 1) → kN (n + 1) = kN n ∧ qN (n + 1) = qN n + 1) := by
  have e : (n + 1) % 136 - 1 = n % 136 := by omega
  have w := (walk ⟨(n + 1) % 136, Nat.mod_lt _ (by decide)⟩).2.2.2 h
  dsimp only at w
  rw [e, qN_mod, kN_mod, qN_mod, kN_mod] at w
  exact ⟨by unfold gN; omega, w⟩

end Cert.KernelIdeal.Fl

end
-- ==== Proof.KI.Ixw.lean ====
/- Where the windows of a point lie. -/
module

public import proofs.«01_k».proof.Proof.KI.Idx
public import proofs.«01_k».proof.Proof.KI.Tile

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-! ## Where each window's block lies -/
theorem gN_lt (t : Fin (cfgA Ideal).N) : gN t.val < 8 := by
  have : t.val < 1088 := t.isLt
  unfold gN; omega
theorem toNat32 (n : ℕ) (h : n < 16) : (BitVec.ofNat 32 n).toNat = n := by
  rw [BitVec.toNat_ofNat]; omega
theorem ix_0 (t : Fin (cfgA Ideal).N) : ((pcfg0 (F := Ideal)).win (adm (F := Ideal)) (0 : Fin 9)).index t = ![gN t.val, qN t.val, 0] := by
  have e : ((pcfg0 (F := Ideal)).win (adm (F := Ideal)) (0 : Fin 9)).index t = cc0_transform_0 k0_off1_inb numel1_S1 pfN (crd t) := rfl
  rw [e]
  have g0 : (BitVec.ofNat 32 (crd t (0 : Fin 2)).val).toNat = gN t.val := by rw [gv t]; exact toNat32 _ (by have := gN_lt t; omega)
  have a0 : (wd0 (F := Ideal) T0 (crd t)).toNat = qN t.val := by rw [w0 t]; exact toNat32 _ (qN_lt _)
  have a1 : (wd1 (F := Ideal) T1 (crd t)).toNat = kN t.val := by rw [w1 t]; exact toNat32 _ (kN_lt _)
  rw [← g0, ← a0]
  rfl
theorem ix_1 (t : Fin (cfgA Ideal).N) : ((pcfg0 (F := Ideal)).win (adm (F := Ideal)) (1 : Fin 9)).index t = ![gN t.val, kN t.val, 0] := by
  have e : ((pcfg0 (F := Ideal)).win (adm (F := Ideal)) (1 : Fin 9)).index t = cc0_transform_1 k0_off1_inb numel1_S1 pfN (crd t) := rfl
  rw [e]
  have g0 : (BitVec.ofNat 32 (crd t (0 : Fin 2)).val).toNat = gN t.val := by rw [gv t]; exact toNat32 _ (by have := gN_lt t; omega)
  have a0 : (wd0 (F := Ideal) T0 (crd t)).toNat = qN t.val := by rw [w0 t]; exact toNat32 _ (qN_lt _)
  have a1 : (wd1 (F := Ideal) T1 (crd t)).toNat = kN t.val := by rw [w1 t]; exact toNat32 _ (kN_lt _)
  rw [← g0, ← a1]
  rfl
theorem ix_2 (t : Fin (cfgA Ideal).N) : ((pcfg0 (F := Ideal)).win (adm (F := Ideal)) (2 : Fin 9)).index t = ![gN t.val, kN t.val, 0] := by
  have e : ((pcfg0 (F := Ideal)).win (adm (F := Ideal)) (2 : Fin 9)).index t = cc0_transform_2 k0_off1_inb numel1_S1 pfN (crd t) := rfl
  rw [e]
  have g0 : (BitVec.ofNat 32 (crd t (0 : Fin 2)).val).toNat = gN t.val := by rw [gv t]; exact toNat32 _ (by have := gN_lt t; omega)
  have a0 : (wd0 (F := Ideal) T0 (crd t)).toNat = qN t.val := by rw [w0 t]; exact toNat32 _ (qN_lt _)
  have a1 : (wd1 (F := Ideal) T1 (crd t)).toNat = kN t.val := by rw [w1 t]; exact toNat32 _ (kN_lt _)
  rw [← g0, ← a1]
  rfl
theorem ix_3 (t : Fin (cfgA Ideal).N) : ((pcfg0 (F := Ideal)).win (adm (F := Ideal)) (3 : Fin 9)).index t = ![qN t.val, gN t.val] := by
  have e : ((pcfg0 (F := Ideal)).win (adm (F := Ideal)) (3 : Fin 9)).index t = cc0_transform_3 k0_off1_inb numel1_S1 pfN (crd t) := rfl
  rw [e]
  have g0 : (BitVec.ofNat 32 (crd t (0 : Fin 2)).val).toNat = gN t.val := by rw [gv t]; exact toNat32 _ (by have := gN_lt t; omega)
  have a0 : (wd0 (F := Ideal) T0 (crd t)).toNat = qN t.val := by rw [w0 t]; exact toNat32 _ (qN_lt _)
  have a1 : (wd1 (F := Ideal) T1 (crd t)).toNat = kN t.val := by rw [w1 t]; exact toNat32 _ (kN_lt _)
  rw [← g0, ← a0]
  rfl
theorem ix_4 (t : Fin (cfgA Ideal).N) : ((pcfg0 (F := Ideal)).win (adm (F := Ideal)) (4 : Fin 9)).index t = ![gN t.val, 0, qN t.val] := by
  have e : ((pcfg0 (F := Ideal)).win (adm (F := Ideal)) (4 : Fin 9)).index t = cc0_transform_4 k0_off1_inb numel1_S1 pfN (crd t) := rfl
  rw [e]
  have g0 : (BitVec.ofNat 32 (crd t (0 : Fin 2)).val).toNat = gN t.val := by rw [gv t]; exact toNat32 _ (by have := gN_lt t; omega)
  have a0 : (wd0 (F := Ideal) T0 (crd t)).toNat = qN t.val := by rw [w0 t]; exact toNat32 _ (qN_lt _)
  have a1 : (wd1 (F := Ideal) T1 (crd t)).toNat = kN t.val := by rw [w1 t]; exact toNat32 _ (kN_lt _)
  rw [← g0, ← a0]
  rfl
theorem ix_5 (t : Fin (cfgA Ideal).N) : ((pcfg0 (F := Ideal)).win (adm (F := Ideal)) (5 : Fin 9)).index t = ![gN t.val, 0, qN t.val] := by
  have e : ((pcfg0 (F := Ideal)).win (adm (F := Ideal)) (5 : Fin 9)).index t = cc0_transform_5 k0_off1_inb numel1_S1 pfN (crd t) := rfl
  rw [e]
  have g0 : (BitVec.ofNat 32 (crd t (0 : Fin 2)).val).toNat = gN t.val := by rw [gv t]; exact toNat32 _ (by have := gN_lt t; omega)
  have a0 : (wd0 (F := Ideal) T0 (crd t)).toNat = qN t.val := by rw [w0 t]; exact toNat32 _ (qN_lt _)
  have a1 : (wd1 (F := Ideal) T1 (crd t)).toNat = kN t.val := by rw [w1 t]; exact toNat32 _ (kN_lt _)
  rw [← g0, ← a0]
  rfl
theorem ix_6 (t : Fin (cfgA Ideal).N) : ((pcfg0 (F := Ideal)).win (adm (F := Ideal)) (6 : Fin 9)).index t = ![gN t.val, 0, 0] := by
  have e : ((pcfg0 (F := Ideal)).win (adm (F := Ideal)) (6 : Fin 9)).index t = cc0_transform_6 (crd t) := rfl
  rw [e]
  have g0 : (BitVec.ofNat 32 (crd t (0 : Fin 2)).val).toNat = gN t.val := by rw [gv t]; exact toNat32 _ (by have := gN_lt t; omega)
  have a0 : (wd0 (F := Ideal) T0 (crd t)).toNat = qN t.val := by rw [w0 t]; exact toNat32 _ (qN_lt _)
  have a1 : (wd1 (F := Ideal) T1 (crd t)).toNat = kN t.val := by rw [w1 t]; exact toNat32 _ (kN_lt _)
  rw [← g0]
  rfl
theorem ix_7 (t : Fin (cfgA Ideal).N) : ((pcfg0 (F := Ideal)).win (adm (F := Ideal)) (7 : Fin 9)).index t = ![gN t.val, kN t.val, 0] := by
  have e : ((pcfg0 (F := Ideal)).win (adm (F := Ideal)) (7 : Fin 9)).index t = cc0_transform_7 k0_off1_inb numel1_S1 pfN (crd t) := rfl
  rw [e]
  have g0 : (BitVec.ofNat 32 (crd t (0 : Fin 2)).val).toNat = gN t.val := by rw [gv t]; exact toNat32 _ (by have := gN_lt t; omega)
  have a0 : (wd0 (F := Ideal) T0 (crd t)).toNat = qN t.val := by rw [w0 t]; exact toNat32 _ (qN_lt _)
  have a1 : (wd1 (F := Ideal) T1 (crd t)).toNat = kN t.val := by rw [w1 t]; exact toNat32 _ (kN_lt _)
  rw [← g0, ← a1]
  rfl
theorem ix_8 (t : Fin (cfgA Ideal).N) : ((pcfg0 (F := Ideal)).win (adm (F := Ideal)) (8 : Fin 9)).index t = ![gN t.val, kN t.val, 0] := by
  have e : ((pcfg0 (F := Ideal)).win (adm (F := Ideal)) (8 : Fin 9)).index t = cc0_transform_8 k0_off1_inb numel1_S1 pfN (crd t) := rfl
  rw [e]
  have g0 : (BitVec.ofNat 32 (crd t (0 : Fin 2)).val).toNat = gN t.val := by rw [gv t]; exact toNat32 _ (by have := gN_lt t; omega)
  have a0 : (wd0 (F := Ideal) T0 (crd t)).toNat = qN t.val := by rw [w0 t]; exact toNat32 _ (qN_lt _)
  have a1 : (wd1 (F := Ideal) T1 (crd t)).toNat = kN t.val := by rw [w1 t]; exact toNat32 _ (kN_lt _)
  rw [← g0, ← a1]
  rfl

end Cert.KernelIdeal.Fl

end
-- ==== Proof.KI.Arr.lean ====
/- The input blocks of a point, read at head and position. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-! ## The arrays by head and position -/

def aq (c : Dev nD) (H R : ℕ) (d : Fin 256) : EReal := if h : H < 16 ∧ R < 8192 then (V m c main_v8 : S16x8192x256.Idx → EReal) (ix3 ⟨H, h.1⟩ ⟨R, h.2⟩ d) else 0
def ak (c : Dev nD) (H R : ℕ) (d : Fin 256) : EReal := if h : H < 16 ∧ R < 8192 then (V m c main_v12 : S16x8192x256.Idx → EReal) (ix3 ⟨H, h.1⟩ ⟨R, h.2⟩ d) else 0
def av (c : Dev nD) (H R : ℕ) (e : Fin 128) : EReal := if h : H < 16 ∧ R < 8192 then (V m c main_v14 : S16x8192x128.Idx → EReal) (ix3 ⟨H, h.1⟩ ⟨R, h.2⟩ e) else 0
def ao (c : Dev nD) (H R : ℕ) (e : Fin 128) : EReal := if h : H < 16 ∧ R < 8192 then (V m c main_v16 : S8192x2048.Idx → EReal) (ix2 ⟨R, h.2⟩ ⟨128 * H + e.val, by have := h.1; omega⟩) else 0
def al (c : Dev nD) (H R : ℕ) : EReal := if h : H < 16 ∧ R < 8192 then (V m c main_v46 : S16x8x8192.Idx → EReal) (ix3 ⟨H, h.1⟩ 0 ⟨R, h.2⟩) else 0
def ad (c : Dev nD) (H R : ℕ) : EReal := if h : H < 16 ∧ R < 8192 then (V m c main_v47 : S16x8x8192.Idx → EReal) (ix3 ⟨H, h.1⟩ 0 ⟨R, h.2⟩) else 0

end Cert.KernelIdeal.Fl

end
-- ==== Proof.KI.Emb0.lean ====
/- The input blocks of a point, read at head and position. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem emb_0 (t : Fin (cfgA Ideal).N) (h : Fin 2) (r : Fin 512) (d : Fin 256) (hc : 2 * gN t.val + h.val < 16 ∧ 512 * qN t.val + r.val < 8192) :
    (((cfgA Ideal).win (0 : Fin 9)).blk t).view.emb (ix3 h r d) = (ix3 ⟨2 * gN t.val + h.val, hc.1⟩ ⟨512 * qN t.val + r.val, hc.2⟩ d : S16x8192x256.Idx) := by
  have em (a) := Pipeline.Window.rect_emb_val ((cfgA Ideal).win (0 : Fin 9)) t (ix3 h r d) a rfl
  have ei := ix_0 t
  have i0 : ((cfgA Ideal).win (0 : Fin 9)).index t (0 : Fin 3) = gN t.val := congrFun ei (0 : Fin 3)
  have s0 : ((cfgA Ideal).win (0 : Fin 9)).size (0 : Fin 3) = 2 := rfl
  have y0 : ((ix3 h r d) (0 : Fin 3)).val = h.val := rfl
  have f0 : gN t.val * 2 + h.val = 2 * gN t.val + h.val := by omega
  have i1 : ((cfgA Ideal).win (0 : Fin 9)).index t (1 : Fin 3) = qN t.val := congrFun ei (1 : Fin 3)
  have s1 : ((cfgA Ideal).win (0 : Fin 9)).size (1 : Fin 3) = 512 := rfl
  have y1 : ((ix3 h r d) (1 : Fin 3)).val = r.val := rfl
  have f1 : qN t.val * 512 + r.val = 512 * qN t.val + r.val := by omega
  have i2 : ((cfgA Ideal).win (0 : Fin 9)).index t (2 : Fin 3) = 0 := congrFun ei (2 : Fin 3)
  have s2 : ((cfgA Ideal).win (0 : Fin 9)).size (2 : Fin 3) = 256 := rfl
  have y2 : ((ix3 h r d) (2 : Fin 3)).val = d.val := rfl
  have f2 : 0 * 256 + d.val = d.val := by omega
  refine funext fun a => Fin.ext ?_
  fin_cases a
  · exact ((em (0 : Fin 3)).trans (congrArg₂ (· + ·) (congrArg₂ (· * ·) i0 s0) y0)).trans f0
  · exact ((em (1 : Fin 3)).trans (congrArg₂ (· + ·) (congrArg₂ (· * ·) i1 s1) y1)).trans f1
  · exact ((em (2 : Fin 3)).trans (congrArg₂ (· + ·) (congrArg₂ (· * ·) i2 s2) y2)).trans f2

end Cert.KernelIdeal.Fl

end
-- ==== Proof.KI.Blk0.lean ====
/- The input blocks of a point, read at head and position. -/
module

public import Idealize.ShloMosaic.Lib.Pipeline.ValueKit.Geometry
public import proofs.«01_k».proof.Proof.KI.Arr
public import proofs.«01_k».proof.Proof.KI.Emb0

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem blk_0 (c : Dev nD) (t : Fin (cfgA Ideal).N) (h : Fin 2) (r : Fin 512) (d : Fin 256) : (iblk m c 0 t : B0) (ix3 h r d) = aq m c (2 * gN t.val + h.val) (512 * qN t.val + r.val) d := by
  have hg := gN_lt t
  have hb := qN_lt t.val
  have hc : 2 * gN t.val + h.val < 16 ∧ 512 * qN t.val + r.val < 8192 := by omega
  rw [aq, dif_pos hc]
  unfold iblk
  generalize V m c = X
  exact congrArg (X main_v8) (emb_0 t h r d hc)

end Cert.KernelIdeal.Fl

end
-- ==== Proof.KI.Emb1.lean ====
/- The input blocks of a point, read at head and position. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem emb_1 (t : Fin (cfgA Ideal).N) (h : Fin 2) (r : Fin 512) (d : Fin 256) (hc : 2 * gN t.val + h.val < 16 ∧ 512 * kN t.val + r.val < 8192) :
    (((cfgA Ideal).win (1 : Fin 9)).blk t).view.emb (ix3 h r d) = (ix3 ⟨2 * gN t.val + h.val, hc.1⟩ ⟨512 * kN t.val + r.val, hc.2⟩ d : S16x8192x256.Idx) := by
  have em (a) := Pipeline.Window.rect_emb_val ((cfgA Ideal).win (1 : Fin 9)) t (ix3 h r d) a rfl
  have ei := ix_1 t
  have i0 : ((cfgA Ideal).win (1 : Fin 9)).index t (0 : Fin 3) = gN t.val := congrFun ei (0 : Fin 3)
  have s0 : ((cfgA Ideal).win (1 : Fin 9)).size (0 : Fin 3) = 2 := rfl
  have y0 : ((ix3 h r d) (0 : Fin 3)).val = h.val := rfl
  have f0 : gN t.val * 2 + h.val = 2 * gN t.val + h.val := by omega
  have i1 : ((cfgA Ideal).win (1 : Fin 9)).index t (1 : Fin 3) = kN t.val := congrFun ei (1 : Fin 3)
  have s1 : ((cfgA Ideal).win (1 : Fin 9)).size (1 : Fin 3) = 512 := rfl
  have y1 : ((ix3 h r d) (1 : Fin 3)).val = r.val := rfl
  have f1 : kN t.val * 512 + r.val = 512 * kN t.val + r.val := by omega
  have i2 : ((cfgA Ideal).win (1 : Fin 9)).index t (2 : Fin 3) = 0 := congrFun ei (2 : Fin 3)
  have s2 : ((cfgA Ideal).win (1 : Fin 9)).size (2 : Fin 3) = 256 := rfl
  have y2 : ((ix3 h r d) (2 : Fin 3)).val = d.val := rfl
  have f2 : 0 * 256 + d.val = d.val := by omega
  refine funext fun a => Fin.ext ?_
  fin_cases a
  · exact ((em (0 : Fin 3)).trans (congrArg₂ (· + ·) (congrArg₂ (· * ·) i0 s0) y0)).trans f0
  · exact ((em (1 : Fin 3)).trans (congrArg₂ (· + ·) (congrArg₂ (· * ·) i1 s1) y1)).trans f1
  · exact ((em (2 : Fin 3)).trans (congrArg₂ (· + ·) (congrArg₂ (· * ·) i2 s2) y2)).trans f2

end Cert.KernelIdeal.Fl

end
-- ==== Proof.KI.Blk1.lean ====
/- The input blocks of a point, read at head and position. -/
module

public import Idealize.ShloMosaic.Lib.Pipeline.ValueKit.Geometry
public import proofs.«01_k».proof.Proof.KI.Arr
public import proofs.«01_k».proof.Proof.KI.Emb1

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem blk_1 (c : Dev nD) (t : Fin (cfgA Ideal).N) (h : Fin 2) (r : Fin 512) (d : Fin 256) : (iblk m c 1 t : B0) (ix3 h r d) = ak m c (2 * gN t.val + h.val) (512 * kN t.val + r.val) d := by
  have hg := gN_lt t
  have hb := kN_lt t.val
  have hc : 2 * gN t.val + h.val < 16 ∧ 512 * kN t.val + r.val < 8192 := by omega
  rw [ak, dif_pos hc]
  unfold iblk
  generalize V m c = X
  exact congrArg (X main_v12) (emb_1 t h r d hc)

end Cert.KernelIdeal.Fl

end
-- ==== Proof.KI.Emb2.lean ====
/- The input blocks of a point, read at head and position. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem emb_2 (t : Fin (cfgA Ideal).N) (h : Fin 2) (r : Fin 512) (d : Fin 128) (hc : 2 * gN t.val + h.val < 16 ∧ 512 * kN t.val + r.val < 8192) :
    (((cfgA Ideal).win (2 : Fin 9)).blk t).view.emb (ix3 h r d) = (ix3 ⟨2 * gN t.val + h.val, hc.1⟩ ⟨512 * kN t.val + r.val, hc.2⟩ d : S16x8192x128.Idx) := by
  have em (a) := Pipeline.Window.rect_emb_val ((cfgA Ideal).win (2 : Fin 9)) t (ix3 h r d) a rfl
  have ei := ix_2 t
  have i0 : ((cfgA Ideal).win (2 : Fin 9)).index t (0 : Fin 3) = gN t.val := congrFun ei (0 : Fin 3)
  have s0 : ((cfgA Ideal).win (2 : Fin 9)).size (0 : Fin 3) = 2 := rfl
  have y0 : ((ix3 h r d) (0 : Fin 3)).val = h.val := rfl
  have f0 : gN t.val * 2 + h.val = 2 * gN t.val + h.val := by omega
  have i1 : ((cfgA Ideal).win (2 : Fin 9)).index t (1 : Fin 3) = kN t.val := congrFun ei (1 : Fin 3)
  have s1 : ((cfgA Ideal).win (2 : Fin 9)).size (1 : Fin 3) = 512 := rfl
  have y1 : ((ix3 h r d) (1 : Fin 3)).val = r.val := rfl
  have f1 : kN t.val * 512 + r.val = 512 * kN t.val + r.val := by omega
  have i2 : ((cfgA Ideal).win (2 : Fin 9)).index t (2 : Fin 3) = 0 := congrFun ei (2 : Fin 3)
  have s2 : ((cfgA Ideal).win (2 : Fin 9)).size (2 : Fin 3) = 128 := rfl
  have y2 : ((ix3 h r d) (2 : Fin 3)).val = d.val := rfl
  have f2 : 0 * 128 + d.val = d.val := by omega
  refine funext fun a => Fin.ext ?_
  fin_cases a
  · exact ((em (0 : Fin 3)).trans (congrArg₂ (· + ·) (congrArg₂ (· * ·) i0 s0) y0)).trans f0
  · exact ((em (1 : Fin 3)).trans (congrArg₂ (· + ·) (congrArg₂ (· * ·) i1 s1) y1)).trans f1
  · exact ((em (2 : Fin 3)).trans (congrArg₂ (· + ·) (congrArg₂ (· * ·) i2 s2) y2)).trans f2

end Cert.KernelIdeal.Fl

end
-- ==== Proof.KI.Blk2.lean ====
/- The input blocks of a point, read at head and position. -/
module

public import Idealize.ShloMosaic.Lib.Pipeline.ValueKit.Geometry
public import proofs.«01_k».proof.Proof.KI.Arr
public import proofs.«01_k».proof.Proof.KI.Emb2

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem blk_2 (c : Dev nD) (t : Fin (cfgA Ideal).N) (h : Fin 2) (r : Fin 512) (d : Fin 128) : (iblk m c 2 t : B2) (ix3 h r d) = av m c (2 * gN t.val + h.val) (512 * kN t.val + r.val) d := by
  have hg := gN_lt t
  have hb := kN_lt t.val
  have hc : 2 * gN t.val + h.val < 16 ∧ 512 * kN t.val + r.val < 8192 := by omega
  rw [av, dif_pos hc]
  unfold iblk
  generalize V m c = X
  exact congrArg (X main_v14) (emb_2 t h r d hc)

end Cert.KernelIdeal.Fl

end
-- ==== Proof.KI.Emb3.lean ====
/- The input blocks of a point, read at head and position. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem emb_3 (t : Fin (cfgA Ideal).N) (h : Fin 2) (r : Fin 512) (e : Fin 128) (hc : 2 * gN t.val + h.val < 16 ∧ 512 * qN t.val + r.val < 8192) :
    (((cfgA Ideal).win (3 : Fin 9)).blk t).view.emb (ix2 r (hcol h e)) = (ix2 ⟨512 * qN t.val + r.val, hc.2⟩ ⟨128 * (2 * gN t.val + h.val) + e.val, by have := hc.1; omega⟩ : S8192x2048.Idx) := by
  have em (a) := Pipeline.Window.rect_emb_val ((cfgA Ideal).win (3 : Fin 9)) t (ix2 r (hcol h e)) a rfl
  have ei := ix_3 t
  have i0 : ((cfgA Ideal).win (3 : Fin 9)).index t (0 : Fin 2) = qN t.val := congrFun ei (0 : Fin 2)
  have s0 : ((cfgA Ideal).win (3 : Fin 9)).size (0 : Fin 2) = 512 := rfl
  have y0 : ((ix2 r (hcol h e)) (0 : Fin 2)).val = r.val := rfl
  have f0 : qN t.val * 512 + r.val = 512 * qN t.val + r.val := by omega
  have i1 : ((cfgA Ideal).win (3 : Fin 9)).index t (1 : Fin 2) = gN t.val := congrFun ei (1 : Fin 2)
  have s1 : ((cfgA Ideal).win (3 : Fin 9)).size (1 : Fin 2) = 256 := rfl
  have y1 : ((ix2 r (hcol h e)) (1 : Fin 2)).val = (128 * h.val + e.val) := rfl
  have f1 : gN t.val * 256 + (128 * h.val + e.val) = 128 * (2 * gN t.val + h.val) + e.val := by omega
  refine funext fun a => Fin.ext ?_
  fin_cases a
  · exact ((em (0 : Fin 2)).trans (congrArg₂ (· + ·) (congrArg₂ (· * ·) i0 s0) y0)).trans f0
  · exact ((em (1 : Fin 2)).trans (congrArg₂ (· + ·) (congrArg₂ (· * ·) i1 s1) y1)).trans f1

end Cert.KernelIdeal.Fl

end
-- ==== Proof.KI.Blk3.lean ====
/- The input blocks of a point, read at head and position. -/
module

public import Idealize.ShloMosaic.Lib.Pipeline.ValueKit.Geometry
public import proofs.«01_k».proof.Proof.KI.Arr
public import proofs.«01_k».proof.Proof.KI.Emb3

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem blk_3 (c : Dev nD) (t : Fin (cfgA Ideal).N) (h : Fin 2) (r : Fin 512) (e : Fin 128) : (iblk m c 3 t : B3) (ix2 r (hcol h e)) = ao m c (2 * gN t.val + h.val) (512 * qN t.val + r.val) e := by
  have hg := gN_lt t
  have hb := qN_lt t.val
  have hc : 2 * gN t.val + h.val < 16 ∧ 512 * qN t.val + r.val < 8192 := by omega
  rw [ao, dif_pos hc]
  unfold iblk
  generalize V m c = X
  exact congrArg (X main_v16) (emb_3 t h r e hc)

end Cert.KernelIdeal.Fl

end
-- ==== Proof.KI.Emb4.lean ====
/- The input blocks of a point, read at head and position. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem emb_4 (t : Fin (cfgA Ideal).N) (h : Fin 2) (r : Fin 512) (hc : 2 * gN t.val + h.val < 16 ∧ 512 * qN t.val + r.val < 8192) :
    (((cfgA Ideal).win (4 : Fin 9)).blk t).view.emb (ix3 h (0 : Fin 8) r) = (ix3 ⟨2 * gN t.val + h.val, hc.1⟩ (0 : Fin 8) ⟨512 * qN t.val + r.val, hc.2⟩ : S16x8x8192.Idx) := by
  have em (a) := Pipeline.Window.rect_emb_val ((cfgA Ideal).win (4 : Fin 9)) t (ix3 h (0 : Fin 8) r) a rfl
  have ei := ix_4 t
  have i0 : ((cfgA Ideal).win (4 : Fin 9)).index t (0 : Fin 3) = gN t.val := congrFun ei (0 : Fin 3)
  have s0 : ((cfgA Ideal).win (4 : Fin 9)).size (0 : Fin 3) = 2 := rfl
  have y0 : ((ix3 h (0 : Fin 8) r) (0 : Fin 3)).val = h.val := rfl
  have f0 : gN t.val * 2 + h.val = 2 * gN t.val + h.val := by omega
  have i1 : ((cfgA Ideal).win (4 : Fin 9)).index t (1 : Fin 3) = 0 := congrFun ei (1 : Fin 3)
  have s1 : ((cfgA Ideal).win (4 : Fin 9)).size (1 : Fin 3) = 8 := rfl
  have y1 : ((ix3 h (0 : Fin 8) r) (1 : Fin 3)).val = 0 := rfl
  have f1 : 0 * 8 + 0 = 0 := by omega
  have i2 : ((cfgA Ideal).win (4 : Fin 9)).index t (2 : Fin 3) = qN t.val := congrFun ei (2 : Fin 3)
  have s2 : ((cfgA Ideal).win (4 : Fin 9)).size (2 : Fin 3) = 512 := rfl
  have y2 : ((ix3 h (0 : Fin 8) r) (2 : Fin 3)).val = r.val := rfl
  have f2 : qN t.val * 512 + r.val = 512 * qN t.val + r.val := by omega
  refine funext fun a => Fin.ext ?_
  fin_cases a
  · exact ((em (0 : Fin 3)).trans (congrArg₂ (· + ·) (congrArg₂ (· * ·) i0 s0) y0)).trans f0
  · exact ((em (1 : Fin 3)).trans (congrArg₂ (· + ·) (congrArg₂ (· * ·) i1 s1) y1)).trans f1
  · exact ((em (2 : Fin 3)).trans (congrArg₂ (· + ·) (congrArg₂ (· * ·) i2 s2) y2)).trans f2

end Cert.KernelIdeal.Fl

end
-- ==== Proof.KI.Blk4.lean ====
/- The input blocks of a point, read at head and position. -/
module

public import Idealize.ShloMosaic.Lib.Pipeline.ValueKit.Geometry
public import proofs.«01_k».proof.Proof.KI.Arr
public import proofs.«01_k».proof.Proof.KI.Emb4

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-- The fetched log-sums, read where their block lies. -/
theorem rd_4 (c : Dev nD) (t : Fin (cfgA Ideal).N) (X : (b : Ref sig .tc) → Buf (Elt Ideal) ((c : Thread nD τ).loc b)) (y) :
    (((cfgA Ideal).win (4 : Fin 9)).blk t).view.read (Elt Ideal) (X (Pipeline.arrRef (cfgA Ideal).spec (4 : Fin 9))) y
      = X main_v46 ((((cfgA Ideal).win (4 : Fin 9)).blk t).view.emb y) := rfl
theorem at_4 (c : Dev nD) (t : Fin (cfgA Ideal).N) (X : (b : Ref sig .tc) → Buf (Elt Ideal) ((c : Thread nD τ).loc b)) (h : Fin 2) (r : Fin 512)
    (hc : 2 * gN t.val + h.val < 16 ∧ 512 * qN t.val + r.val < 8192) :
    X main_v46 ((((cfgA Ideal).win (4 : Fin 9)).blk t).view.emb (ix3 h (0 : Fin 8) r))
      = X main_v46 (ix3 ⟨2 * gN t.val + h.val, hc.1⟩ (0 : Fin 8) ⟨512 * qN t.val + r.val, hc.2⟩ : S16x8x8192.Idx) := congrArg (X main_v46) (emb_4 t h r hc)
theorem blk_4 (c : Dev nD) (t : Fin (cfgA Ideal).N) (h : Fin 2) (r : Fin 512) : (iblk m c 4 t : B4) (ix3 h 0 r) = al m c (2 * gN t.val + h.val) (512 * qN t.val + r.val) := by
  have hg := gN_lt t
  have hb := qN_lt t.val
  have hc : 2 * gN t.val + h.val < 16 ∧ 512 * qN t.val + r.val < 8192 := by omega
  rw [al, dif_pos hc]
  exact (rd_4 c t (V m c) (ix3 h (0 : Fin 8) r)).trans (at_4 c t (V m c) h r hc)

end Cert.KernelIdeal.Fl

end
-- ==== Proof.KI.Emb5.lean ====
/- The input blocks of a point, read at head and position. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem emb_5 (t : Fin (cfgA Ideal).N) (h : Fin 2) (r : Fin 512) (hc : 2 * gN t.val + h.val < 16 ∧ 512 * qN t.val + r.val < 8192) :
    (((cfgA Ideal).win (5 : Fin 9)).blk t).view.emb (ix3 h (0 : Fin 8) r) = (ix3 ⟨2 * gN t.val + h.val, hc.1⟩ (0 : Fin 8) ⟨512 * qN t.val + r.val, hc.2⟩ : S16x8x8192.Idx) := by
  have em (a) := Pipeline.Window.rect_emb_val ((cfgA Ideal).win (5 : Fin 9)) t (ix3 h (0 : Fin 8) r) a rfl
  have ei := ix_5 t
  have i0 : ((cfgA Ideal).win (5 : Fin 9)).index t (0 : Fin 3) = gN t.val := congrFun ei (0 : Fin 3)
  have s0 : ((cfgA Ideal).win (5 : Fin 9)).size (0 : Fin 3) = 2 := rfl
  have y0 : ((ix3 h (0 : Fin 8) r) (0 : Fin 3)).val = h.val := rfl
  have f0 : gN t.val * 2 + h.val = 2 * gN t.val + h.val := by omega
  have i1 : ((cfgA Ideal).win (5 : Fin 9)).index t (1 : Fin 3) = 0 := congrFun ei (1 : Fin 3)
  have s1 : ((cfgA Ideal).win (5 : Fin 9)).size (1 : Fin 3) = 8 := rfl
  have y1 : ((ix3 h (0 : Fin 8) r) (1 : Fin 3)).val = 0 := rfl
  have f1 : 0 * 8 + 0 = 0 := by omega
  have i2 : ((cfgA Ideal).win (5 : Fin 9)).index t (2 : Fin 3) = qN t.val := congrFun ei (2 : Fin 3)
  have s2 : ((cfgA Ideal).win (5 : Fin 9)).size (2 : Fin 3) = 512 := rfl
  have y2 : ((ix3 h (0 : Fin 8) r) (2 : Fin 3)).val = r.val := rfl
  have f2 : qN t.val * 512 + r.val = 512 * qN t.val + r.val := by omega
  refine funext fun a => Fin.ext ?_
  fin_cases a
  · exact ((em (0 : Fin 3)).trans (congrArg₂ (· + ·) (congrArg₂ (· * ·) i0 s0) y0)).trans f0
  · exact ((em (1 : Fin 3)).trans (congrArg₂ (· + ·) (congrArg₂ (· * ·) i1 s1) y1)).trans f1
  · exact ((em (2 : Fin 3)).trans (congrArg₂ (· + ·) (congrArg₂ (· * ·) i2 s2) y2)).trans f2

end Cert.KernelIdeal.Fl

end
-- ==== Proof.KI.Blk5.lean ====
/- The input blocks of a point, read at head and position. -/
module

public import Idealize.ShloMosaic.Lib.Pipeline.ValueKit.Geometry
public import proofs.«01_k».proof.Proof.KI.Arr
public import proofs.«01_k».proof.Proof.KI.Emb5

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem blk_5 (c : Dev nD) (t : Fin (cfgA Ideal).N) (h : Fin 2) (r : Fin 512) : (iblk m c 5 t : B4) (ix3 h 0 r) = ad m c (2 * gN t.val + h.val) (512 * qN t.val + r.val) := by
  have hg := gN_lt t
  have hb := qN_lt t.val
  have hc : 2 * gN t.val + h.val < 16 ∧ 512 * qN t.val + r.val < 8192 := by omega
  rw [ad, dif_pos hc]
  unfold iblk
  generalize V m c = X
  exact congrArg (X main_v47) (emb_5 t h r hc)

end Cert.KernelIdeal.Fl

end
-- ==== Proof.KI.Blocks.lean ====
/- The input blocks of a point, read at head and position. -/
module

public import Idealize.ShloMosaic.Lib.Pipeline.ValueKit.Geometry
public import proofs.«01_k».proof.Proof.KI.Blk0
public import proofs.«01_k».proof.Proof.KI.Blk1
public import proofs.«01_k».proof.Proof.KI.Blk2
public import proofs.«01_k».proof.Proof.KI.Blk3
public import proofs.«01_k».proof.Proof.KI.Blk4
public import proofs.«01_k».proof.Proof.KI.Blk5

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

end Cert.KernelIdeal.Fl

end
-- ==== Proof.KI.ValA.lean ====
/- Path A of the body over the reals: the scratches after a point, at an element. -/
module

public import proofs.«01_k».proof.Proof.KI.Tile
public import proofs.«01_k».proof.Proof.KI.Dat

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem A_sc0 (c : Dev nD) (t : Fin (cfgA Ideal).N) (p : St Ideal c) (q0 : pF t) (h : Fin 2) (k : Fin 512) (d : Fin 256) :
    (sc0.view.read (Elt Ideal) (RA m c t q0).1 (ix3 h k d) : EReal)
      = ∑ r : Fin 512, dsc True (iblk m c 0 t) (iblk m c 1 t) (iblk m c 2 t) (iblk m c 3 t) (iblk m c 4 t) (iblk m c 5 t) h k r * (iblk m c 0 t : B0) (ix3 h r d) := by
  unfold RA runA
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runA.sl.HS0_1, runA.sl.HS0_2, runA.sl.HS0_3, runA.sl.HS0_4, runA.sl.HS0_5, runA.sl.HS1_1, runA.sl.HS1_2, runA.sl.HS1_3, runA.sl.HS1_4, runA.sl.HS1_5, runA.sl.HS2_1, runA.sl.HS2_2, runA.sl.HS2_3, runA.sl.HS2_4, runA.sl.cst, runA.sl.cst_33, runA.sl.cst_42, runA.sl.cst_62, runA.sl.r, runA.sl.r_1, runA.sl.r_2, runA.sl.r_3, runA.sl.v101, runA.sl.v102, runA.sl.v104, runA.sl.v105, runA.sl.v106, runA.sl.v107, runA.sl.v110, runA.sl.v112, runA.sl.v114, runA.sl.v116, runA.sl.v117, runA.sl.v118, runA.sl.v119, runA.sl.v120, runA.sl.v121, runA.sl.v122, runA.sl.v123, runA.sl.v126, runA.sl.v127, runA.sl.v130, runA.sl.v131, runA.sl.v132, runA.sl.v135, runA.sl.v136, runA.sl.v139, runA.sl.v141, runA.sl.v143, runA.sl.v145, runA.sl.v147, runA.sl.v148, runA.sl.v149, runA.sl.v153, runA.sl.v157, runA.sl.v158, runA.sl.v162, runA.sl.v163, runA.sl.v165, runA.sl.v166, runA.sl.v167, runA.sl.v168, runA.sl.v175, runA.sl.v177, runA.sl.v178, runA.sl.v179, runA.sl.v180, runA.sl.v181, runA.sl.v182, runA.sl.v183, runA.sl.v184, runA.sl.v187, runA.sl.v188, runA.sl.v191, runA.sl.v192, runA.sl.v193, runA.sl.v196, runA.sl.v197, runA.sl.v200, runA.sl.v206, runA.sl.v209, runA.sl.v210, runA.sl.v214, runA.sl.v216, runA.sl.v217, runA.sl.v218, runA.sl.v219, runA.sl.v226, runA.sl.v228, runA.sl.v229, runA.sl.v23, runA.sl.v230, runA.sl.v231, runA.sl.v232, runA.sl.v233, runA.sl.v234, runA.sl.v235, runA.sl.v238, runA.sl.v239, runA.sl.v242, runA.sl.v243, runA.sl.v244, runA.sl.v25, runA.sl.v26, runA.sl.v28, runA.sl.v30, runA.sl.v31, runA.sl.v35, runA.sl.v36, runA.sl.v4, runA.sl.v40, runA.sl.v41, runA.sl.v43, runA.sl.v44, runA.sl.v45, runA.sl.v46, runA.sl.v47, runA.sl.v48, runA.sl.v49, runA.sl.v5, runA.sl.v51, runA.sl.v52, runA.sl.v53, runA.sl.v55, runA.sl.v56, runA.sl.v57, runA.sl.v58, runA.sl.v59, runA.sl.v6, runA.sl.v60, runA.sl.v61, runA.sl.v62, runA.sl.v65, runA.sl.v66, runA.sl.v69, runA.sl.v7, runA.sl.v70, runA.sl.v71, runA.sl.v74, runA.sl.v75, runA.sl.v78, runA.sl.v79, runA.sl.v8, runA.sl.v80, runA.sl.v82, runA.sl.v84, runA.sl.v87, runA.sl.v88, runA.sl.v9, runA.sl.v92, runA.sl.v94, runA.sl.v96, runA.sl.v97, runA.sl.v99, View.readCov]
    pointwise [rd0, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem A_sc1 (c : Dev nD) (t : Fin (cfgA Ideal).N) (p : St Ideal c) (q0 : pF t) (h : Fin 2) (k : Fin 512) (d : Fin 128) :
    (sc1.view.read (Elt Ideal) (RA m c t q0).2.1 (ix3 h k d) : EReal)
      = ∑ r : Fin 512, wt True (iblk m c 0 t) (iblk m c 1 t) (iblk m c 4 t) h k r * (iblk m c 3 t : B3) (ix2 r (hcol h d)) := by
  unfold RA runA
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runA.sl.HS0_1, runA.sl.HS0_2, runA.sl.HS0_3, runA.sl.HS0_4, runA.sl.HS0_5, runA.sl.HS1_1, runA.sl.HS1_2, runA.sl.HS1_3, runA.sl.HS1_4, runA.sl.HS1_5, runA.sl.HS2_1, runA.sl.HS2_2, runA.sl.HS2_3, runA.sl.HS2_4, runA.sl.cst, runA.sl.cst_33, runA.sl.cst_42, runA.sl.cst_62, runA.sl.r, runA.sl.r_1, runA.sl.r_2, runA.sl.r_3, runA.sl.v101, runA.sl.v102, runA.sl.v104, runA.sl.v105, runA.sl.v106, runA.sl.v107, runA.sl.v110, runA.sl.v112, runA.sl.v114, runA.sl.v116, runA.sl.v117, runA.sl.v118, runA.sl.v119, runA.sl.v120, runA.sl.v121, runA.sl.v122, runA.sl.v123, runA.sl.v126, runA.sl.v127, runA.sl.v130, runA.sl.v131, runA.sl.v132, runA.sl.v135, runA.sl.v136, runA.sl.v139, runA.sl.v141, runA.sl.v143, runA.sl.v145, runA.sl.v147, runA.sl.v148, runA.sl.v149, runA.sl.v153, runA.sl.v157, runA.sl.v158, runA.sl.v162, runA.sl.v163, runA.sl.v165, runA.sl.v166, runA.sl.v167, runA.sl.v168, runA.sl.v175, runA.sl.v177, runA.sl.v178, runA.sl.v179, runA.sl.v180, runA.sl.v181, runA.sl.v182, runA.sl.v183, runA.sl.v184, runA.sl.v187, runA.sl.v188, runA.sl.v191, runA.sl.v192, runA.sl.v193, runA.sl.v196, runA.sl.v197, runA.sl.v200, runA.sl.v206, runA.sl.v209, runA.sl.v210, runA.sl.v214, runA.sl.v216, runA.sl.v217, runA.sl.v218, runA.sl.v219, runA.sl.v226, runA.sl.v228, runA.sl.v229, runA.sl.v23, runA.sl.v230, runA.sl.v231, runA.sl.v232, runA.sl.v233, runA.sl.v234, runA.sl.v235, runA.sl.v238, runA.sl.v239, runA.sl.v242, runA.sl.v243, runA.sl.v244, runA.sl.v25, runA.sl.v26, runA.sl.v28, runA.sl.v30, runA.sl.v31, runA.sl.v35, runA.sl.v36, runA.sl.v4, runA.sl.v40, runA.sl.v41, runA.sl.v43, runA.sl.v44, runA.sl.v45, runA.sl.v46, runA.sl.v47, runA.sl.v48, runA.sl.v49, runA.sl.v5, runA.sl.v51, runA.sl.v52, runA.sl.v53, runA.sl.v55, runA.sl.v56, runA.sl.v57, runA.sl.v58, runA.sl.v59, runA.sl.v6, runA.sl.v60, runA.sl.v61, runA.sl.v62, runA.sl.v65, runA.sl.v66, runA.sl.v69, runA.sl.v7, runA.sl.v70, runA.sl.v71, runA.sl.v74, runA.sl.v75, runA.sl.v78, runA.sl.v79, runA.sl.v8, runA.sl.v80, runA.sl.v82, runA.sl.v84, runA.sl.v87, runA.sl.v88, runA.sl.v9, runA.sl.v92, runA.sl.v94, runA.sl.v96, runA.sl.v97, runA.sl.v99, View.readCov]
    pointwise [rd1, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem A_sc2 (c : Dev nD) (t : Fin (cfgA Ideal).N) (p : St Ideal c) (q0 : pF t) (q : ℕ) (hq : q < 16) (hw : wd0 (F := Ideal) T0 (crd t) = BitVec.ofNat 32 q)
    (h : Fin 2) (R : Fin 8192) (d : Fin 256) :
    (sc2.view.read (Elt Ideal) (RA m c t q0).2.2.1 (ix3 h R d) : EReal)
      = (0 : EReal)
        + (if hh : 512 * q ≤ R.val ∧ R.val < 512 * q + 512 then ∑ k : Fin 512, dsc True (iblk m c 0 t) (iblk m c 1 t) (iblk m c 2 t) (iblk m c 3 t) (iblk m c 4 t) (iblk m c 5 t) h k ⟨R.val - 512 * q, by omega⟩ * (iblk m c 1 t : B0) (ix3 h k d) else 0) := by
  have hr : (runA.sl.r (F := Ideal) (crd t) T0) = BitVec.ofNat 32 q := hw
  have ra1 := fun f inb => ra2 (View.whole cc0_scratch2) f (k0_off4 (runA.sl.r (F := Ideal) (crd t) T0) 0#32) 0 (512 * q) (by omega) inb (off4_0 q hq _ hr)
  have rb2 := fun f inb => ra2 (View.whole cc0_scratch2) f (k0_off4 (runA.sl.r (F := Ideal) (crd t) T0) 256#32) 0 (512 * q + 256) (by omega) inb (off4_256 q hq _ hr)
  have ra3 := fun f inb => ra2 (View.whole cc0_scratch2) f (k0_off5 (runA.sl.r (F := Ideal) (crd t) T0) 0#32) 1 (512 * q) (by omega) inb (off5_0 q hq _ hr)
  have ra4 := fun f inb => ra2 (View.whole cc0_scratch2) f (k0_off5 (runA.sl.r (F := Ideal) (crd t) T0) 256#32) 1 (512 * q + 256) (by omega) inb (off5_256 q hq _ hr)
  unfold RA runA
  dsimp only
  generalize iblk m c 0 t = x0
  generalize iblk m c 1 t = x1
  generalize iblk m c 2 t = x2
  generalize iblk m c 3 t = x3
  generalize iblk m c 4 t = x4
  generalize iblk m c 5 t = x5
  refine (chain2 (View.whole cc0_scratch2) _ _ _ _ _ _ _ _ _ _ _ _ _ _ q hq (off4_0 q hq _ hr) (off4_256 q hq _ hr) (off5_0 q hq _ hr) (off5_256 q hq _ hr)
    (fun h r d => ∑ k : Fin 512, dsc True x0 x1 x2 x3 x4 x5 h k r * x1 (ix3 h k d)) ?_ ?_ ?_ ?_ h R d).trans (congrArg (· + _) ?_)
  all_goals
    first
    | intro r d
      simp only [runA.sl.HS0_1, runA.sl.HS0_2, runA.sl.HS0_3, runA.sl.HS0_4, runA.sl.HS0_5, runA.sl.HS1_1, runA.sl.HS1_2, runA.sl.HS1_3, runA.sl.HS1_4, runA.sl.HS1_5, runA.sl.HS2_1, runA.sl.HS2_2, runA.sl.HS2_3, runA.sl.HS2_4, runA.sl.cst, runA.sl.cst_33, runA.sl.cst_42, runA.sl.cst_62, runA.sl.r_2, runA.sl.r_3, runA.sl.v101, runA.sl.v102, runA.sl.v104, runA.sl.v105, runA.sl.v106, runA.sl.v107, runA.sl.v110, runA.sl.v112, runA.sl.v114, runA.sl.v116, runA.sl.v117, runA.sl.v118, runA.sl.v119, runA.sl.v120, runA.sl.v121, runA.sl.v122, runA.sl.v123, runA.sl.v126, runA.sl.v127, runA.sl.v130, runA.sl.v131, runA.sl.v132, runA.sl.v135, runA.sl.v136, runA.sl.v139, runA.sl.v141, runA.sl.v143, runA.sl.v145, runA.sl.v147, runA.sl.v148, runA.sl.v149, runA.sl.v153, runA.sl.v157, runA.sl.v158, runA.sl.v162, runA.sl.v163, runA.sl.v165, runA.sl.v166, runA.sl.v167, runA.sl.v168, runA.sl.v175, runA.sl.v177, runA.sl.v178, runA.sl.v179, runA.sl.v180, runA.sl.v181, runA.sl.v182, runA.sl.v183, runA.sl.v184, runA.sl.v187, runA.sl.v188, runA.sl.v191, runA.sl.v192, runA.sl.v193, runA.sl.v196, runA.sl.v197, runA.sl.v200, runA.sl.v206, runA.sl.v209, runA.sl.v210, runA.sl.v214, runA.sl.v216, runA.sl.v217, runA.sl.v218, runA.sl.v219, runA.sl.v226, runA.sl.v228, runA.sl.v229, runA.sl.v23, runA.sl.v230, runA.sl.v231, runA.sl.v232, runA.sl.v233, runA.sl.v234, runA.sl.v235, runA.sl.v238, runA.sl.v239, runA.sl.v242, runA.sl.v243, runA.sl.v244, runA.sl.v25, runA.sl.v26, runA.sl.v28, runA.sl.v30, runA.sl.v31, runA.sl.v35, runA.sl.v36, runA.sl.v4, runA.sl.v40, runA.sl.v41, runA.sl.v43, runA.sl.v44, runA.sl.v45, runA.sl.v46, runA.sl.v47, runA.sl.v48, runA.sl.v49, runA.sl.v5, runA.sl.v51, runA.sl.v52, runA.sl.v53, runA.sl.v55, runA.sl.v56, runA.sl.v57, runA.sl.v58, runA.sl.v59, runA.sl.v6, runA.sl.v60, runA.sl.v61, runA.sl.v62, runA.sl.v65, runA.sl.v66, runA.sl.v69, runA.sl.v7, runA.sl.v70, runA.sl.v71, runA.sl.v74, runA.sl.v75, runA.sl.v78, runA.sl.v79, runA.sl.v8, runA.sl.v80, runA.sl.v82, runA.sl.v84, runA.sl.v87, runA.sl.v88, runA.sl.v9, runA.sl.v92, runA.sl.v94, runA.sl.v96, runA.sl.v97, runA.sl.v99]
      pointwise [ra1, rb2, ra3, ra4, View.readAt_rep, k0_pay1, k0_pay2, k0_pay3, k0_pay4, k0_pay5]
      simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
      rfl
    | simp only [runA.sl.HS2_1]
      pointwise [rdw, k0_pay1]

end Cert.KernelIdeal.Fl

end
-- ==== Proof.KI.ValB.lean ====
/- Path B of the body over the reals: the scratches after a point, at an element. -/
module

public import proofs.«01_k».proof.Proof.KI.Tile
public import proofs.«01_k».proof.Proof.KI.Dat

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem B_sc0 (c : Dev nD) (t : Fin (cfgA Ideal).N) (p : St Ideal c) (q0 : ¬pF t) (q1 : ¬pD t) (q2 : ¬pE t) (h : Fin 2) (k : Fin 512) (d : Fin 256) :
    (sc0.view.read (Elt Ideal) (RB m c t p.1 p.2.1 p.2.2 q0 q1 q2).1 (ix3 h k d) : EReal)
      = (sc0.view.read (Elt Ideal) p.1 (ix3 h k d) : EReal)
        + ∑ r : Fin 512, dsc False (iblk m c 0 t) (iblk m c 1 t) (iblk m c 2 t) (iblk m c 3 t) (iblk m c 4 t) (iblk m c 5 t) h k r * (iblk m c 0 t : B0) (ix3 h r d) := by
  unfold RB runB
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runB.sl.HS0_1, runB.sl.HS0_3, runB.sl.HS0_4, runB.sl.HS1_1, runB.sl.HS1_3, runB.sl.HS1_4, runB.sl.HS2_1, runB.sl.HS2_2, runB.sl.HS2_3, runB.sl.cst, runB.sl.cst_40, runB.sl.cst_60, runB.sl.r, runB.sl.r_1, runB.sl.v100, runB.sl.v102, runB.sl.v103, runB.sl.v104, runB.sl.v105, runB.sl.v106, runB.sl.v107, runB.sl.v108, runB.sl.v109, runB.sl.v112, runB.sl.v113, runB.sl.v116, runB.sl.v117, runB.sl.v118, runB.sl.v121, runB.sl.v122, runB.sl.v125, runB.sl.v127, runB.sl.v129, runB.sl.v131, runB.sl.v134, runB.sl.v135, runB.sl.v139, runB.sl.v143, runB.sl.v144, runB.sl.v148, runB.sl.v149, runB.sl.v151, runB.sl.v152, runB.sl.v153, runB.sl.v154, runB.sl.v156, runB.sl.v157, runB.sl.v158, runB.sl.v159, runB.sl.v160, runB.sl.v161, runB.sl.v162, runB.sl.v163, runB.sl.v166, runB.sl.v167, runB.sl.v170, runB.sl.v171, runB.sl.v172, runB.sl.v175, runB.sl.v176, runB.sl.v179, runB.sl.v185, runB.sl.v188, runB.sl.v189, runB.sl.v193, runB.sl.v195, runB.sl.v196, runB.sl.v197, runB.sl.v198, runB.sl.v200, runB.sl.v201, runB.sl.v202, runB.sl.v203, runB.sl.v204, runB.sl.v205, runB.sl.v206, runB.sl.v207, runB.sl.v210, runB.sl.v211, runB.sl.v214, runB.sl.v215, runB.sl.v216, runB.sl.v219, runB.sl.v220, runB.sl.v223, runB.sl.v229, runB.sl.v23, runB.sl.v232, runB.sl.v233, runB.sl.v237, runB.sl.v25, runB.sl.v26, runB.sl.v28, runB.sl.v30, runB.sl.v31, runB.sl.v35, runB.sl.v36, runB.sl.v4, runB.sl.v40, runB.sl.v41, runB.sl.v43, runB.sl.v44, runB.sl.v45, runB.sl.v46, runB.sl.v48, runB.sl.v49, runB.sl.v5, runB.sl.v50, runB.sl.v51, runB.sl.v52, runB.sl.v54, runB.sl.v55, runB.sl.v58, runB.sl.v59, runB.sl.v6, runB.sl.v62, runB.sl.v64, runB.sl.v67, runB.sl.v68, runB.sl.v7, runB.sl.v71, runB.sl.v72, runB.sl.v73, runB.sl.v75, runB.sl.v77, runB.sl.v8, runB.sl.v80, runB.sl.v81, runB.sl.v85, runB.sl.v87, runB.sl.v89, runB.sl.v9, runB.sl.v90, runB.sl.v92, runB.sl.v94, runB.sl.v95, runB.sl.v97, runB.sl.v98, runB.sl.v99, View.readCov]
    pointwise [rd0, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem B_sc1 (c : Dev nD) (t : Fin (cfgA Ideal).N) (p : St Ideal c) (q0 : ¬pF t) (q1 : ¬pD t) (q2 : ¬pE t) (h : Fin 2) (k : Fin 512) (d : Fin 128) :
    (sc1.view.read (Elt Ideal) (RB m c t p.1 p.2.1 p.2.2 q0 q1 q2).2.1 (ix3 h k d) : EReal)
      = (sc1.view.read (Elt Ideal) p.2.1 (ix3 h k d) : EReal)
        + ∑ r : Fin 512, wt False (iblk m c 0 t) (iblk m c 1 t) (iblk m c 4 t) h k r * (iblk m c 3 t : B3) (ix2 r (hcol h d)) := by
  unfold RB runB
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runB.sl.HS0_1, runB.sl.HS0_3, runB.sl.HS0_4, runB.sl.HS1_1, runB.sl.HS1_3, runB.sl.HS1_4, runB.sl.HS2_1, runB.sl.HS2_2, runB.sl.HS2_3, runB.sl.cst, runB.sl.cst_40, runB.sl.cst_60, runB.sl.r, runB.sl.r_1, runB.sl.v100, runB.sl.v102, runB.sl.v103, runB.sl.v104, runB.sl.v105, runB.sl.v106, runB.sl.v107, runB.sl.v108, runB.sl.v109, runB.sl.v112, runB.sl.v113, runB.sl.v116, runB.sl.v117, runB.sl.v118, runB.sl.v121, runB.sl.v122, runB.sl.v125, runB.sl.v127, runB.sl.v129, runB.sl.v131, runB.sl.v134, runB.sl.v135, runB.sl.v139, runB.sl.v143, runB.sl.v144, runB.sl.v148, runB.sl.v149, runB.sl.v151, runB.sl.v152, runB.sl.v153, runB.sl.v154, runB.sl.v156, runB.sl.v157, runB.sl.v158, runB.sl.v159, runB.sl.v160, runB.sl.v161, runB.sl.v162, runB.sl.v163, runB.sl.v166, runB.sl.v167, runB.sl.v170, runB.sl.v171, runB.sl.v172, runB.sl.v175, runB.sl.v176, runB.sl.v179, runB.sl.v185, runB.sl.v188, runB.sl.v189, runB.sl.v193, runB.sl.v195, runB.sl.v196, runB.sl.v197, runB.sl.v198, runB.sl.v200, runB.sl.v201, runB.sl.v202, runB.sl.v203, runB.sl.v204, runB.sl.v205, runB.sl.v206, runB.sl.v207, runB.sl.v210, runB.sl.v211, runB.sl.v214, runB.sl.v215, runB.sl.v216, runB.sl.v219, runB.sl.v220, runB.sl.v223, runB.sl.v229, runB.sl.v23, runB.sl.v232, runB.sl.v233, runB.sl.v237, runB.sl.v25, runB.sl.v26, runB.sl.v28, runB.sl.v30, runB.sl.v31, runB.sl.v35, runB.sl.v36, runB.sl.v4, runB.sl.v40, runB.sl.v41, runB.sl.v43, runB.sl.v44, runB.sl.v45, runB.sl.v46, runB.sl.v48, runB.sl.v49, runB.sl.v5, runB.sl.v50, runB.sl.v51, runB.sl.v52, runB.sl.v54, runB.sl.v55, runB.sl.v58, runB.sl.v59, runB.sl.v6, runB.sl.v62, runB.sl.v64, runB.sl.v67, runB.sl.v68, runB.sl.v7, runB.sl.v71, runB.sl.v72, runB.sl.v73, runB.sl.v75, runB.sl.v77, runB.sl.v8, runB.sl.v80, runB.sl.v81, runB.sl.v85, runB.sl.v87, runB.sl.v89, runB.sl.v9, runB.sl.v90, runB.sl.v92, runB.sl.v94, runB.sl.v95, runB.sl.v97, runB.sl.v98, runB.sl.v99, View.readCov]
    pointwise [rd1, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem B_sc2 (c : Dev nD) (t : Fin (cfgA Ideal).N) (p : St Ideal c) (q0 : ¬pF t) (q1 : ¬pD t) (q2 : ¬pE t) (q : ℕ) (hq : q < 16) (hw : wd0 (F := Ideal) T0 (crd t) = BitVec.ofNat 32 q)
    (h : Fin 2) (R : Fin 8192) (d : Fin 256) :
    (sc2.view.read (Elt Ideal) (RB m c t p.1 p.2.1 p.2.2 q0 q1 q2).2.2.1 (ix3 h R d) : EReal)
      = (sc2.view.read (Elt Ideal) p.2.2 (ix3 h R d) : EReal)
        + (if hh : 512 * q ≤ R.val ∧ R.val < 512 * q + 512 then ∑ k : Fin 512, dsc False (iblk m c 0 t) (iblk m c 1 t) (iblk m c 2 t) (iblk m c 3 t) (iblk m c 4 t) (iblk m c 5 t) h k ⟨R.val - 512 * q, by omega⟩ * (iblk m c 1 t : B0) (ix3 h k d) else 0) := by
  have hr : (runB.sl.r (F := Ideal) (crd t) T0) = BitVec.ofNat 32 q := hw
  have ra1 := fun f inb => ra2 (View.whole cc0_scratch2) f (k0_off2 (runB.sl.r (F := Ideal) (crd t) T0) 0#32) 0 (512 * q) (by omega) inb (off2_0 q hq _ hr)
  have rb2 := fun f inb => ra2 (View.whole cc0_scratch2) f (k0_off2 (runB.sl.r (F := Ideal) (crd t) T0) 256#32) 0 (512 * q + 256) (by omega) inb (off2_256 q hq _ hr)
  have ra3 := fun f inb => ra2 (View.whole cc0_scratch2) f (k0_off3 (runB.sl.r (F := Ideal) (crd t) T0) 0#32) 1 (512 * q) (by omega) inb (off3_0 q hq _ hr)
  have ra4 := fun f inb => ra2 (View.whole cc0_scratch2) f (k0_off3 (runB.sl.r (F := Ideal) (crd t) T0) 256#32) 1 (512 * q + 256) (by omega) inb (off3_256 q hq _ hr)
  unfold RB runB
  dsimp only
  generalize iblk m c 0 t = x0
  generalize iblk m c 1 t = x1
  generalize iblk m c 2 t = x2
  generalize iblk m c 3 t = x3
  generalize iblk m c 4 t = x4
  generalize iblk m c 5 t = x5
  refine (chain2 (View.whole cc0_scratch2) _ [] _ _ _ _ _ _ _ _ _ _ _ _ q hq (off2_0 q hq _ hr) (off2_256 q hq _ hr) (off3_0 q hq _ hr) (off3_256 q hq _ hr)
    (fun h r d => ∑ k : Fin 512, dsc False x0 x1 x2 x3 x4 x5 h k r * x1 (ix3 h k d)) ?_ ?_ ?_ ?_ h R d)
  all_goals
    first
    | intro r d
      simp only [runB.sl.HS0_1, runB.sl.HS0_3, runB.sl.HS0_4, runB.sl.HS1_1, runB.sl.HS1_3, runB.sl.HS1_4, runB.sl.HS2_1, runB.sl.HS2_2, runB.sl.HS2_3, runB.sl.cst, runB.sl.cst_40, runB.sl.cst_60, runB.sl.v100, runB.sl.v102, runB.sl.v103, runB.sl.v104, runB.sl.v105, runB.sl.v106, runB.sl.v107, runB.sl.v108, runB.sl.v109, runB.sl.v112, runB.sl.v113, runB.sl.v116, runB.sl.v117, runB.sl.v118, runB.sl.v121, runB.sl.v122, runB.sl.v125, runB.sl.v127, runB.sl.v129, runB.sl.v131, runB.sl.v134, runB.sl.v135, runB.sl.v139, runB.sl.v143, runB.sl.v144, runB.sl.v148, runB.sl.v149, runB.sl.v151, runB.sl.v152, runB.sl.v153, runB.sl.v154, runB.sl.v156, runB.sl.v157, runB.sl.v158, runB.sl.v159, runB.sl.v160, runB.sl.v161, runB.sl.v162, runB.sl.v163, runB.sl.v166, runB.sl.v167, runB.sl.v170, runB.sl.v171, runB.sl.v172, runB.sl.v175, runB.sl.v176, runB.sl.v179, runB.sl.v185, runB.sl.v188, runB.sl.v189, runB.sl.v193, runB.sl.v195, runB.sl.v196, runB.sl.v197, runB.sl.v198, runB.sl.v200, runB.sl.v201, runB.sl.v202, runB.sl.v203, runB.sl.v204, runB.sl.v205, runB.sl.v206, runB.sl.v207, runB.sl.v210, runB.sl.v211, runB.sl.v214, runB.sl.v215, runB.sl.v216, runB.sl.v219, runB.sl.v220, runB.sl.v223, runB.sl.v229, runB.sl.v23, runB.sl.v232, runB.sl.v233, runB.sl.v237, runB.sl.v25, runB.sl.v26, runB.sl.v28, runB.sl.v30, runB.sl.v31, runB.sl.v35, runB.sl.v36, runB.sl.v4, runB.sl.v40, runB.sl.v41, runB.sl.v43, runB.sl.v44, runB.sl.v45, runB.sl.v46, runB.sl.v48, runB.sl.v49, runB.sl.v5, runB.sl.v50, runB.sl.v51, runB.sl.v52, runB.sl.v54, runB.sl.v55, runB.sl.v58, runB.sl.v59, runB.sl.v6, runB.sl.v62, runB.sl.v64, runB.sl.v67, runB.sl.v68, runB.sl.v7, runB.sl.v71, runB.sl.v72, runB.sl.v73, runB.sl.v75, runB.sl.v77, runB.sl.v8, runB.sl.v80, runB.sl.v81, runB.sl.v85, runB.sl.v87, runB.sl.v89, runB.sl.v9, runB.sl.v90, runB.sl.v92, runB.sl.v94, runB.sl.v95, runB.sl.v97, runB.sl.v98, runB.sl.v99]
      pointwise [ra1, rb2, ra3, ra4, View.readAt_rep, k0_pay1, k0_pay2, k0_pay3, k0_pay4, k0_pay5]
      simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
      rfl

end Cert.KernelIdeal.Fl

end
-- ==== Proof.KI.ValC.lean ====
/- Path C of the body over the reals: the scratches after a point, at an element. -/
module

public import proofs.«01_k».proof.Proof.KI.Tile
public import proofs.«01_k».proof.Proof.KI.Dat

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem C_sc0 (c : Dev nD) (t : Fin (cfgA Ideal).N) (p : St Ideal c) (q0 : ¬pF t) (q1 : ¬pD t) (q2 : pE t) (h : Fin 2) (k : Fin 512) (d : Fin 256) :
    (sc0.view.read (Elt Ideal) (RC m c t p.1 p.2.1 p.2.2 q0 q1 q2).2.2.1 (ix3 h k d) : EReal)
      = (sc0.view.read (Elt Ideal) p.1 (ix3 h k d) : EReal)
        + ∑ r : Fin 512, dsc False (iblk m c 0 t) (iblk m c 1 t) (iblk m c 2 t) (iblk m c 3 t) (iblk m c 4 t) (iblk m c 5 t) h k r * (iblk m c 0 t : B0) (ix3 h r d) := by
  unfold RC runC
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runC.sl.HO7_1, runC.sl.HO8_1, runC.sl.HS0_1, runC.sl.HS0_3, runC.sl.HS0_4, runC.sl.HS1_1, runC.sl.HS1_3, runC.sl.HS1_4, runC.sl.HS2_1, runC.sl.HS2_2, runC.sl.HS2_3, runC.sl.cst, runC.sl.cst_40, runC.sl.cst_60, runC.sl.r, runC.sl.r_1, runC.sl.v100, runC.sl.v102, runC.sl.v103, runC.sl.v104, runC.sl.v105, runC.sl.v106, runC.sl.v107, runC.sl.v108, runC.sl.v109, runC.sl.v112, runC.sl.v113, runC.sl.v116, runC.sl.v117, runC.sl.v118, runC.sl.v121, runC.sl.v122, runC.sl.v125, runC.sl.v127, runC.sl.v129, runC.sl.v131, runC.sl.v134, runC.sl.v135, runC.sl.v139, runC.sl.v143, runC.sl.v144, runC.sl.v148, runC.sl.v149, runC.sl.v151, runC.sl.v152, runC.sl.v153, runC.sl.v154, runC.sl.v156, runC.sl.v157, runC.sl.v158, runC.sl.v159, runC.sl.v160, runC.sl.v161, runC.sl.v162, runC.sl.v163, runC.sl.v166, runC.sl.v167, runC.sl.v170, runC.sl.v171, runC.sl.v172, runC.sl.v175, runC.sl.v176, runC.sl.v179, runC.sl.v185, runC.sl.v188, runC.sl.v189, runC.sl.v193, runC.sl.v195, runC.sl.v196, runC.sl.v197, runC.sl.v198, runC.sl.v200, runC.sl.v201, runC.sl.v202, runC.sl.v203, runC.sl.v204, runC.sl.v205, runC.sl.v206, runC.sl.v207, runC.sl.v210, runC.sl.v211, runC.sl.v214, runC.sl.v215, runC.sl.v216, runC.sl.v219, runC.sl.v22, runC.sl.v220, runC.sl.v223, runC.sl.v229, runC.sl.v23, runC.sl.v232, runC.sl.v233, runC.sl.v237, runC.sl.v25, runC.sl.v26, runC.sl.v27, runC.sl.v28, runC.sl.v30, runC.sl.v31, runC.sl.v35, runC.sl.v36, runC.sl.v4, runC.sl.v40, runC.sl.v41, runC.sl.v43, runC.sl.v44, runC.sl.v45, runC.sl.v46, runC.sl.v48, runC.sl.v49, runC.sl.v5, runC.sl.v50, runC.sl.v51, runC.sl.v52, runC.sl.v54, runC.sl.v55, runC.sl.v58, runC.sl.v59, runC.sl.v6, runC.sl.v62, runC.sl.v64, runC.sl.v67, runC.sl.v68, runC.sl.v7, runC.sl.v71, runC.sl.v72, runC.sl.v73, runC.sl.v75, runC.sl.v77, runC.sl.v8, runC.sl.v80, runC.sl.v81, runC.sl.v85, runC.sl.v87, runC.sl.v89, runC.sl.v9, runC.sl.v90, runC.sl.v92, runC.sl.v94, runC.sl.v95, runC.sl.v97, runC.sl.v98, runC.sl.v99, View.readCov]
    pointwise [rd0, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem C_sc1 (c : Dev nD) (t : Fin (cfgA Ideal).N) (p : St Ideal c) (q0 : ¬pF t) (q1 : ¬pD t) (q2 : pE t) (h : Fin 2) (k : Fin 512) (d : Fin 128) :
    (sc1.view.read (Elt Ideal) (RC m c t p.1 p.2.1 p.2.2 q0 q1 q2).2.2.2.1 (ix3 h k d) : EReal)
      = (sc1.view.read (Elt Ideal) p.2.1 (ix3 h k d) : EReal)
        + ∑ r : Fin 512, wt False (iblk m c 0 t) (iblk m c 1 t) (iblk m c 4 t) h k r * (iblk m c 3 t : B3) (ix2 r (hcol h d)) := by
  unfold RC runC
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runC.sl.HO7_1, runC.sl.HO8_1, runC.sl.HS0_1, runC.sl.HS0_3, runC.sl.HS0_4, runC.sl.HS1_1, runC.sl.HS1_3, runC.sl.HS1_4, runC.sl.HS2_1, runC.sl.HS2_2, runC.sl.HS2_3, runC.sl.cst, runC.sl.cst_40, runC.sl.cst_60, runC.sl.r, runC.sl.r_1, runC.sl.v100, runC.sl.v102, runC.sl.v103, runC.sl.v104, runC.sl.v105, runC.sl.v106, runC.sl.v107, runC.sl.v108, runC.sl.v109, runC.sl.v112, runC.sl.v113, runC.sl.v116, runC.sl.v117, runC.sl.v118, runC.sl.v121, runC.sl.v122, runC.sl.v125, runC.sl.v127, runC.sl.v129, runC.sl.v131, runC.sl.v134, runC.sl.v135, runC.sl.v139, runC.sl.v143, runC.sl.v144, runC.sl.v148, runC.sl.v149, runC.sl.v151, runC.sl.v152, runC.sl.v153, runC.sl.v154, runC.sl.v156, runC.sl.v157, runC.sl.v158, runC.sl.v159, runC.sl.v160, runC.sl.v161, runC.sl.v162, runC.sl.v163, runC.sl.v166, runC.sl.v167, runC.sl.v170, runC.sl.v171, runC.sl.v172, runC.sl.v175, runC.sl.v176, runC.sl.v179, runC.sl.v185, runC.sl.v188, runC.sl.v189, runC.sl.v193, runC.sl.v195, runC.sl.v196, runC.sl.v197, runC.sl.v198, runC.sl.v200, runC.sl.v201, runC.sl.v202, runC.sl.v203, runC.sl.v204, runC.sl.v205, runC.sl.v206, runC.sl.v207, runC.sl.v210, runC.sl.v211, runC.sl.v214, runC.sl.v215, runC.sl.v216, runC.sl.v219, runC.sl.v22, runC.sl.v220, runC.sl.v223, runC.sl.v229, runC.sl.v23, runC.sl.v232, runC.sl.v233, runC.sl.v237, runC.sl.v25, runC.sl.v26, runC.sl.v27, runC.sl.v28, runC.sl.v30, runC.sl.v31, runC.sl.v35, runC.sl.v36, runC.sl.v4, runC.sl.v40, runC.sl.v41, runC.sl.v43, runC.sl.v44, runC.sl.v45, runC.sl.v46, runC.sl.v48, runC.sl.v49, runC.sl.v5, runC.sl.v50, runC.sl.v51, runC.sl.v52, runC.sl.v54, runC.sl.v55, runC.sl.v58, runC.sl.v59, runC.sl.v6, runC.sl.v62, runC.sl.v64, runC.sl.v67, runC.sl.v68, runC.sl.v7, runC.sl.v71, runC.sl.v72, runC.sl.v73, runC.sl.v75, runC.sl.v77, runC.sl.v8, runC.sl.v80, runC.sl.v81, runC.sl.v85, runC.sl.v87, runC.sl.v89, runC.sl.v9, runC.sl.v90, runC.sl.v92, runC.sl.v94, runC.sl.v95, runC.sl.v97, runC.sl.v98, runC.sl.v99, View.readCov]
    pointwise [rd1, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem C_sc2 (c : Dev nD) (t : Fin (cfgA Ideal).N) (p : St Ideal c) (q0 : ¬pF t) (q1 : ¬pD t) (q2 : pE t) (q : ℕ) (hq : q < 16) (hw : wd0 (F := Ideal) T0 (crd t) = BitVec.ofNat 32 q)
    (h : Fin 2) (R : Fin 8192) (d : Fin 256) :
    (sc2.view.read (Elt Ideal) (RC m c t p.1 p.2.1 p.2.2 q0 q1 q2).2.2.2.2.1 (ix3 h R d) : EReal)
      = (sc2.view.read (Elt Ideal) p.2.2 (ix3 h R d) : EReal)
        + (if hh : 512 * q ≤ R.val ∧ R.val < 512 * q + 512 then ∑ k : Fin 512, dsc False (iblk m c 0 t) (iblk m c 1 t) (iblk m c 2 t) (iblk m c 3 t) (iblk m c 4 t) (iblk m c 5 t) h k ⟨R.val - 512 * q, by omega⟩ * (iblk m c 1 t : B0) (ix3 h k d) else 0) := by
  have hr : (runC.sl.r (F := Ideal) (crd t) T0) = BitVec.ofNat 32 q := hw
  have ra1 := fun f inb => ra2 (View.whole cc0_scratch2) f (k0_off2 (runC.sl.r (F := Ideal) (crd t) T0) 0#32) 0 (512 * q) (by omega) inb (off2_0 q hq _ hr)
  have rb2 := fun f inb => ra2 (View.whole cc0_scratch2) f (k0_off2 (runC.sl.r (F := Ideal) (crd t) T0) 256#32) 0 (512 * q + 256) (by omega) inb (off2_256 q hq _ hr)
  have ra3 := fun f inb => ra2 (View.whole cc0_scratch2) f (k0_off3 (runC.sl.r (F := Ideal) (crd t) T0) 0#32) 1 (512 * q) (by omega) inb (off3_0 q hq _ hr)
  have ra4 := fun f inb => ra2 (View.whole cc0_scratch2) f (k0_off3 (runC.sl.r (F := Ideal) (crd t) T0) 256#32) 1 (512 * q + 256) (by omega) inb (off3_256 q hq _ hr)
  unfold RC runC
  dsimp only
  generalize iblk m c 0 t = x0
  generalize iblk m c 1 t = x1
  generalize iblk m c 2 t = x2
  generalize iblk m c 3 t = x3
  generalize iblk m c 4 t = x4
  generalize iblk m c 5 t = x5
  refine (chain2 (View.whole cc0_scratch2) _ [] _ _ _ _ _ _ _ _ _ _ _ _ q hq (off2_0 q hq _ hr) (off2_256 q hq _ hr) (off3_0 q hq _ hr) (off3_256 q hq _ hr)
    (fun h r d => ∑ k : Fin 512, dsc False x0 x1 x2 x3 x4 x5 h k r * x1 (ix3 h k d)) ?_ ?_ ?_ ?_ h R d)
  all_goals
    first
    | intro r d
      simp only [runC.sl.HO7_1, runC.sl.HO8_1, runC.sl.HS0_1, runC.sl.HS0_3, runC.sl.HS0_4, runC.sl.HS1_1, runC.sl.HS1_3, runC.sl.HS1_4, runC.sl.HS2_1, runC.sl.HS2_2, runC.sl.HS2_3, runC.sl.cst, runC.sl.cst_40, runC.sl.cst_60, runC.sl.v100, runC.sl.v102, runC.sl.v103, runC.sl.v104, runC.sl.v105, runC.sl.v106, runC.sl.v107, runC.sl.v108, runC.sl.v109, runC.sl.v112, runC.sl.v113, runC.sl.v116, runC.sl.v117, runC.sl.v118, runC.sl.v121, runC.sl.v122, runC.sl.v125, runC.sl.v127, runC.sl.v129, runC.sl.v131, runC.sl.v134, runC.sl.v135, runC.sl.v139, runC.sl.v143, runC.sl.v144, runC.sl.v148, runC.sl.v149, runC.sl.v151, runC.sl.v152, runC.sl.v153, runC.sl.v154, runC.sl.v156, runC.sl.v157, runC.sl.v158, runC.sl.v159, runC.sl.v160, runC.sl.v161, runC.sl.v162, runC.sl.v163, runC.sl.v166, runC.sl.v167, runC.sl.v170, runC.sl.v171, runC.sl.v172, runC.sl.v175, runC.sl.v176, runC.sl.v179, runC.sl.v185, runC.sl.v188, runC.sl.v189, runC.sl.v193, runC.sl.v195, runC.sl.v196, runC.sl.v197, runC.sl.v198, runC.sl.v200, runC.sl.v201, runC.sl.v202, runC.sl.v203, runC.sl.v204, runC.sl.v205, runC.sl.v206, runC.sl.v207, runC.sl.v210, runC.sl.v211, runC.sl.v214, runC.sl.v215, runC.sl.v216, runC.sl.v219, runC.sl.v22, runC.sl.v220, runC.sl.v223, runC.sl.v229, runC.sl.v23, runC.sl.v232, runC.sl.v233, runC.sl.v237, runC.sl.v25, runC.sl.v26, runC.sl.v27, runC.sl.v28, runC.sl.v30, runC.sl.v31, runC.sl.v35, runC.sl.v36, runC.sl.v4, runC.sl.v40, runC.sl.v41, runC.sl.v43, runC.sl.v44, runC.sl.v45, runC.sl.v46, runC.sl.v48, runC.sl.v49, runC.sl.v5, runC.sl.v50, runC.sl.v51, runC.sl.v52, runC.sl.v54, runC.sl.v55, runC.sl.v58, runC.sl.v59, runC.sl.v6, runC.sl.v62, runC.sl.v64, runC.sl.v67, runC.sl.v68, runC.sl.v7, runC.sl.v71, runC.sl.v72, runC.sl.v73, runC.sl.v75, runC.sl.v77, runC.sl.v8, runC.sl.v80, runC.sl.v81, runC.sl.v85, runC.sl.v87, runC.sl.v89, runC.sl.v9, runC.sl.v90, runC.sl.v92, runC.sl.v94, runC.sl.v95, runC.sl.v97, runC.sl.v98, runC.sl.v99]
      pointwise [ra1, rb2, ra3, ra4, View.readAt_rep, k0_pay1, k0_pay2, k0_pay3, k0_pay4, k0_pay5]
      simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
      rfl

end Cert.KernelIdeal.Fl

end
-- ==== Proof.KI.ValD.lean ====
/- Path D of the body over the reals: the scratches after a point, at an element. -/
module

public import proofs.«01_k».proof.Proof.KI.Tile
public import proofs.«01_k».proof.Proof.KI.Dat

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem D_sc0 (c : Dev nD) (t : Fin (cfgA Ideal).N) (p : St Ideal c) (q0 : ¬pF t) (q1 : pD t) (q2 : ¬pE t) (h : Fin 2) (k : Fin 512) (d : Fin 256) :
    (sc0.view.read (Elt Ideal) (RD m c t p.2.2 q0 q1 q2).1 (ix3 h k d) : EReal)
      = ∑ r : Fin 512, dsc True (iblk m c 0 t) (iblk m c 1 t) (iblk m c 2 t) (iblk m c 3 t) (iblk m c 4 t) (iblk m c 5 t) h k r * (iblk m c 0 t : B0) (ix3 h r d) := by
  unfold RD runD
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runD.sl.HS0_1, runD.sl.HS0_2, runD.sl.HS0_3, runD.sl.HS0_4, runD.sl.HS0_5, runD.sl.HS1_1, runD.sl.HS1_2, runD.sl.HS1_3, runD.sl.HS1_4, runD.sl.HS1_5, runD.sl.HS2_1, runD.sl.HS2_2, runD.sl.HS2_3, runD.sl.cst, runD.sl.cst_33, runD.sl.cst_42, runD.sl.cst_62, runD.sl.r, runD.sl.r_1, runD.sl.r_2, runD.sl.r_3, runD.sl.v101, runD.sl.v102, runD.sl.v104, runD.sl.v105, runD.sl.v106, runD.sl.v107, runD.sl.v110, runD.sl.v112, runD.sl.v114, runD.sl.v116, runD.sl.v117, runD.sl.v118, runD.sl.v119, runD.sl.v120, runD.sl.v121, runD.sl.v122, runD.sl.v123, runD.sl.v126, runD.sl.v127, runD.sl.v130, runD.sl.v131, runD.sl.v132, runD.sl.v135, runD.sl.v136, runD.sl.v139, runD.sl.v141, runD.sl.v143, runD.sl.v145, runD.sl.v147, runD.sl.v148, runD.sl.v149, runD.sl.v153, runD.sl.v157, runD.sl.v158, runD.sl.v162, runD.sl.v163, runD.sl.v165, runD.sl.v166, runD.sl.v167, runD.sl.v168, runD.sl.v175, runD.sl.v177, runD.sl.v178, runD.sl.v179, runD.sl.v180, runD.sl.v181, runD.sl.v182, runD.sl.v183, runD.sl.v184, runD.sl.v187, runD.sl.v188, runD.sl.v191, runD.sl.v192, runD.sl.v193, runD.sl.v196, runD.sl.v197, runD.sl.v200, runD.sl.v206, runD.sl.v209, runD.sl.v210, runD.sl.v214, runD.sl.v216, runD.sl.v217, runD.sl.v218, runD.sl.v219, runD.sl.v226, runD.sl.v228, runD.sl.v229, runD.sl.v23, runD.sl.v230, runD.sl.v231, runD.sl.v232, runD.sl.v233, runD.sl.v234, runD.sl.v235, runD.sl.v238, runD.sl.v239, runD.sl.v242, runD.sl.v243, runD.sl.v244, runD.sl.v25, runD.sl.v26, runD.sl.v28, runD.sl.v30, runD.sl.v31, runD.sl.v35, runD.sl.v36, runD.sl.v4, runD.sl.v40, runD.sl.v41, runD.sl.v43, runD.sl.v44, runD.sl.v45, runD.sl.v46, runD.sl.v47, runD.sl.v48, runD.sl.v49, runD.sl.v5, runD.sl.v51, runD.sl.v52, runD.sl.v53, runD.sl.v55, runD.sl.v56, runD.sl.v57, runD.sl.v58, runD.sl.v59, runD.sl.v6, runD.sl.v60, runD.sl.v61, runD.sl.v62, runD.sl.v65, runD.sl.v66, runD.sl.v69, runD.sl.v7, runD.sl.v70, runD.sl.v71, runD.sl.v74, runD.sl.v75, runD.sl.v78, runD.sl.v79, runD.sl.v8, runD.sl.v80, runD.sl.v82, runD.sl.v84, runD.sl.v87, runD.sl.v88, runD.sl.v9, runD.sl.v92, runD.sl.v94, runD.sl.v96, runD.sl.v97, runD.sl.v99, View.readCov]
    pointwise [rd0, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem D_sc1 (c : Dev nD) (t : Fin (cfgA Ideal).N) (p : St Ideal c) (q0 : ¬pF t) (q1 : pD t) (q2 : ¬pE t) (h : Fin 2) (k : Fin 512) (d : Fin 128) :
    (sc1.view.read (Elt Ideal) (RD m c t p.2.2 q0 q1 q2).2.1 (ix3 h k d) : EReal)
      = ∑ r : Fin 512, wt True (iblk m c 0 t) (iblk m c 1 t) (iblk m c 4 t) h k r * (iblk m c 3 t : B3) (ix2 r (hcol h d)) := by
  unfold RD runD
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runD.sl.HS0_1, runD.sl.HS0_2, runD.sl.HS0_3, runD.sl.HS0_4, runD.sl.HS0_5, runD.sl.HS1_1, runD.sl.HS1_2, runD.sl.HS1_3, runD.sl.HS1_4, runD.sl.HS1_5, runD.sl.HS2_1, runD.sl.HS2_2, runD.sl.HS2_3, runD.sl.cst, runD.sl.cst_33, runD.sl.cst_42, runD.sl.cst_62, runD.sl.r, runD.sl.r_1, runD.sl.r_2, runD.sl.r_3, runD.sl.v101, runD.sl.v102, runD.sl.v104, runD.sl.v105, runD.sl.v106, runD.sl.v107, runD.sl.v110, runD.sl.v112, runD.sl.v114, runD.sl.v116, runD.sl.v117, runD.sl.v118, runD.sl.v119, runD.sl.v120, runD.sl.v121, runD.sl.v122, runD.sl.v123, runD.sl.v126, runD.sl.v127, runD.sl.v130, runD.sl.v131, runD.sl.v132, runD.sl.v135, runD.sl.v136, runD.sl.v139, runD.sl.v141, runD.sl.v143, runD.sl.v145, runD.sl.v147, runD.sl.v148, runD.sl.v149, runD.sl.v153, runD.sl.v157, runD.sl.v158, runD.sl.v162, runD.sl.v163, runD.sl.v165, runD.sl.v166, runD.sl.v167, runD.sl.v168, runD.sl.v175, runD.sl.v177, runD.sl.v178, runD.sl.v179, runD.sl.v180, runD.sl.v181, runD.sl.v182, runD.sl.v183, runD.sl.v184, runD.sl.v187, runD.sl.v188, runD.sl.v191, runD.sl.v192, runD.sl.v193, runD.sl.v196, runD.sl.v197, runD.sl.v200, runD.sl.v206, runD.sl.v209, runD.sl.v210, runD.sl.v214, runD.sl.v216, runD.sl.v217, runD.sl.v218, runD.sl.v219, runD.sl.v226, runD.sl.v228, runD.sl.v229, runD.sl.v23, runD.sl.v230, runD.sl.v231, runD.sl.v232, runD.sl.v233, runD.sl.v234, runD.sl.v235, runD.sl.v238, runD.sl.v239, runD.sl.v242, runD.sl.v243, runD.sl.v244, runD.sl.v25, runD.sl.v26, runD.sl.v28, runD.sl.v30, runD.sl.v31, runD.sl.v35, runD.sl.v36, runD.sl.v4, runD.sl.v40, runD.sl.v41, runD.sl.v43, runD.sl.v44, runD.sl.v45, runD.sl.v46, runD.sl.v47, runD.sl.v48, runD.sl.v49, runD.sl.v5, runD.sl.v51, runD.sl.v52, runD.sl.v53, runD.sl.v55, runD.sl.v56, runD.sl.v57, runD.sl.v58, runD.sl.v59, runD.sl.v6, runD.sl.v60, runD.sl.v61, runD.sl.v62, runD.sl.v65, runD.sl.v66, runD.sl.v69, runD.sl.v7, runD.sl.v70, runD.sl.v71, runD.sl.v74, runD.sl.v75, runD.sl.v78, runD.sl.v79, runD.sl.v8, runD.sl.v80, runD.sl.v82, runD.sl.v84, runD.sl.v87, runD.sl.v88, runD.sl.v9, runD.sl.v92, runD.sl.v94, runD.sl.v96, runD.sl.v97, runD.sl.v99, View.readCov]
    pointwise [rd1, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem D_sc2 (c : Dev nD) (t : Fin (cfgA Ideal).N) (p : St Ideal c) (q0 : ¬pF t) (q1 : pD t) (q2 : ¬pE t) (q : ℕ) (hq : q < 16) (hw : wd0 (F := Ideal) T0 (crd t) = BitVec.ofNat 32 q)
    (h : Fin 2) (R : Fin 8192) (d : Fin 256) :
    (sc2.view.read (Elt Ideal) (RD m c t p.2.2 q0 q1 q2).2.2.1 (ix3 h R d) : EReal)
      = (sc2.view.read (Elt Ideal) p.2.2 (ix3 h R d) : EReal)
        + (if hh : 512 * q ≤ R.val ∧ R.val < 512 * q + 512 then ∑ k : Fin 512, dsc True (iblk m c 0 t) (iblk m c 1 t) (iblk m c 2 t) (iblk m c 3 t) (iblk m c 4 t) (iblk m c 5 t) h k ⟨R.val - 512 * q, by omega⟩ * (iblk m c 1 t : B0) (ix3 h k d) else 0) := by
  have hr : (runD.sl.r (F := Ideal) (crd t) T0) = BitVec.ofNat 32 q := hw
  have ra1 := fun f inb => ra2 (View.whole cc0_scratch2) f (k0_off4 (runD.sl.r (F := Ideal) (crd t) T0) 0#32) 0 (512 * q) (by omega) inb (off4_0 q hq _ hr)
  have rb2 := fun f inb => ra2 (View.whole cc0_scratch2) f (k0_off4 (runD.sl.r (F := Ideal) (crd t) T0) 256#32) 0 (512 * q + 256) (by omega) inb (off4_256 q hq _ hr)
  have ra3 := fun f inb => ra2 (View.whole cc0_scratch2) f (k0_off5 (runD.sl.r (F := Ideal) (crd t) T0) 0#32) 1 (512 * q) (by omega) inb (off5_0 q hq _ hr)
  have ra4 := fun f inb => ra2 (View.whole cc0_scratch2) f (k0_off5 (runD.sl.r (F := Ideal) (crd t) T0) 256#32) 1 (512 * q + 256) (by omega) inb (off5_256 q hq _ hr)
  unfold RD runD
  dsimp only
  generalize iblk m c 0 t = x0
  generalize iblk m c 1 t = x1
  generalize iblk m c 2 t = x2
  generalize iblk m c 3 t = x3
  generalize iblk m c 4 t = x4
  generalize iblk m c 5 t = x5
  refine (chain2 (View.whole cc0_scratch2) _ [] _ _ _ _ _ _ _ _ _ _ _ _ q hq (off4_0 q hq _ hr) (off4_256 q hq _ hr) (off5_0 q hq _ hr) (off5_256 q hq _ hr)
    (fun h r d => ∑ k : Fin 512, dsc True x0 x1 x2 x3 x4 x5 h k r * x1 (ix3 h k d)) ?_ ?_ ?_ ?_ h R d)
  all_goals
    first
    | intro r d
      simp only [runD.sl.HS0_1, runD.sl.HS0_2, runD.sl.HS0_3, runD.sl.HS0_4, runD.sl.HS0_5, runD.sl.HS1_1, runD.sl.HS1_2, runD.sl.HS1_3, runD.sl.HS1_4, runD.sl.HS1_5, runD.sl.HS2_1, runD.sl.HS2_2, runD.sl.HS2_3, runD.sl.cst, runD.sl.cst_33, runD.sl.cst_42, runD.sl.cst_62, runD.sl.r_2, runD.sl.r_3, runD.sl.v101, runD.sl.v102, runD.sl.v104, runD.sl.v105, runD.sl.v106, runD.sl.v107, runD.sl.v110, runD.sl.v112, runD.sl.v114, runD.sl.v116, runD.sl.v117, runD.sl.v118, runD.sl.v119, runD.sl.v120, runD.sl.v121, runD.sl.v122, runD.sl.v123, runD.sl.v126, runD.sl.v127, runD.sl.v130, runD.sl.v131, runD.sl.v132, runD.sl.v135, runD.sl.v136, runD.sl.v139, runD.sl.v141, runD.sl.v143, runD.sl.v145, runD.sl.v147, runD.sl.v148, runD.sl.v149, runD.sl.v153, runD.sl.v157, runD.sl.v158, runD.sl.v162, runD.sl.v163, runD.sl.v165, runD.sl.v166, runD.sl.v167, runD.sl.v168, runD.sl.v175, runD.sl.v177, runD.sl.v178, runD.sl.v179, runD.sl.v180, runD.sl.v181, runD.sl.v182, runD.sl.v183, runD.sl.v184, runD.sl.v187, runD.sl.v188, runD.sl.v191, runD.sl.v192, runD.sl.v193, runD.sl.v196, runD.sl.v197, runD.sl.v200, runD.sl.v206, runD.sl.v209, runD.sl.v210, runD.sl.v214, runD.sl.v216, runD.sl.v217, runD.sl.v218, runD.sl.v219, runD.sl.v226, runD.sl.v228, runD.sl.v229, runD.sl.v23, runD.sl.v230, runD.sl.v231, runD.sl.v232, runD.sl.v233, runD.sl.v234, runD.sl.v235, runD.sl.v238, runD.sl.v239, runD.sl.v242, runD.sl.v243, runD.sl.v244, runD.sl.v25, runD.sl.v26, runD.sl.v28, runD.sl.v30, runD.sl.v31, runD.sl.v35, runD.sl.v36, runD.sl.v4, runD.sl.v40, runD.sl.v41, runD.sl.v43, runD.sl.v44, runD.sl.v45, runD.sl.v46, runD.sl.v47, runD.sl.v48, runD.sl.v49, runD.sl.v5, runD.sl.v51, runD.sl.v52, runD.sl.v53, runD.sl.v55, runD.sl.v56, runD.sl.v57, runD.sl.v58, runD.sl.v59, runD.sl.v6, runD.sl.v60, runD.sl.v61, runD.sl.v62, runD.sl.v65, runD.sl.v66, runD.sl.v69, runD.sl.v7, runD.sl.v70, runD.sl.v71, runD.sl.v74, runD.sl.v75, runD.sl.v78, runD.sl.v79, runD.sl.v8, runD.sl.v80, runD.sl.v82, runD.sl.v84, runD.sl.v87, runD.sl.v88, runD.sl.v9, runD.sl.v92, runD.sl.v94, runD.sl.v96, runD.sl.v97, runD.sl.v99]
      pointwise [ra1, rb2, ra3, ra4, View.readAt_rep, k0_pay1, k0_pay2, k0_pay3, k0_pay4, k0_pay5]
      simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
      rfl

end Cert.KernelIdeal.Fl

end
-- ==== Proof.KI.ValE.lean ====
/- Path E of the body over the reals: the scratches after a point, at an element. -/
module

public import proofs.«01_k».proof.Proof.KI.Tile
public import proofs.«01_k».proof.Proof.KI.Dat

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

theorem E_sc0 (c : Dev nD) (t : Fin (cfgA Ideal).N) (p : St Ideal c) (q0 : ¬pF t) (q1 : pD t) (q2 : pE t) (h : Fin 2) (k : Fin 512) (d : Fin 256) :
    (sc0.view.read (Elt Ideal) (RE m c t p.2.2 q0 q1 q2).2.2.2.1 (ix3 h k d) : EReal)
      = ∑ r : Fin 512, dsc True (iblk m c 0 t) (iblk m c 1 t) (iblk m c 2 t) (iblk m c 3 t) (iblk m c 4 t) (iblk m c 5 t) h k r * (iblk m c 0 t : B0) (ix3 h r d) := by
  unfold RE runE
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runE.sl.HO6_1, runE.sl.HO7_1, runE.sl.HO8_1, runE.sl.HS0_1, runE.sl.HS0_2, runE.sl.HS0_3, runE.sl.HS0_4, runE.sl.HS0_5, runE.sl.HS1_1, runE.sl.HS1_2, runE.sl.HS1_3, runE.sl.HS1_4, runE.sl.HS1_5, runE.sl.HS2_1, runE.sl.HS2_2, runE.sl.HS2_3, runE.sl.HS2_4, runE.sl.cst, runE.sl.cst_33, runE.sl.cst_42, runE.sl.cst_62, runE.sl.r, runE.sl.r_1, runE.sl.r_2, runE.sl.r_3, runE.sl.v101, runE.sl.v102, runE.sl.v104, runE.sl.v105, runE.sl.v106, runE.sl.v107, runE.sl.v110, runE.sl.v112, runE.sl.v114, runE.sl.v116, runE.sl.v117, runE.sl.v118, runE.sl.v119, runE.sl.v120, runE.sl.v121, runE.sl.v122, runE.sl.v123, runE.sl.v126, runE.sl.v127, runE.sl.v130, runE.sl.v131, runE.sl.v132, runE.sl.v135, runE.sl.v136, runE.sl.v139, runE.sl.v141, runE.sl.v143, runE.sl.v145, runE.sl.v147, runE.sl.v148, runE.sl.v149, runE.sl.v153, runE.sl.v157, runE.sl.v158, runE.sl.v162, runE.sl.v163, runE.sl.v165, runE.sl.v166, runE.sl.v167, runE.sl.v168, runE.sl.v175, runE.sl.v177, runE.sl.v178, runE.sl.v179, runE.sl.v180, runE.sl.v181, runE.sl.v182, runE.sl.v183, runE.sl.v184, runE.sl.v187, runE.sl.v188, runE.sl.v191, runE.sl.v192, runE.sl.v193, runE.sl.v196, runE.sl.v197, runE.sl.v200, runE.sl.v206, runE.sl.v209, runE.sl.v210, runE.sl.v214, runE.sl.v216, runE.sl.v217, runE.sl.v218, runE.sl.v219, runE.sl.v22, runE.sl.v226, runE.sl.v228, runE.sl.v229, runE.sl.v23, runE.sl.v230, runE.sl.v231, runE.sl.v232, runE.sl.v233, runE.sl.v234, runE.sl.v235, runE.sl.v238, runE.sl.v239, runE.sl.v242, runE.sl.v243, runE.sl.v244, runE.sl.v25, runE.sl.v26, runE.sl.v27, runE.sl.v28, runE.sl.v30, runE.sl.v31, runE.sl.v35, runE.sl.v36, runE.sl.v4, runE.sl.v40, runE.sl.v41, runE.sl.v43, runE.sl.v44, runE.sl.v45, runE.sl.v46, runE.sl.v47, runE.sl.v48, runE.sl.v49, runE.sl.v5, runE.sl.v51, runE.sl.v52, runE.sl.v53, runE.sl.v55, runE.sl.v56, runE.sl.v57, runE.sl.v58, runE.sl.v59, runE.sl.v6, runE.sl.v60, runE.sl.v61, runE.sl.v62, runE.sl.v65, runE.sl.v66, runE.sl.v69, runE.sl.v7, runE.sl.v70, runE.sl.v71, runE.sl.v74, runE.sl.v75, runE.sl.v78, runE.sl.v79, runE.sl.v8, runE.sl.v80, runE.sl.v82, runE.sl.v84, runE.sl.v87, runE.sl.v88, runE.sl.v9, runE.sl.v92, runE.sl.v94, runE.sl.v96, runE.sl.v97, runE.sl.v99, View.readCov]
    pointwise [rd0, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem E_sc1 (c : Dev nD) (t : Fin (cfgA Ideal).N) (p : St Ideal c) (q0 : ¬pF t) (q1 : pD t) (q2 : pE t) (h : Fin 2) (k : Fin 512) (d : Fin 128) :
    (sc1.view.read (Elt Ideal) (RE m c t p.2.2 q0 q1 q2).2.2.2.2.1 (ix3 h k d) : EReal)
      = ∑ r : Fin 512, wt True (iblk m c 0 t) (iblk m c 1 t) (iblk m c 4 t) h k r * (iblk m c 3 t : B3) (ix2 r (hcol h d)) := by
  unfold RE runE
  dsimp only
  generalize iblk m c 0 t = x0
  generalize iblk m c 1 t = x1
  generalize iblk m c 2 t = x2
  generalize iblk m c 3 t = x3
  generalize iblk m c 4 t = x4
  generalize iblk m c 5 t = x5
  rw [Fin.sum_univ_two_halves 256 256 rfl]
  obtain rfl | rfl : h = 0 ∨ h = 1 := by omega
  all_goals
    simp only [runE.sl.HO6_1, runE.sl.HO7_1, runE.sl.HO8_1, runE.sl.HS0_1, runE.sl.HS0_2, runE.sl.HS0_3, runE.sl.HS0_4, runE.sl.HS0_5, runE.sl.HS1_1, runE.sl.HS1_2, runE.sl.HS1_3, runE.sl.HS1_4, runE.sl.HS1_5, runE.sl.HS2_1, runE.sl.HS2_2, runE.sl.HS2_3, runE.sl.HS2_4, runE.sl.cst, runE.sl.cst_33, runE.sl.cst_42, runE.sl.cst_62, runE.sl.r, runE.sl.r_1, runE.sl.r_2, runE.sl.r_3, runE.sl.v101, runE.sl.v102, runE.sl.v104, runE.sl.v105, runE.sl.v106, runE.sl.v107, runE.sl.v110, runE.sl.v112, runE.sl.v114, runE.sl.v116, runE.sl.v117, runE.sl.v118, runE.sl.v119, runE.sl.v120, runE.sl.v121, runE.sl.v122, runE.sl.v123, runE.sl.v126, runE.sl.v127, runE.sl.v130, runE.sl.v131, runE.sl.v132, runE.sl.v135, runE.sl.v136, runE.sl.v139, runE.sl.v141, runE.sl.v143, runE.sl.v145, runE.sl.v147, runE.sl.v148, runE.sl.v149, runE.sl.v153, runE.sl.v157, runE.sl.v158, runE.sl.v162, runE.sl.v163, runE.sl.v165, runE.sl.v166, runE.sl.v167, runE.sl.v168, runE.sl.v175, runE.sl.v177, runE.sl.v178, runE.sl.v179, runE.sl.v180, runE.sl.v181, runE.sl.v182, runE.sl.v183, runE.sl.v184, runE.sl.v187, runE.sl.v188, runE.sl.v191, runE.sl.v192, runE.sl.v193, runE.sl.v196, runE.sl.v197, runE.sl.v200, runE.sl.v206, runE.sl.v209, runE.sl.v210, runE.sl.v214, runE.sl.v216, runE.sl.v217, runE.sl.v218, runE.sl.v219, runE.sl.v22, runE.sl.v226, runE.sl.v228, runE.sl.v229, runE.sl.v23, runE.sl.v230, runE.sl.v231, runE.sl.v232, runE.sl.v233, runE.sl.v234, runE.sl.v235, runE.sl.v238, runE.sl.v239, runE.sl.v242, runE.sl.v243, runE.sl.v244, runE.sl.v25, runE.sl.v26, runE.sl.v27, runE.sl.v28, runE.sl.v30, runE.sl.v31, runE.sl.v35, runE.sl.v36, runE.sl.v4, runE.sl.v40, runE.sl.v41, runE.sl.v43, runE.sl.v44, runE.sl.v45, runE.sl.v46, runE.sl.v47, runE.sl.v48, runE.sl.v49, runE.sl.v5, runE.sl.v51, runE.sl.v52, runE.sl.v53, runE.sl.v55, runE.sl.v56, runE.sl.v57, runE.sl.v58, runE.sl.v59, runE.sl.v6, runE.sl.v60, runE.sl.v61, runE.sl.v62, runE.sl.v65, runE.sl.v66, runE.sl.v69, runE.sl.v7, runE.sl.v70, runE.sl.v71, runE.sl.v74, runE.sl.v75, runE.sl.v78, runE.sl.v79, runE.sl.v8, runE.sl.v80, runE.sl.v82, runE.sl.v84, runE.sl.v87, runE.sl.v88, runE.sl.v9, runE.sl.v92, runE.sl.v94, runE.sl.v96, runE.sl.v97, runE.sl.v99, View.readCov]
    pointwise [rd1, rdw, View.readAt_apply, View.read_rep, k0_pay1, k0_pay2, k0_pay3, k0_pay4, k0_pay5]
    simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
    rfl

theorem E_sc2 (c : Dev nD) (t : Fin (cfgA Ideal).N) (p : St Ideal c) (q0 : ¬pF t) (q1 : pD t) (q2 : pE t) (q : ℕ) (hq : q < 16) (hw : wd0 (F := Ideal) T0 (crd t) = BitVec.ofNat 32 q)
    (h : Fin 2) (R : Fin 8192) (d : Fin 256) :
    (sc2.view.read (Elt Ideal) (RE m c t p.2.2 q0 q1 q2).2.2.2.2.2.1 (ix3 h R d) : EReal)
      = (sc2.view.read (Elt Ideal) p.2.2 (ix3 h R d) : EReal)
        + (if hh : 512 * q ≤ R.val ∧ R.val < 512 * q + 512 then ∑ k : Fin 512, dsc True (iblk m c 0 t) (iblk m c 1 t) (iblk m c 2 t) (iblk m c 3 t) (iblk m c 4 t) (iblk m c 5 t) h k ⟨R.val - 512 * q, by omega⟩ * (iblk m c 1 t : B0) (ix3 h k d) else 0) := by
  have hr : (runE.sl.r (F := Ideal) (crd t) T0) = BitVec.ofNat 32 q := hw
  have ra1 := fun f inb => ra2 (View.whole cc0_scratch2) f (k0_off4 (runE.sl.r (F := Ideal) (crd t) T0) 0#32) 0 (512 * q) (by omega) inb (off4_0 q hq _ hr)
  have rb2 := fun f inb => ra2 (View.whole cc0_scratch2) f (k0_off4 (runE.sl.r (F := Ideal) (crd t) T0) 256#32) 0 (512 * q + 256) (by omega) inb (off4_256 q hq _ hr)
  have ra3 := fun f inb => ra2 (View.whole cc0_scratch2) f (k0_off5 (runE.sl.r (F := Ideal) (crd t) T0) 0#32) 1 (512 * q) (by omega) inb (off5_0 q hq _ hr)
  have ra4 := fun f inb => ra2 (View.whole cc0_scratch2) f (k0_off5 (runE.sl.r (F := Ideal) (crd t) T0) 256#32) 1 (512 * q + 256) (by omega) inb (off5_256 q hq _ hr)
  unfold RE runE
  dsimp only
  generalize iblk m c 0 t = x0
  generalize iblk m c 1 t = x1
  generalize iblk m c 2 t = x2
  generalize iblk m c 3 t = x3
  generalize iblk m c 4 t = x4
  generalize iblk m c 5 t = x5
  refine (chain2 (View.whole cc0_scratch2) _ [] _ _ _ _ _ _ _ _ _ _ _ _ q hq (off4_0 q hq _ hr) (off4_256 q hq _ hr) (off5_0 q hq _ hr) (off5_256 q hq _ hr)
    (fun h r d => ∑ k : Fin 512, dsc True x0 x1 x2 x3 x4 x5 h k r * x1 (ix3 h k d)) ?_ ?_ ?_ ?_ h R d)
  all_goals
    first
    | intro r d
      simp only [runE.sl.HO6_1, runE.sl.HO7_1, runE.sl.HO8_1, runE.sl.HS0_1, runE.sl.HS0_2, runE.sl.HS0_3, runE.sl.HS0_4, runE.sl.HS0_5, runE.sl.HS1_1, runE.sl.HS1_2, runE.sl.HS1_3, runE.sl.HS1_4, runE.sl.HS1_5, runE.sl.HS2_1, runE.sl.HS2_2, runE.sl.HS2_3, runE.sl.HS2_4, runE.sl.cst, runE.sl.cst_33, runE.sl.cst_42, runE.sl.cst_62, runE.sl.r_2, runE.sl.r_3, runE.sl.v101, runE.sl.v102, runE.sl.v104, runE.sl.v105, runE.sl.v106, runE.sl.v107, runE.sl.v110, runE.sl.v112, runE.sl.v114, runE.sl.v116, runE.sl.v117, runE.sl.v118, runE.sl.v119, runE.sl.v120, runE.sl.v121, runE.sl.v122, runE.sl.v123, runE.sl.v126, runE.sl.v127, runE.sl.v130, runE.sl.v131, runE.sl.v132, runE.sl.v135, runE.sl.v136, runE.sl.v139, runE.sl.v141, runE.sl.v143, runE.sl.v145, runE.sl.v147, runE.sl.v148, runE.sl.v149, runE.sl.v153, runE.sl.v157, runE.sl.v158, runE.sl.v162, runE.sl.v163, runE.sl.v165, runE.sl.v166, runE.sl.v167, runE.sl.v168, runE.sl.v175, runE.sl.v177, runE.sl.v178, runE.sl.v179, runE.sl.v180, runE.sl.v181, runE.sl.v182, runE.sl.v183, runE.sl.v184, runE.sl.v187, runE.sl.v188, runE.sl.v191, runE.sl.v192, runE.sl.v193, runE.sl.v196, runE.sl.v197, runE.sl.v200, runE.sl.v206, runE.sl.v209, runE.sl.v210, runE.sl.v214, runE.sl.v216, runE.sl.v217, runE.sl.v218, runE.sl.v219, runE.sl.v22, runE.sl.v226, runE.sl.v228, runE.sl.v229, runE.sl.v23, runE.sl.v230, runE.sl.v231, runE.sl.v232, runE.sl.v233, runE.sl.v234, runE.sl.v235, runE.sl.v238, runE.sl.v239, runE.sl.v242, runE.sl.v243, runE.sl.v244, runE.sl.v25, runE.sl.v26, runE.sl.v27, runE.sl.v28, runE.sl.v30, runE.sl.v31, runE.sl.v35, runE.sl.v36, runE.sl.v4, runE.sl.v40, runE.sl.v41, runE.sl.v43, runE.sl.v44, runE.sl.v45, runE.sl.v46, runE.sl.v47, runE.sl.v48, runE.sl.v49, runE.sl.v5, runE.sl.v51, runE.sl.v52, runE.sl.v53, runE.sl.v55, runE.sl.v56, runE.sl.v57, runE.sl.v58, runE.sl.v59, runE.sl.v6, runE.sl.v60, runE.sl.v61, runE.sl.v62, runE.sl.v65, runE.sl.v66, runE.sl.v69, runE.sl.v7, runE.sl.v70, runE.sl.v71, runE.sl.v74, runE.sl.v75, runE.sl.v78, runE.sl.v79, runE.sl.v8, runE.sl.v80, runE.sl.v82, runE.sl.v84, runE.sl.v87, runE.sl.v88, runE.sl.v9, runE.sl.v92, runE.sl.v94, runE.sl.v96, runE.sl.v97, runE.sl.v99]
      pointwise [ra1, rb2, ra3, ra4, View.readAt_rep, k0_pay1, k0_pay2, k0_pay3, k0_pay4, k0_pay5]
      simp only [dsc, wt, dwt, hcol, lo, hi, false_and, true_and, if_false, not_true_eq_false, zero_add, Fin.val_zero, Fin.val_one, mul_zero, mul_one, Nat.mul_zero, Nat.mul_one, ← add_assoc, msel0, msel1, ite_mul, zero_mul]
      rfl

end Cert.KernelIdeal.Fl

end
-- ==== Proof.KI.Step.lean ====
/- One grid point's change of the three accumulators, by head and position. -/
module

public import proofs.«01_k».proof.Proof.KI.Sums
public import proofs.«01_k».proof.Proof.KI.Blocks
public import proofs.«01_k».proof.Proof.KI.ValA
public import proofs.«01_k».proof.Proof.KI.ValB
public import proofs.«01_k».proof.Proof.KI.ValC
public import proofs.«01_k».proof.Proof.KI.ValD
public import proofs.«01_k».proof.Proof.KI.ValE

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-! ## One point's change of the three accumulators -/

section
variable (q k : ℕ → ℕ → Fin 256 → EReal) (v o : ℕ → ℕ → Fin 128 → EReal) (l e : ℕ → ℕ → EReal)
variable (x0 x1 : B0) (x2 : B2) (x3 : B3) (x4 x5 : B4) (G Q N : ℕ)

theorem wt_gen (h0 : ∀ h r d, (x0 (ix3 h r d) : EReal) = q (2 * G + h.val) (512 * Q + r.val) d) (h1 : ∀ h r d, (x1 (ix3 h r d) : EReal) = k (2 * G + h.val) (512 * N + r.val) d)
    (h4 : ∀ h r, (x4 (ix3 h 0 r) : EReal) = l (2 * G + h.val) (512 * Q + r.val))
    (hN : N ≤ Q) (dg : Prop) [Decidable dg] (hd : dg ↔ Q = N) (h : Fin 2) (a r : Fin 512) :
    wt dg x0 x1 x4 h a r = gW q k l (2 * G + h.val) (512 * N + a.val) (512 * Q + r.val) := by
  have hb := a.isLt
  unfold wt gW
  simp only [h0, h1, h4]
  by_cases hq : Q = N
  · by_cases hl : a.val ≤ r.val
    · rw [if_neg (fun hh => hh.2 hl), if_pos (by omega)]
    · rw [if_pos ⟨hd.mpr hq, hl⟩, if_neg (by omega)]
  · rw [if_neg (fun hh => hq (hd.mp hh.1)), if_pos (by omega)]

theorem dsc_gen (h0 : ∀ h r d, (x0 (ix3 h r d) : EReal) = q (2 * G + h.val) (512 * Q + r.val) d) (h1 : ∀ h r d, (x1 (ix3 h r d) : EReal) = k (2 * G + h.val) (512 * N + r.val) d)
    (h2 : ∀ h r d, (x2 (ix3 h r d) : EReal) = v (2 * G + h.val) (512 * N + r.val) d) (h3 : ∀ h r d, (x3 (ix2 r (hcol h d)) : EReal) = o (2 * G + h.val) (512 * Q + r.val) d)
    (h4 : ∀ h r, (x4 (ix3 h 0 r) : EReal) = l (2 * G + h.val) (512 * Q + r.val)) (h5 : ∀ h r, (x5 (ix3 h 0 r) : EReal) = e (2 * G + h.val) (512 * Q + r.val))
    (hN : N ≤ Q) (dg : Prop) [Decidable dg] (hd : dg ↔ Q = N) (h : Fin 2) (a r : Fin 512) :
    dsc dg x0 x1 x2 x3 x4 x5 h a r = gS q k v o l e (2 * G + h.val) (512 * N + a.val) (512 * Q + r.val) := by
  unfold dsc gS
  rw [wt_gen q k l x0 x1 x4 G Q N h0 h1 h4 hN dg hd]
  unfold dwt gP
  simp only [h2, h3, h5]
end

theorem dsc_eq (c : Dev nD) (t : Fin (cfgA Ideal).N) (dg : Prop) [Decidable dg] (hd : dg ↔ qN t.val = kN t.val) (h : Fin 2) (k r : Fin 512) :
    dsc dg (iblk m c 0 t) (iblk m c 1 t) (iblk m c 2 t) (iblk m c 3 t) (iblk m c 4 t) (iblk m c 5 t) h k r
      = gS (aq m c) (ak m c) (av m c) (ao m c) (al m c) (ad m c) (2 * gN t.val + h.val) (512 * kN t.val + k.val) (512 * qN t.val + r.val) :=
  dsc_gen _ _ _ _ _ _ _ _ _ _ _ _ _ _ _ (blk_0 m c t) (blk_1 m c t) (blk_2 m c t) (blk_3 m c t) (blk_4 m c t) (blk_5 m c t) (kN_le t.val) dg hd h k r
theorem wt_eq (c : Dev nD) (t : Fin (cfgA Ideal).N) (dg : Prop) [Decidable dg] (hd : dg ↔ qN t.val = kN t.val) (h : Fin 2) (k r : Fin 512) :
    wt dg (iblk m c 0 t) (iblk m c 1 t) (iblk m c 4 t) h k r
      = gW (aq m c) (ak m c) (al m c) (2 * gN t.val + h.val) (512 * kN t.val + k.val) (512 * qN t.val + r.val) :=
  wt_gen _ _ _ _ _ _ _ _ _ (blk_0 m c t) (blk_1 m c t) (blk_4 m c t) (kN_le t.val) dg hd h k r

theorem p0_eq (c : Dev nD) (t : Fin (cfgA Ideal).N) (dg : Prop) [Decidable dg] (hd : dg ↔ qN t.val = kN t.val) (h : Fin 2) (k : Fin 512) (d : Fin 256) :
    ∑ r : Fin 512, dsc dg (iblk m c 0 t) (iblk m c 1 t) (iblk m c 2 t) (iblk m c 3 t) (iblk m c 4 t) (iblk m c 5 t) h k r * (iblk m c 0 t : B0) (ix3 h r d)
      = D0 (aq m c) (ak m c) (av m c) (ao m c) (al m c) (ad m c) (2 * gN t.val + h.val) (512 * kN t.val + k.val) d (qN t.val) := by
  unfold D0
  exact Finset.sum_congr rfl fun r _ => by rw [dsc_eq m c t dg hd, blk_0]

theorem p1_eq (c : Dev nD) (t : Fin (cfgA Ideal).N) (dg : Prop) [Decidable dg] (hd : dg ↔ qN t.val = kN t.val) (h : Fin 2) (k : Fin 512) (d : Fin 128) :
    ∑ r : Fin 512, wt dg (iblk m c 0 t) (iblk m c 1 t) (iblk m c 4 t) h k r * (iblk m c 3 t : B3) (ix2 r (hcol h d))
      = D1 (aq m c) (ak m c) (ao m c) (al m c) (2 * gN t.val + h.val) (512 * kN t.val + k.val) d (qN t.val) := by
  unfold D1
  exact Finset.sum_congr rfl fun r _ => by rw [wt_eq m c t dg hd, blk_3]

theorem p2_eq (c : Dev nD) (t : Fin (cfgA Ideal).N) (dg : Prop) [Decidable dg] (hd : dg ↔ qN t.val = kN t.val) (h : Fin 2) (R : Fin 8192) (d : Fin 256) :
    (if hh : 512 * qN t.val ≤ R.val ∧ R.val < 512 * qN t.val + 512 then ∑ k : Fin 512, dsc dg (iblk m c 0 t) (iblk m c 1 t) (iblk m c 2 t) (iblk m c 3 t) (iblk m c 4 t) (iblk m c 5 t) h k ⟨R.val - 512 * qN t.val, by omega⟩ * (iblk m c 1 t : B0) (ix3 h k d) else 0)
      = if R.val / 512 = qN t.val then D2 (aq m c) (ak m c) (av m c) (ao m c) (al m c) (ad m c) (2 * gN t.val + h.val) R.val d (kN t.val) else 0 := by
  by_cases hh : 512 * qN t.val ≤ R.val ∧ R.val < 512 * qN t.val + 512
  · rw [dif_pos hh, if_pos (by omega)]
    unfold D2
    refine Finset.sum_congr rfl fun k _ => ?_
    rw [dsc_eq m c t dg hd, blk_1]
    have e : 512 * qN t.val + (R.val - 512 * qN t.val) = R.val := by omega
    dsimp only
    rw [e]
  · rw [dif_neg hh, if_neg (by omega)]

/-- The first accumulator at head row `h`, key row `k`. -/
def rs0 {c : Dev nD} (p : St Ideal c) (h : Fin 2) (k : Fin 512) (d : Fin 256) : EReal := (sc0.view.read (Elt Ideal) p.1 (ix3 h k d) : EReal)
def rs1 {c : Dev nD} (p : St Ideal c) (h : Fin 2) (k : Fin 512) (d : Fin 128) : EReal := (sc1.view.read (Elt Ideal) p.2.1 (ix3 h k d) : EReal)
def rs2 {c : Dev nD} (p : St Ideal c) (h : Fin 2) (R : Fin 8192) (d : Fin 256) : EReal := (sc2.view.read (Elt Ideal) p.2.2 (ix3 h R d) : EReal)

theorem rs0_mk {c : Dev nD} (p : St Ideal c) (x y z) (e : p = (x, y, z)) (h : Fin 2) (k : Fin 512) (d : Fin 256) :
    rs0 p h k d = (sc0.view.read (Elt Ideal) x (ix3 h k d) : EReal) := by subst e; rfl
theorem rs1_mk {c : Dev nD} (p : St Ideal c) (x y z) (e : p = (x, y, z)) (h : Fin 2) (k : Fin 512) (d : Fin 128) :
    rs1 p h k d = (sc1.view.read (Elt Ideal) y (ix3 h k d) : EReal) := by subst e; rfl
theorem rs2_mk {c : Dev nD} (p : St Ideal c) (x y z) (e : p = (x, y, z)) (h : Fin 2) (k : Fin 8192) (d : Fin 256) :
    rs2 p h k d = (sc2.view.read (Elt Ideal) z (ix3 h k d) : EReal) := by subst e; rfl

theorem pD_of_pF (t : Fin (cfgA Ideal).N) (h : pF t) : qN t.val = kN t.val := by
  have := walk_0 t.val ((pFv t).mp h); omega

theorem st0_A (c : Dev nD) (t : Fin (cfgA Ideal).N) (p : St Ideal c) (q0 : pF t) (h : Fin 2) (k : Fin 512) (d : Fin 256) :
    rs0 (step m c t p) h k d = D0 (aq m c) (ak m c) (av m c) (ao m c) (al m c) (ad m c) (2 * gN t.val + h.val) (512 * kN t.val + k.val) d (qN t.val) := by
  rw [rs0_mk _ _ _ _ (step_A m c t p q0)]
  exact (A_sc0 m c t p q0 h k d).trans (p0_eq m c t True (iff_of_true trivial (pD_of_pF t q0)) h k d)
theorem st0_B (c : Dev nD) (t : Fin (cfgA Ideal).N) (p : St Ideal c) (q0 : ¬pF t) (q1 : ¬pD t) (q2 : ¬pE t) (h : Fin 2) (k : Fin 512) (d : Fin 256) :
    rs0 (step m c t p) h k d = rs0 p h k d + D0 (aq m c) (ak m c) (av m c) (ao m c) (al m c) (ad m c) (2 * gN t.val + h.val) (512 * kN t.val + k.val) d (qN t.val) := by
  rw [rs0_mk _ _ _ _ (step_B m c t p q0 q1 q2), rs0_mk p _ _ _ rfl]
  exact (B_sc0 m c t p q0 q1 q2 h k d).trans (congrArg (_ + ·) (p0_eq m c t False (iff_of_false not_false fun hh => q1 ((pDv t).mpr hh)) h k d))
theorem st0_C (c : Dev nD) (t : Fin (cfgA Ideal).N) (p : St Ideal c) (q0 : ¬pF t) (q1 : ¬pD t) (q2 : pE t) (h : Fin 2) (k : Fin 512) (d : Fin 256) :
    rs0 (step m c t p) h k d = rs0 p h k d + D0 (aq m c) (ak m c) (av m c) (ao m c) (al m c) (ad m c) (2 * gN t.val + h.val) (512 * kN t.val + k.val) d (qN t.val) := by
  rw [rs0_mk _ _ _ _ (step_C m c t p q0 q1 q2), rs0_mk p _ _ _ rfl]
  exact (C_sc0 m c t p q0 q1 q2 h k d).trans (congrArg (_ + ·) (p0_eq m c t False (iff_of_false not_false fun hh => q1 ((pDv t).mpr hh)) h k d))
theorem st0_D (c : Dev nD) (t : Fin (cfgA Ideal).N) (p : St Ideal c) (q0 : ¬pF t) (q1 : pD t) (q2 : ¬pE t) (h : Fin 2) (k : Fin 512) (d : Fin 256) :
    rs0 (step m c t p) h k d = D0 (aq m c) (ak m c) (av m c) (ao m c) (al m c) (ad m c) (2 * gN t.val + h.val) (512 * kN t.val + k.val) d (qN t.val) := by
  rw [rs0_mk _ _ _ _ (step_D m c t p q0 q1 q2)]
  exact (D_sc0 m c t p q0 q1 q2 h k d).trans (p0_eq m c t True (iff_of_true trivial ((pDv t).mp q1)) h k d)
theorem st0_E (c : Dev nD) (t : Fin (cfgA Ideal).N) (p : St Ideal c) (q0 : ¬pF t) (q1 : pD t) (q2 : pE t) (h : Fin 2) (k : Fin 512) (d : Fin 256) :
    rs0 (step m c t p) h k d = D0 (aq m c) (ak m c) (av m c) (ao m c) (al m c) (ad m c) (2 * gN t.val + h.val) (512 * kN t.val + k.val) d (qN t.val) := by
  rw [rs0_mk _ _ _ _ (step_E m c t p q0 q1 q2)]
  exact (E_sc0 m c t p q0 q1 q2 h k d).trans (p0_eq m c t True (iff_of_true trivial ((pDv t).mp q1)) h k d)
theorem st1_A (c : Dev nD) (t : Fin (cfgA Ideal).N) (p : St Ideal c) (q0 : pF t) (h : Fin 2) (k : Fin 512) (d : Fin 128) :
    rs1 (step m c t p) h k d = D1 (aq m c) (ak m c) (ao m c) (al m c) (2 * gN t.val + h.val) (512 * kN t.val + k.val) d (qN t.val) := by
  rw [rs1_mk _ _ _ _ (step_A m c t p q0)]
  exact (A_sc1 m c t p q0 h k d).trans (p1_eq m c t True (iff_of_true trivial (pD_of_pF t q0)) h k d)
theorem st1_B (c : Dev nD) (t : Fin (cfgA Ideal).N) (p : St Ideal c) (q0 : ¬pF t) (q1 : ¬pD t) (q2 : ¬pE t) (h : Fin 2) (k : Fin 512) (d : Fin 128) :
    rs1 (step m c t p) h k d = rs1 p h k d + D1 (aq m c) (ak m c) (ao m c) (al m c) (2 * gN t.val + h.val) (512 * kN t.val + k.val) d (qN t.val) := by
  rw [rs1_mk _ _ _ _ (step_B m c t p q0 q1 q2), rs1_mk p _ _ _ rfl]
  exact (B_sc1 m c t p q0 q1 q2 h k d).trans (congrArg (_ + ·) (p1_eq m c t False (iff_of_false not_false fun hh => q1 ((pDv t).mpr hh)) h k d))
theorem st1_C (c : Dev nD) (t : Fin (cfgA Ideal).N) (p : St Ideal c) (q0 : ¬pF t) (q1 : ¬pD t) (q2 : pE t) (h : Fin 2) (k : Fin 512) (d : Fin 128) :
    rs1 (step m c t p) h k d = rs1 p h k d + D1 (aq m c) (ak m c) (ao m c) (al m c) (2 * gN t.val + h.val) (512 * kN t.val + k.val) d (qN t.val) := by
  rw [rs1_mk _ _ _ _ (step_C m c t p q0 q1 q2), rs1_mk p _ _ _ rfl]
  exact (C_sc1 m c t p q0 q1 q2 h k d).trans (congrArg (_ + ·) (p1_eq m c t False (iff_of_false not_false fun hh => q1 ((pDv t).mpr hh)) h k d))
theorem st1_D (c : Dev nD) (t : Fin (cfgA Ideal).N) (p : St Ideal c) (q0 : ¬pF t) (q1 : pD t) (q2 : ¬pE t) (h : Fin 2) (k : Fin 512) (d : Fin 128) :
    rs1 (step m c t p) h k d = D1 (aq m c) (ak m c) (ao m c) (al m c) (2 * gN t.val + h.val) (512 * kN t.val + k.val) d (qN t.val) := by
  rw [rs1_mk _ _ _ _ (step_D m c t p q0 q1 q2)]
  exact (D_sc1 m c t p q0 q1 q2 h k d).trans (p1_eq m c t True (iff_of_true trivial ((pDv t).mp q1)) h k d)
theorem st1_E (c : Dev nD) (t : Fin (cfgA Ideal).N) (p : St Ideal c) (q0 : ¬pF t) (q1 : pD t) (q2 : pE t) (h : Fin 2) (k : Fin 512) (d : Fin 128) :
    rs1 (step m c t p) h k d = D1 (aq m c) (ak m c) (ao m c) (al m c) (2 * gN t.val + h.val) (512 * kN t.val + k.val) d (qN t.val) := by
  rw [rs1_mk _ _ _ _ (step_E m c t p q0 q1 q2)]
  exact (E_sc1 m c t p q0 q1 q2 h k d).trans (p1_eq m c t True (iff_of_true trivial ((pDv t).mp q1)) h k d)
theorem st2_A (c : Dev nD) (t : Fin (cfgA Ideal).N) (p : St Ideal c) (q0 : pF t) (h : Fin 2) (k : Fin 8192) (d : Fin 256) :
    rs2 (step m c t p) h k d = 0 + (if k.val / 512 = qN t.val then D2 (aq m c) (ak m c) (av m c) (ao m c) (al m c) (ad m c) (2 * gN t.val + h.val) k.val d (kN t.val) else 0) := by
  rw [rs2_mk _ _ _ _ (step_A m c t p q0)]
  exact (A_sc2 m c t p q0 (qN t.val) (qN_lt t.val) (w0 t) h k d).trans (congrArg (fun z : EReal => 0 + z) (p2_eq m c t True (iff_of_true trivial (pD_of_pF t q0)) h k d))
theorem st2_B (c : Dev nD) (t : Fin (cfgA Ideal).N) (p : St Ideal c) (q0 : ¬pF t) (q1 : ¬pD t) (q2 : ¬pE t) (h : Fin 2) (k : Fin 8192) (d : Fin 256) :
    rs2 (step m c t p) h k d = rs2 p h k d + (if k.val / 512 = qN t.val then D2 (aq m c) (ak m c) (av m c) (ao m c) (al m c) (ad m c) (2 * gN t.val + h.val) k.val d (kN t.val) else 0) := by
  rw [rs2_mk _ _ _ _ (step_B m c t p q0 q1 q2), rs2_mk p _ _ _ rfl]
  exact (B_sc2 m c t p q0 q1 q2 (qN t.val) (qN_lt t.val) (w0 t) h k d).trans (congrArg (_ + ·) (p2_eq m c t False (iff_of_false not_false fun hh => q1 ((pDv t).mpr hh)) h k d))
theorem st2_C (c : Dev nD) (t : Fin (cfgA Ideal).N) (p : St Ideal c) (q0 : ¬pF t) (q1 : ¬pD t) (q2 : pE t) (h : Fin 2) (k : Fin 8192) (d : Fin 256) :
    rs2 (step m c t p) h k d = rs2 p h k d + (if k.val / 512 = qN t.val then D2 (aq m c) (ak m c) (av m c) (ao m c) (al m c) (ad m c) (2 * gN t.val + h.val) k.val d (kN t.val) else 0) := by
  rw [rs2_mk _ _ _ _ (step_C m c t p q0 q1 q2), rs2_mk p _ _ _ rfl]
  exact (C_sc2 m c t p q0 q1 q2 (qN t.val) (qN_lt t.val) (w0 t) h k d).trans (congrArg (_ + ·) (p2_eq m c t False (iff_of_false not_false fun hh => q1 ((pDv t).mpr hh)) h k d))
theorem st2_D (c : Dev nD) (t : Fin (cfgA Ideal).N) (p : St Ideal c) (q0 : ¬pF t) (q1 : pD t) (q2 : ¬pE t) (h : Fin 2) (k : Fin 8192) (d : Fin 256) :
    rs2 (step m c t p) h k d = rs2 p h k d + (if k.val / 512 = qN t.val then D2 (aq m c) (ak m c) (av m c) (ao m c) (al m c) (ad m c) (2 * gN t.val + h.val) k.val d (kN t.val) else 0) := by
  rw [rs2_mk _ _ _ _ (step_D m c t p q0 q1 q2), rs2_mk p _ _ _ rfl]
  exact (D_sc2 m c t p q0 q1 q2 (qN t.val) (qN_lt t.val) (w0 t) h k d).trans (congrArg (_ + ·) (p2_eq m c t True (iff_of_true trivial ((pDv t).mp q1)) h k d))
theorem rs2_def (c : Dev nD) (p : St Ideal c) (h : Fin 2) (k : Fin 8192) (d : Fin 256) : rs2 p h k d = (sc2.view.read (Elt Ideal) p.2.2 (ix3 h k d) : EReal) := rfl

set_option maxHeartbeats 2000000 in
theorem st2_E (c : Dev nD) (t : Fin (cfgA Ideal).N) (p : St Ideal c) (q0 : ¬pF t) (q1 : pD t) (q2 : pE t) (h : Fin 2) (k : Fin 8192) (d : Fin 256) :
    rs2 (step m c t p) h k d = rs2 p h k d + (if k.val / 512 = qN t.val then D2 (aq m c) (ak m c) (av m c) (ao m c) (al m c) (ad m c) (2 * gN t.val + h.val) k.val d (kN t.val) else 0) := by
  rw [rs2_mk _ _ _ _ (step_E m c t p q0 q1 q2), rs2_def c p h k d]
  exact (E_sc2 m c t p q0 q1 q2 (qN t.val) (qN_lt t.val) (w0 t) h k d).trans (congrArg (_ + ·) (p2_eq m c t True (iff_of_true trivial ((pDv t).mp q1)) h k d))

/-- At a diagonal pair accumulator 0 starts anew. -/
theorem sd0 (c : Dev nD) (t : Fin (cfgA Ideal).N) (p : St Ideal c) (hq : qN t.val = kN t.val) (h : Fin 2) (k : Fin 512) (d : Fin 256) :
    rs0 (step m c t p) h k d = D0 (aq m c) (ak m c) (av m c) (ao m c) (al m c) (ad m c) (2 * gN t.val + h.val) (512 * kN t.val + k.val) d (qN t.val) := by
  by_cases q0 : pF t
  · exact st0_A m c t p q0 h k d
  · have q1 := (pDv t).mpr hq
    by_cases q2 : pE t
    · exact st0_E m c t p q0 q1 q2 h k d
    · exact st0_D m c t p q0 q1 q2 h k d
/-- Past the diagonal accumulator 0 takes the query block's sum. -/
theorem sn0 (c : Dev nD) (t : Fin (cfgA Ideal).N) (p : St Ideal c) (hq : qN t.val ≠ kN t.val) (h : Fin 2) (k : Fin 512) (d : Fin 256) :
    rs0 (step m c t p) h k d = rs0 p h k d + D0 (aq m c) (ak m c) (av m c) (ao m c) (al m c) (ad m c) (2 * gN t.val + h.val) (512 * kN t.val + k.val) d (qN t.val) := by
  have q0 : ¬pF t := fun q0 => hq (pD_of_pF t q0)
  have q1 : ¬pD t := fun q1 => hq ((pDv t).mp q1)
  by_cases q2 : pE t
  · exact st0_C m c t p q0 q1 q2 h k d
  · exact st0_B m c t p q0 q1 q2 h k d

/-- At a diagonal pair accumulator 1 starts anew. -/
theorem sd1 (c : Dev nD) (t : Fin (cfgA Ideal).N) (p : St Ideal c) (hq : qN t.val = kN t.val) (h : Fin 2) (k : Fin 512) (d : Fin 128) :
    rs1 (step m c t p) h k d = D1 (aq m c) (ak m c) (ao m c) (al m c) (2 * gN t.val + h.val) (512 * kN t.val + k.val) d (qN t.val) := by
  by_cases q0 : pF t
  · exact st1_A m c t p q0 h k d
  · have q1 := (pDv t).mpr hq
    by_cases q2 : pE t
    · exact st1_E m c t p q0 q1 q2 h k d
    · exact st1_D m c t p q0 q1 q2 h k d
/-- Past the diagonal accumulator 1 takes the query block's sum. -/
theorem sn1 (c : Dev nD) (t : Fin (cfgA Ideal).N) (p : St Ideal c) (hq : qN t.val ≠ kN t.val) (h : Fin 2) (k : Fin 512) (d : Fin 128) :
    rs1 (step m c t p) h k d = rs1 p h k d + D1 (aq m c) (ak m c) (ao m c) (al m c) (2 * gN t.val + h.val) (512 * kN t.val + k.val) d (qN t.val) := by
  have q0 : ¬pF t := fun q0 => hq (pD_of_pF t q0)
  have q1 : ¬pD t := fun q1 => hq ((pDv t).mp q1)
  by_cases q2 : pE t
  · exact st1_C m c t p q0 q1 q2 h k d
  · exact st1_B m c t p q0 q1 q2 h k d

theorem sf2 (c : Dev nD) (t : Fin (cfgA Ideal).N) (p : St Ideal c) (h0 : t.val % 136 = 0) (h : Fin 2) (k : Fin 8192) (d : Fin 256) :
    rs2 (step m c t p) h k d = 0 + (if k.val / 512 = qN t.val then D2 (aq m c) (ak m c) (av m c) (ao m c) (al m c) (ad m c) (2 * gN t.val + h.val) k.val d (kN t.val) else 0) := st2_A m c t p ((pFv t).mpr h0) h k d
theorem sn2 (c : Dev nD) (t : Fin (cfgA Ideal).N) (p : St Ideal c) (h0 : t.val % 136 ≠ 0) (h : Fin 2) (k : Fin 8192) (d : Fin 256) :
    rs2 (step m c t p) h k d = rs2 p h k d + (if k.val / 512 = qN t.val then D2 (aq m c) (ak m c) (av m c) (ao m c) (al m c) (ad m c) (2 * gN t.val + h.val) k.val d (kN t.val) else 0) := by
  have q0 : ¬pF t := fun q0 => h0 ((pFv t).mp q0)
  by_cases q1 : pD t
  · by_cases q2 : pE t
    · exact st2_E m c t p q0 q1 q2 h k d
    · exact st2_D m c t p q0 q1 q2 h k d
  · by_cases q2 : pE t
    · exact st2_C m c t p q0 q1 q2 h k d
    · exact st2_B m c t p q0 q1 q2 h k d

end Cert.KernelIdeal.Fl

end
-- ==== Proof.KI.Walk.lean ====
/- The three accumulators along the walk over the grid. -/
module

public import proofs.«01_k».proof.Proof.KI.Step

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-! ## The accumulators along the walk -/

theorem N_lt (t : Fin (cfgA Ideal).N) : t.val < 1088 := t.isLt

/-- After point `n` of the walk. -/
structure Inv (c : Dev nD) (n : ℕ) (p : St Ideal c) : Prop where
  i0 : ∀ (h : Fin 2) (k : Fin 512) (d : Fin 256), rs0 p h k d
    = ∑ i ∈ Finset.Icc (kN n) (qN n), D0 (aq m c) (ak m c) (av m c) (ao m c) (al m c) (ad m c) (2 * gN n + h.val) (512 * kN n + k.val) d i
  i1 : ∀ (h : Fin 2) (k : Fin 512) (d : Fin 128), rs1 p h k d
    = ∑ i ∈ Finset.Icc (kN n) (qN n), D1 (aq m c) (ak m c) (ao m c) (al m c) (2 * gN n + h.val) (512 * kN n + k.val) d i
  i2 : ∀ (h : Fin 2) (R : Fin 8192) (d : Fin 256), rs2 p h R d
    = ∑ j ∈ Finset.range (kN n), (if j ≤ R.val / 512 then D2 (aq m c) (ak m c) (av m c) (ao m c) (al m c) (ad m c) (2 * gN n + h.val) R.val d j else 0)
      + (if kN n ≤ R.val / 512 ∧ R.val / 512 ≤ qN n then D2 (aq m c) (ak m c) (av m c) (ao m c) (al m c) (ad m c) (2 * gN n + h.val) R.val d (kN n) else 0)

theorem icc_succ (g : ℕ → EReal) (a b : ℕ) (h : a ≤ b) : ∑ i ∈ Finset.Icc a (b + 1), g i = ∑ i ∈ Finset.Icc a b, g i + g (b + 1) :=
  Finset.sum_Icc_succ_top (by omega) g

/-- A diagonal pair's step in the query's account. -/
theorem acc_diag (g : ℕ → EReal) (j I : ℕ) (hI : I < 16) :
    ∑ x ∈ Finset.range j, (if x ≤ I then g x else 0) + (if j ≤ I ∧ I ≤ 15 then g j else 0) + (if I = j + 1 then g (j + 1) else 0)
      = ∑ x ∈ Finset.range (j + 1), (if x ≤ I then g x else 0) + (if j + 1 ≤ I ∧ I ≤ j + 1 then g (j + 1) else 0) := by
  rw [Finset.sum_range_succ]
  congr 1
  · congr 1
    exact if_congr (by omega) rfl rfl
  · exact if_congr (by omega) rfl rfl

/-- A step along a row in the query's account. -/
theorem acc_row (S : EReal) (g : EReal) (j i I : ℕ) (hj : j ≤ i) :
    S + (if j ≤ I ∧ I ≤ i then g else 0) + (if I = i + 1 then g else 0) = S + (if j ≤ I ∧ I ≤ i + 1 then g else 0) := by
  rw [add_assoc]
  congr 1
  by_cases h1 : j ≤ I ∧ I ≤ i
  · rw [if_pos h1, if_neg (by omega), if_pos (by omega), add_zero]
  · by_cases h2 : I = i + 1
    · rw [if_neg h1, if_pos h2, if_pos (by omega), zero_add]
    · rw [if_neg h1, if_neg h2, if_neg (by omega), zero_add]

theorem inv_first (c : Dev nD) (t : Fin (cfgA Ideal).N) (p : St Ideal c) (h0 : t.val % 136 = 0) : Inv m c t.val (step m c t p) := by
  obtain ⟨hq, hk⟩ := walk_0 t.val h0
  have hqk : qN t.val = kN t.val := by omega
  refine ⟨fun h k d => ?_, fun h k d => ?_, fun h R d => ?_⟩
  · rw [sd0 m c t p hqk h k d, hqk, Finset.Icc_self, Finset.sum_singleton]
  · rw [sd1 m c t p hqk h k d, hqk, Finset.Icc_self, Finset.sum_singleton]
  · rw [sf2 m c t p h0 h R d, hk, hq, Finset.sum_range_zero]
    congr 1
    exact if_congr (by omega) rfl rfl

theorem inv_next (c : Dev nD) (t : Fin (cfgA Ideal).N) (n : ℕ) (hn : t.val = n + 1) (p : St Ideal c) (h0 : t.val % 136 ≠ 0) (H : Inv m c n p) :
    Inv m c t.val (step m c t p) := by
  have W := walk_s n (hn ▸ h0)
  rw [← hn] at W
  obtain ⟨hg, hd, ho⟩ := W
  by_cases hqk : qN t.val = kN t.val
  · obtain ⟨hk, hq⟩ := hd hqk
    refine ⟨fun h k d => ?_, fun h k d => ?_, fun h R d => ?_⟩
    · rw [sd0 m c t p hqk h k d, hqk, Finset.Icc_self, Finset.sum_singleton]
    · rw [sd1 m c t p hqk h k d, hqk, Finset.Icc_self, Finset.sum_singleton]
    · rw [sn2 m c t p h0 h R d, H.i2 h R d, hqk, hg, hk, hq]
      exact acc_diag (fun j => D2 (aq m c) (ak m c) (av m c) (ao m c) (al m c) (ad m c) (2 * gN n + h.val) R.val d j) (kN n) (R.val / 512) (by have := R.isLt; omega)
  · obtain ⟨hk, hq⟩ := ho hqk
    have hl := kN_le n
    refine ⟨fun h k d => ?_, fun h k d => ?_, fun h R d => ?_⟩
    · rw [sn0 m c t p hqk h k d, H.i0 h k d, hg, hk, hq, icc_succ _ _ _ hl]
    · rw [sn1 m c t p hqk h k d, H.i1 h k d, hg, hk, hq, icc_succ _ _ _ hl]
    · rw [sn2 m c t p h0 h R d, H.i2 h R d, hg, hk, hq]
      exact acc_row _ _ _ _ _ hl

theorem inv_all (c : Dev nD) : ∀ (n : ℕ) (hn : n < 1088), Inv m c n (traj m c (n + 1))
  | 0, hn => by
    rw [traj_succ m c (⟨0, hn⟩ : Fin (cfgA Ideal).N)]
    exact inv_first m c ⟨0, hn⟩ _ rfl
  | n + 1, hn => by
    rw [traj_succ m c (⟨n + 1, hn⟩ : Fin (cfgA Ideal).N)]
    by_cases h0 : (n + 1) % 136 = 0
    · exact inv_first m c ⟨n + 1, hn⟩ _ h0
    · exact inv_next m c ⟨n + 1, hn⟩ n rfl _ h0 (inv_all c n (by omega))

end Cert.KernelIdeal.Fl

end
-- ==== Proof.KI.ValOut.lean ====
/- What the last query block of a key block, and the last point of a head group, write back. -/
module

public import proofs.«01_k».proof.Proof.KI.Tile
public import proofs.«01_k».proof.Proof.KI.Dat

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-- The rounding of the natural logarithm of two is, over the reals, that logarithm. -/
theorem ln2_val : (Named.named κ "ln2" 0x3F317218#32 : Ideal .f32) = ((Real.log 2 : ℝ) : EReal) :=
  IdealRules.named_const.ideal_named_scalar _ _ _ _ rfl

/-- The score scale. -/
def scl : EReal := (Scalar.ofBits (F := Ideal) .f32 0x3D93CD3A#32 : Ideal .f32)

theorem pay8_apply (X : Vec Ideal S2x8192x256 .f32) (h : Fin 2) (k : Fin 8192) (d : Fin 256) : (k0_pay8 X (ix3 h k d) : EReal) = X (ix3 h k d) * scl := by
  pointwise [k0_pay8]
  rfl

/-- A load of the whole buffer, at an element. -/
theorem raw {sig' : RefSig} {κ : Kind} {sp : Space} {e : EltTy} {a b c : ℕ} (v : View sig' κ sp ⟨3, ![a, b, c]⟩ e) (f : v.ty.Contents (Elt Ideal))
    (inb : ∀ x, (![0, 0, 0] : Fin 3 → ℕ) x + (![a, b, c] : Fin 3 → ℕ) x ≤ (![a, b, c] : Fin 3 → ℕ) x) (h : Fin a) (k : Fin b) (d : Fin c) :
    v.readAt (Elt Ideal) (Rect.unit (s := ⟨3, ![a, b, c]⟩) ![0, 0, 0] ![a, b, c] inb).toLoadRect f (ix3 h k d) = v.read (Elt Ideal) f (ix3 h k d) := by
  rw [View.readAt_apply]
  refine congrArg _ (funext fun x => Fin.ext ?_)
  match x with
  | ⟨0, _⟩ => show 0 + 1 * h.val = h.val; omega
  | ⟨1, _⟩ => show 0 + 1 * k.val = k.val; omega
  | ⟨2, _⟩ => show 0 + 1 * d.val = d.val; omega

theorem E_list6 (c : Dev nD) (t : Fin (cfgA Ideal).N) (p : St Ideal c) (q0 : ¬pF t) (q1 : pD t) (q2 : pE t) :
    (RE m c t p.2.2 q0 q1 q2).1 = [(⟨Rect.unit (s := S2x8192x256) ![0, 0, 0] S2x8192x256.size inb_S2x8192x256_S2x8192x256_0_0_0,
      k0_pay8 (sc2.view.readAt (Elt Ideal) (Rect.unit (s := S2x8192x256) ![0, 0, 0] S2x8192x256.size inb_S2x8192x256_S2x8192x256_0_0_0).toLoadRect
        (RE m c t p.2.2 q0 q1 q2).2.2.2.2.2.1)⟩ : View.Piece (Elt Ideal) S2x8192x256 .bf16)] := by
  unfold RE runE
  dsimp only
  unfold runE.sl.HO6_1
  rfl

theorem E_out6 (c : Dev nD) (t : Fin (cfgA Ideal).N) (p : St Ideal c) (q0 : ¬pF t) (q1 : pD t) (q2 : pE t) (h : Fin 2) (k : Fin 8192) (d : Fin 256) :
    (aft6 m c t p (ix3 h k d) : EReal) = (sc2.view.read (Elt Ideal) (RE m c t p.2.2 q0 q1 q2).2.2.2.2.2.1 (ix3 h k d) : EReal) * scl := by
  refine (congrFun (aft6_E m c t p q0 q1 q2) (ix3 h k d)).trans ?_
  have e := E_list6 m c t p q0 q1 q2
  generalize (RE m c t p.2.2 q0 q1 q2).2.2.2.2.2.1 = S at e ⊢
  rw [e]
  refine (rdw VO6 VO6.junk _ _ [] h k d).trans ?_
  exact (pay8_apply _ h k d).trans (congrArg (· * scl) (raw _ _ _ h k d))

theorem C_out7 (c : Dev nD) (t : Fin (cfgA Ideal).N) (p : St Ideal c) (q0 : ¬pF t) (q1 : ¬pD t) (q2 : pE t) (h : Fin 2) (k : Fin 512) (d : Fin 256) :
    (aft7 m c t p (ix3 h k d) : EReal) = (sc0.view.read (Elt Ideal) (RC m c t p.1 p.2.1 p.2.2 q0 q1 q2).2.2.1 (ix3 h k d) : EReal) * ((Real.log 2 : ℝ) : EReal) := by
  rw [aft7_C m c t p q0 q1 q2]
  unfold RC runC
  dsimp only
  generalize iblk m c 0 t = x0
  generalize iblk m c 1 t = x1
  generalize iblk m c 2 t = x2
  generalize iblk m c 3 t = x3
  generalize iblk m c 4 t = x4
  generalize iblk m c 5 t = x5
  simp only [runC.sl.HO7_1, runC.sl.v22, runC.sl.v27, View.readCov]
  pointwise [rdw, k0_pay6, k0_pay7, k0_pay8, View.readAt_apply, ln2_val]

theorem C_out8 (c : Dev nD) (t : Fin (cfgA Ideal).N) (p : St Ideal c) (q0 : ¬pF t) (q1 : ¬pD t) (q2 : pE t) (h : Fin 2) (k : Fin 512) (d : Fin 128) :
    (aft8 m c t p (ix3 h k d) : EReal) = (sc1.view.read (Elt Ideal) (RC m c t p.1 p.2.1 p.2.2 q0 q1 q2).2.2.2.1 (ix3 h k d) : EReal) := by
  rw [aft8_C m c t p q0 q1 q2]
  unfold RC runC
  dsimp only
  generalize iblk m c 0 t = x0
  generalize iblk m c 1 t = x1
  generalize iblk m c 2 t = x2
  generalize iblk m c 3 t = x3
  generalize iblk m c 4 t = x4
  generalize iblk m c 5 t = x5
  simp only [runC.sl.HO8_1, runC.sl.v22, runC.sl.v27, View.readCov]
  pointwise [rdw, k0_pay6, k0_pay7, k0_pay8, View.readAt_apply, ln2_val]

theorem E_out7 (c : Dev nD) (t : Fin (cfgA Ideal).N) (p : St Ideal c) (q0 : ¬pF t) (q1 : pD t) (q2 : pE t) (h : Fin 2) (k : Fin 512) (d : Fin 256) :
    (aft7 m c t p (ix3 h k d) : EReal) = (sc0.view.read (Elt Ideal) (RE m c t p.2.2 q0 q1 q2).2.2.2.1 (ix3 h k d) : EReal) * ((Real.log 2 : ℝ) : EReal) := by
  rw [aft7_E m c t p q0 q1 q2]
  unfold RE runE
  dsimp only
  generalize iblk m c 0 t = x0
  generalize iblk m c 1 t = x1
  generalize iblk m c 2 t = x2
  generalize iblk m c 3 t = x3
  generalize iblk m c 4 t = x4
  generalize iblk m c 5 t = x5
  simp only [runE.sl.HO7_1, runE.sl.v22, runE.sl.v27, View.readCov]
  pointwise [rdw, k0_pay6, k0_pay7, k0_pay8, View.readAt_apply, ln2_val]

theorem E_out8 (c : Dev nD) (t : Fin (cfgA Ideal).N) (p : St Ideal c) (q0 : ¬pF t) (q1 : pD t) (q2 : pE t) (h : Fin 2) (k : Fin 512) (d : Fin 128) :
    (aft8 m c t p (ix3 h k d) : EReal) = (sc1.view.read (Elt Ideal) (RE m c t p.2.2 q0 q1 q2).2.2.2.2.1 (ix3 h k d) : EReal) := by
  rw [aft8_E m c t p q0 q1 q2]
  unfold RE runE
  dsimp only
  generalize iblk m c 0 t = x0
  generalize iblk m c 1 t = x1
  generalize iblk m c 2 t = x2
  generalize iblk m c 3 t = x3
  generalize iblk m c 4 t = x4
  generalize iblk m c 5 t = x5
  simp only [runE.sl.HO8_1, runE.sl.v22, runE.sl.v27, View.readCov]
  pointwise [rdw, k0_pay6, k0_pay7, k0_pay8, View.readAt_apply, ln2_val]

end Cert.KernelIdeal.Fl

end
-- ==== Proof.KI.Ends.lean ====
/- What the written-back blocks hold: the whole sums of the attention gradient. -/
module

public import proofs.«01_k».proof.Proof.KI.Walk
public import proofs.«01_k».proof.Proof.KI.ValOut

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-! ## What the written-back blocks hold -/

/-- The query's gradient before the reference's scaling. -/
def gQ (c : Dev nD) (H R : ℕ) (d : Fin 256) : EReal := (∑ K : Fin 8192, gS (aq m c) (ak m c) (av m c) (ao m c) (al m c) (ad m c) H K.val R * ak m c H K.val d) * scl
/-- The key's gradient. -/
def gK (c : Dev nD) (H K : ℕ) (d : Fin 256) : EReal := (∑ R : Fin 8192, gS (aq m c) (ak m c) (av m c) (ao m c) (al m c) (ad m c) H K R.val * aq m c H R.val d) * ((Real.log 2 : ℝ) : EReal)
/-- The value's gradient. -/
def gV (c : Dev nD) (H K : ℕ) (d : Fin 128) : EReal := ∑ R : Fin 8192, gW (aq m c) (ak m c) (al m c) H K R.val * ao m c H R.val d

theorem C0 (c : Dev nD) (t : Fin (cfgA Ideal).N) (p : St Ideal c) (q0 : ¬pF t) (q1 : pD t) (q2 : pE t) {h k d} :
    rs0 (step m c t p) h k d = (sc0.view.read (Elt Ideal) (RE m c t p.2.2 q0 q1 q2).2.2.2.1 (ix3 h k d) : EReal) :=
  rs0_mk _ _ _ _ (step_E m c t p q0 q1 q2) _ _ _
theorem C1 (c : Dev nD) (t : Fin (cfgA Ideal).N) (p : St Ideal c) (q0 : ¬pF t) (q1 : ¬pD t) (q2 : pE t) {h k d} :
    rs0 (step m c t p) h k d = (sc0.view.read (Elt Ideal) (RC m c t p.1 p.2.1 p.2.2 q0 q1 q2).2.2.1 (ix3 h k d) : EReal) :=
  rs0_mk _ _ _ _ (step_C m c t p q0 q1 q2) _ _ _
theorem C0' (c : Dev nD) (t : Fin (cfgA Ideal).N) (p : St Ideal c) (q0 : ¬pF t) (q1 : pD t) (q2 : pE t) {h k d} :
    rs1 (step m c t p) h k d = (sc1.view.read (Elt Ideal) (RE m c t p.2.2 q0 q1 q2).2.2.2.2.1 (ix3 h k d) : EReal) :=
  rs1_mk _ _ _ _ (step_E m c t p q0 q1 q2) _ _ _
theorem C1' (c : Dev nD) (t : Fin (cfgA Ideal).N) (p : St Ideal c) (q0 : ¬pF t) (q1 : ¬pD t) (q2 : pE t) {h k d} :
    rs1 (step m c t p) h k d = (sc1.view.read (Elt Ideal) (RC m c t p.1 p.2.1 p.2.2 q0 q1 q2).2.2.2.1 (ix3 h k d) : EReal) :=
  rs1_mk _ _ _ _ (step_C m c t p q0 q1 q2) _ _ _
set_option maxHeartbeats 2000000 in
theorem C2 (c : Dev nD) (t : Fin (cfgA Ideal).N) (p : St Ideal c) (q0 : ¬pF t) (q1 : pD t) (q2 : pE t) {h k d} :
    rs2 (step m c t p) h k d = (sc2.view.read (Elt Ideal) (RE m c t p.2.2 q0 q1 q2).2.2.2.2.2.1 (ix3 h k d) : EReal) :=
  rs2_mk _ _ _ _ (step_E m c t p q0 q1 q2) _ _ _

theorem inv_at (c : Dev nD) (t : Fin (cfgA Ideal).N) : Inv m c t.val (step m c t (traj m c t.val)) := by
  rw [← traj_succ]; exact inv_all m c t.val (N_lt t)

theorem not_first (t : Fin (cfgA Ideal).N) (hq : qN t.val = 15) : ¬pF t := fun q0 => by
  have := walk_0 t.val ((pFv t).mp q0); omega

theorem s0_end (c : Dev nD) (t : Fin (cfgA Ideal).N) (hq : qN t.val = 15) (h : Fin 2) (k : Fin 512) (d : Fin 256) :
    rs0 (step m c t (traj m c t.val)) h k d
      = ∑ R : Fin 8192, gS (aq m c) (ak m c) (av m c) (ao m c) (al m c) (ad m c) (2 * gN t.val + h.val) (512 * kN t.val + k.val) R.val * aq m c (2 * gN t.val + h.val) R.val d := by
  rw [(inv_at m c t).i0 h k d, hq]
  exact sum_up (fun i => D0 (aq m c) (ak m c) (av m c) (ao m c) (al m c) (ad m c) (2 * gN t.val + h.val) (512 * kN t.val + k.val) d i)
    (fun R => gS (aq m c) (ak m c) (av m c) (ao m c) (al m c) (ad m c) (2 * gN t.val + h.val) (512 * kN t.val + k.val) R * aq m c (2 * gN t.val + h.val) R d)
    (fun _ => rfl) (kN t.val) (kN_lt _) (fun i hi => D0_zero _ _ _ _ _ _ _ _ _ _ (by omega))

theorem s1_end (c : Dev nD) (t : Fin (cfgA Ideal).N) (hq : qN t.val = 15) (h : Fin 2) (k : Fin 512) (d : Fin 128) :
    rs1 (step m c t (traj m c t.val)) h k d = gV m c (2 * gN t.val + h.val) (512 * kN t.val + k.val) d := by
  rw [(inv_at m c t).i1 h k d, hq]
  exact sum_up (fun i => D1 (aq m c) (ak m c) (ao m c) (al m c) (2 * gN t.val + h.val) (512 * kN t.val + k.val) d i)
    (fun R => gW (aq m c) (ak m c) (al m c) (2 * gN t.val + h.val) (512 * kN t.val + k.val) R * ao m c (2 * gN t.val + h.val) R d)
    (fun _ => rfl) (kN t.val) (kN_lt _) (fun i hi => D1_zero _ _ _ _ _ _ _ _ (by omega))

theorem s2_end (c : Dev nD) (t : Fin (cfgA Ideal).N) (hq : qN t.val = 15) (hk : kN t.val = 15) (h : Fin 2) (R : Fin 8192) (d : Fin 256) :
    rs2 (step m c t (traj m c t.val)) h R d
      = ∑ K : Fin 8192, gS (aq m c) (ak m c) (av m c) (ao m c) (al m c) (ad m c) (2 * gN t.val + h.val) K.val R.val * ak m c (2 * gN t.val + h.val) K.val d := by
  rw [(inv_at m c t).i2 h R d, hq, hk]
  exact sum_down (fun j => D2 (aq m c) (ak m c) (av m c) (ao m c) (al m c) (ad m c) (2 * gN t.val + h.val) R.val d j)
    (fun K => gS (aq m c) (ak m c) (av m c) (ao m c) (al m c) (ad m c) (2 * gN t.val + h.val) K R.val * ak m c (2 * gN t.val + h.val) K d)
    (fun _ => rfl) (R.val / 512) (by have := R.isLt; omega) (fun j hj => D2_zero _ _ _ _ _ _ _ _ _ _ (by omega))

theorem val7 (c : Dev nD) (t : Fin (cfgA Ideal).N) (hq : qN t.val = 15) (h : Fin 2) (k : Fin 512) (d : Fin 256) :
    (aft7 m c t (traj m c t.val) (ix3 h k d) : EReal) = gK m c (2 * gN t.val + h.val) (512 * kN t.val + k.val) d := by
  have q0 := not_first t hq
  have q2 : pE t := (pEv t).mpr hq
  have S := s0_end m c t hq h k d
  unfold gK
  rw [← S]
  by_cases q1 : pD t
  · rw [C0 m c t _ q0 q1 q2]
    exact E_out7 m c t _ q0 q1 q2 h k d
  · rw [C1 m c t _ q0 q1 q2]
    exact C_out7 m c t _ q0 q1 q2 h k d

theorem val8 (c : Dev nD) (t : Fin (cfgA Ideal).N) (hq : qN t.val = 15) (h : Fin 2) (k : Fin 512) (d : Fin 128) :
    (aft8 m c t (traj m c t.val) (ix3 h k d) : EReal) = gV m c (2 * gN t.val + h.val) (512 * kN t.val + k.val) d := by
  have q0 := not_first t hq
  have q2 : pE t := (pEv t).mpr hq
  have S := s1_end m c t hq h k d
  rw [← S]
  by_cases q1 : pD t
  · rw [C0' m c t _ q0 q1 q2]
    exact E_out8 m c t _ q0 q1 q2 h k d
  · rw [C1' m c t _ q0 q1 q2]
    exact C_out8 m c t _ q0 q1 q2 h k d

theorem val6 (c : Dev nD) (t : Fin (cfgA Ideal).N) (hq : qN t.val = 15) (hk : kN t.val = 15) (h : Fin 2) (R : Fin 8192) (d : Fin 256) :
    (aft6 m c t (traj m c t.val) (ix3 h R d) : EReal) = gQ m c (2 * gN t.val + h.val) R.val d := by
  have q0 := not_first t hq
  have q1 : pD t := (pDv t).mpr (by omega)
  have q2 : pE t := (pEv t).mpr hq
  have S := s2_end m c t hq hk h R d
  unfold gQ
  rw [← S, C2 m c t _ q0 q1 q2]
  exact E_out6 m c t _ q0 q1 q2 h R d

end Cert.KernelIdeal.Fl

end
-- ==== Proof.KI.Real.lean ====
/- What the kernel writes back, at real arguments. -/
module

public import proofs.«01_k».proof.Proof.KI.HostC
public import proofs.«01_k».proof.Proof.KI.Ends

@[expose] public section

set_option maxRecDepth 16384
set_option Elab.async false

noncomputable section

namespace Cert.KernelIdeal.Fl

open Cert.KernelIdeal Cert.KernelIdeal.Gen Cert.Attn
open Idealize.ShloMosaic
open Idealize.ShloMosaic.TcCoe Idealize.ShloMosaic.Tactic

variable (m : (ℓ : Loc nD τ sig) → Buf (Elt Ideal) ℓ) (c : Dev nD) {A : Args}
  (r : Real6 (a0 m c) (a1 m c) (a2 m c) (a3 m c) (a4 m c) (a5 m c) A)
include r

theorem aq_real (H : Fin 16) (R : Fin 8192) (d : Fin 256) :
    aq m c H.val R.val d = ((cc (A.qn R H) (A.qr R H) d * (Attn.scl * (1 / Real.log 2)) : ℝ) : EReal) := by
  unfold aq; rw [dif_pos ⟨H.isLt, R.isLt⟩, V_q]; exact hq_real r H R d
theorem ak_real (H : Fin 16) (R : Fin 8192) (d : Fin 256) : ak m c H.val R.val d = ((cc (A.kn R H) (A.kr R) d : ℝ) : EReal) := by
  unfold ak; rw [dif_pos ⟨H.isLt, R.isLt⟩, V_k]; exact hk_real r H R d
theorem av_real (H : Fin 16) (R : Fin 8192) (d : Fin 128) : av m c H.val R.val d = (A.v R H d : EReal) := by
  unfold av; rw [dif_pos ⟨H.isLt, R.isLt⟩, V_v]; exact hv_real r H R d
theorem ao_real (H : Fin 16) (R : Fin 8192) (d : Fin 128) : ao m c H.val R.val d = (A.ct R H d : EReal) := by
  unfold ao; rw [dif_pos ⟨H.isLt, R.isLt⟩, V_o]; exact ho_real r H R d _

/-- The saved rows at real arguments: some real shift of each row, the logarithm of its sum, and the row's mean. -/
theorem rows_real : ∃ M : Fin 16 → Fin 8192 → ℝ,
    (∀ H R, al m c H.val R.val = (((M H R + Real.log (el A (M H R) H R)) * (1 / Real.log 2) : ℝ) : EReal))
      ∧ ∀ H R, ad m c H.val R.val = (del A H R : EReal) := by
  have hs : ∀ H R K, (vs m c (ix3 H R K) : EReal) = ms A H R K := hs_real r
  choose M hM using hm_real hs
  have he : ∀ H R K, (ve m c (ix3 H R K) : EReal) = (ew A (M H R) H R K : EReal) := he_real hs hM
  have hl : ∀ H R, (vl m c (ix3 H R 0) : EReal) = (el A (M H R) H R : EReal) := hl_real he
  refine ⟨M, fun H R => ?_, fun H R => ?_⟩
  · unfold al; rw [dif_pos ⟨H.isLt, R.isLt⟩, V_lse]; exact hlse_real hM hl H R
  · unfold ad; rw [dif_pos ⟨H.isLt, R.isLt⟩, V_del]; exact hdel_real r he hl H R

/-- The kernel's weight is the attention's probability. -/
theorem gW_real (H : Fin 16) (K R : Fin 8192) :
    gW (aq m c) (ak m c) (al m c) H.val K.val R.val = (pr A H R K : EReal) := by
  obtain ⟨M, hal, -⟩ := rows_real m c r
  unfold gW
  by_cases h : K.val ≤ R.val
  · rw [if_pos h, hal]
    simp only [ak_real m c r, aq_real m c r, ← EReal.coe_mul]
    rw [coe_sum, dot_sc, ← EReal.coe_sub, Ideal.exp2_coe, pow_pr A (M H R) H R K h]
  · rw [if_neg h]
    unfold pr ew
    rw [if_neg (show ¬K ≤ R from h), zero_div, EReal.coe_zero]

/-- The kernel's score gradient. -/
theorem gS_real (H : Fin 16) (K R : Fin 8192) :
    gS (aq m c) (ak m c) (av m c) (ao m c) (al m c) (ad m c) H.val K.val R.val = (ds A H R K : EReal) := by
  obtain ⟨M, -, had⟩ := rows_real m c r
  unfold gS gP
  rw [gW_real m c r, had]
  simp only [av_real m c r, ao_real m c r, ← EReal.coe_mul]
  rw [coe_sum, ← EReal.coe_sub, ← EReal.coe_mul]
  rfl

theorem gQ_real (H : Fin 16) (R : Fin 8192) (d : Fin 256) : gQ m c H.val R.val d = (oQ A H R d : EReal) := by
  unfold gQ oQ
  simp only [gS_real m c r, ak_real m c r, ← EReal.coe_mul]
  rw [coe_sum, EReal.coe_mul, ← Attn.scl_coe]
  rfl
theorem gK_real (H : Fin 16) (K : Fin 8192) (d : Fin 256) : gK m c H.val K.val d = (oK A H K d : EReal) := by
  unfold gK
  simp only [gS_real m c r, aq_real m c r, ← EReal.coe_mul]
  rw [coe_sum, ← EReal.coe_mul, oK_eq]
theorem gV_real (H : Fin 16) (K : Fin 8192) (d : Fin 128) : gV m c H.val K.val d = (oV A H K d : EReal) := by
  unfold gV oV
  simp only [gW_real m c r, ao_real m c r, ← EReal.coe_mul]
  rw [coe_sum]

end Cert.KernelIdeal.Fl

end
-- ==== Proof.KI.Emb6.lean ====
/- Where a result block lies in its array. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

theorem emb_6 (t : Fin (cfgA Ideal).N) (h : Fin 2) (r : Fin 8192) (d : Fin 256) (hc : 2 * gN t.val + h.val < 16 ∧ r.val < 8192) :
    (((cfgA Ideal).win (6 : Fin 9)).blk t).view.emb (ix3 h r d) = (ix3 ⟨2 * gN t.val + h.val, hc.1⟩ ⟨r.val, hc.2⟩ d : S16x8192x256.Idx) := by
  have em (a) := Pipeline.Window.rect_emb_val ((cfgA Ideal).win (6 : Fin 9)) t (ix3 h r d) a rfl
  have ei := ix_6 t
  have i0 : ((cfgA Ideal).win (6 : Fin 9)).index t (0 : Fin 3) = gN t.val := congrFun ei (0 : Fin 3)
  have s0 : ((cfgA Ideal).win (6 : Fin 9)).size (0 : Fin 3) = 2 := rfl
  have y0 : ((ix3 h r d) (0 : Fin 3)).val = h.val := rfl
  have f0 : gN t.val * 2 + h.val = 2 * gN t.val + h.val := by omega
  have i1 : ((cfgA Ideal).win (6 : Fin 9)).index t (1 : Fin 3) = 0 := congrFun ei (1 : Fin 3)
  have y1 : ((ix3 h r d) (1 : Fin 3)).val = r.val := rfl
  have i2 : ((cfgA Ideal).win (6 : Fin 9)).index t (2 : Fin 3) = 0 := congrFun ei (2 : Fin 3)
  have s2 : ((cfgA Ideal).win (6 : Fin 9)).size (2 : Fin 3) = 256 := rfl
  have y2 : ((ix3 h r d) (2 : Fin 3)).val = d.val := rfl
  have f2 : 0 * 256 + d.val = d.val := by omega
  refine funext fun a => Fin.ext ?_
  fin_cases a
  · exact ((em (0 : Fin 3)).trans (congrArg₂ (· + ·) (congrArg₂ (· * ·) i0 s0) y0)).trans f0
  · exact ((em (1 : Fin 3)).trans (congrArg₂ (· + ·) ((congrArg (· * ((cfgA Ideal).win (6 : Fin 9)).size (1 : Fin 3)) i1).trans (Nat.zero_mul _)) y1)).trans (Nat.zero_add _)
  · exact ((em (2 : Fin 3)).trans (congrArg₂ (· + ·) (congrArg₂ (· * ·) i2 s2) y2)).trans f2

end Cert.KernelIdeal.Fl

end
-- ==== Proof.KI.OutLast.lean ====
/- The last points of the rows. -/
module

public import proofs.«01_k».proof.Proof.KI.Idx

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

/-- Every key block has a last query block. -/
theorem row_end (j : ℕ) (hj : j < 16) : ∃ n, n < 136 ∧ kN n = j ∧ qN n = 15 := by
  have : ∀ j : Fin 16, ∃ n : Fin 136, kN n.val = j.val ∧ qN n.val = 15 := by decide +kernel
  obtain ⟨n, h⟩ := this ⟨j, hj⟩
  exact ⟨n.val, n.isLt, h⟩
theorem last_pair (n : ℕ) (h : n % 136 = 135) : qN n = 15 ∧ kN n = 15 := by
  rw [← qN_mod, ← kN_mod, h]; decide +kernel

end Cert.KernelIdeal.Fl

end
-- ==== Proof.KI.Out6.lean ====
/- The query's gradient as an array. -/
module

public import proofs.«01_k».proof.Proof.KI.Ends
public import proofs.«01_k».proof.Proof.KI.Emb6
public import proofs.«01_k».proof.Proof.KI.OutLast

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-- Result 6, whole. -/
def G6 (c : Dev nD) : Buf (Elt Ideal) ((c : Thread nD τ).loc main_v48_0) := fun i => gQ m c (i (0 : Fin 3)).val (i (1 : Fin 3)).val ⟨(i (2 : Fin 3)).val, (i (2 : Fin 3)).isLt⟩
theorem out6 (c : Dev nD) : (dats m 0 c).arrAt (6 : Fin 9) (cfgA Ideal).N = G6 m c := by
  refine (dats m 0 c).arrAt_eq_of_emb (6 : Fin 9) (G6 m c) (fun t hf y => ?_) (fun i => ?_)
  · have hp := of_decide_eq_true ((fl6 t).symm.trans hf)
    have hL : t.val % 136 = 135 := (pLv t).mp hp
    obtain ⟨hq, hk5⟩ := last_pair t.val hL
    have hg := gN_lt t
    have hk := kN_lt t.val
    have hy : y = (ix3 (y (0 : Fin 3)) (y (1 : Fin 3)) (y (2 : Fin 3)) : (⟨3, ![2, 8192, 256]⟩ : Shape).Idx) := eq_ix3 y
    generalize hh : (y (0 : Fin 3) : Fin 2) = h at hy
    generalize hr : (y (1 : Fin 3) : Fin 8192) = r at hy
    generalize hd : (y (2 : Fin 3) : Fin 256) = d at hy
    subst hy
    rw [emb_6 t h r d (by omega)]
    exact (cast_eq _ _).trans (val6 m c t hq hk5 h r d)
  · obtain ⟨H, R, d, rfl⟩ : ∃ (H : Fin 16) (R : Fin 8192) (d : Fin 256), i = (ix3 H R d : S16x8192x256.Idx) := ⟨_, _, _, eq_ix3 i⟩
    have hb : H.val / 2 * 136 + 135 < 1088 := by have := H.isLt; omega
    refine ⟨(⟨H.val / 2 * 136 + 135, hb⟩ : Fin (cfgA Ideal).N), (fl6 _).trans (decide_eq_true ((pLv _).mpr (by dsimp only; omega))), ?_⟩
    have hg : gN (H.val / 2 * 136 + 135) = H.val / 2 := by unfold gN; omega
    have e := emb_6 (⟨H.val / 2 * 136 + 135, hb⟩ : Fin (cfgA Ideal).N) ⟨H.val % 2, by omega⟩ R d (by dsimp only; rw [hg]; have := H.isLt; have := R.isLt; omega)
    have e' : (ix3 H R d : S16x8192x256.Idx) = _ := (congrArg₂ (fun (x : Fin 16) (y : Fin 8192) => (ix3 x y d : S16x8192x256.Idx)) (Fin.ext (by dsimp only; rw [hg]; omega)) rfl).trans e.symm
    rw [e']
    exact View.emb_mem_set _ _

end Cert.KernelIdeal.Fl

end
-- ==== Proof.KI.Emb7.lean ====
/- Where a result block lies in its array. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

theorem emb_7 (t : Fin (cfgA Ideal).N) (h : Fin 2) (r : Fin 512) (d : Fin 256) (hc : 2 * gN t.val + h.val < 16 ∧ 512 * kN t.val + r.val < 8192) :
    (((cfgA Ideal).win (7 : Fin 9)).blk t).view.emb (ix3 h r d) = (ix3 ⟨2 * gN t.val + h.val, hc.1⟩ ⟨512 * kN t.val + r.val, hc.2⟩ d : S16x8192x256.Idx) := by
  have em (a) := Pipeline.Window.rect_emb_val ((cfgA Ideal).win (7 : Fin 9)) t (ix3 h r d) a rfl
  have ei := ix_7 t
  have i0 : ((cfgA Ideal).win (7 : Fin 9)).index t (0 : Fin 3) = gN t.val := congrFun ei (0 : Fin 3)
  have s0 : ((cfgA Ideal).win (7 : Fin 9)).size (0 : Fin 3) = 2 := rfl
  have y0 : ((ix3 h r d) (0 : Fin 3)).val = h.val := rfl
  have f0 : gN t.val * 2 + h.val = 2 * gN t.val + h.val := by omega
  have i1 : ((cfgA Ideal).win (7 : Fin 9)).index t (1 : Fin 3) = kN t.val := congrFun ei (1 : Fin 3)
  have s1 : ((cfgA Ideal).win (7 : Fin 9)).size (1 : Fin 3) = 512 := rfl
  have y1 : ((ix3 h r d) (1 : Fin 3)).val = r.val := rfl
  have f1 : kN t.val * 512 + r.val = 512 * kN t.val + r.val := by omega
  have i2 : ((cfgA Ideal).win (7 : Fin 9)).index t (2 : Fin 3) = 0 := congrFun ei (2 : Fin 3)
  have s2 : ((cfgA Ideal).win (7 : Fin 9)).size (2 : Fin 3) = 256 := rfl
  have y2 : ((ix3 h r d) (2 : Fin 3)).val = d.val := rfl
  have f2 : 0 * 256 + d.val = d.val := by omega
  refine funext fun a => Fin.ext ?_
  fin_cases a
  · exact ((em (0 : Fin 3)).trans (congrArg₂ (· + ·) (congrArg₂ (· * ·) i0 s0) y0)).trans f0
  · exact ((em (1 : Fin 3)).trans (congrArg₂ (· + ·) (congrArg₂ (· * ·) i1 s1) y1)).trans f1
  · exact ((em (2 : Fin 3)).trans (congrArg₂ (· + ·) (congrArg₂ (· * ·) i2 s2) y2)).trans f2

end Cert.KernelIdeal.Fl

end
-- ==== Proof.KI.Out7.lean ====
/- The key's gradient as an array. -/
module

public import proofs.«01_k».proof.Proof.KI.Ends
public import proofs.«01_k».proof.Proof.KI.Emb7
public import proofs.«01_k».proof.Proof.KI.OutLast

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-- Result 7, whole. -/
def G7 (c : Dev nD) : Buf (Elt Ideal) ((c : Thread nD τ).loc main_v48_1) := fun i => gK m c (i (0 : Fin 3)).val (i (1 : Fin 3)).val ⟨(i (2 : Fin 3)).val, (i (2 : Fin 3)).isLt⟩
theorem out7 (c : Dev nD) : (dats m 0 c).arrAt (7 : Fin 9) (cfgA Ideal).N = G7 m c := by
  refine (dats m 0 c).arrAt_eq_of_emb (7 : Fin 9) (G7 m c) (fun t hf y => ?_) (fun i => ?_)
  · have hp := of_decide_eq_true ((fl7 t).symm.trans hf)
    have hq : qN t.val = 15 := (pEv t).mp hp
    have hg := gN_lt t
    have hk := kN_lt t.val
    have hy : y = (ix3 (y (0 : Fin 3)) (y (1 : Fin 3)) (y (2 : Fin 3)) : (⟨3, ![2, 512, 256]⟩ : Shape).Idx) := eq_ix3 y
    generalize hh : (y (0 : Fin 3) : Fin 2) = h at hy
    generalize hr : (y (1 : Fin 3) : Fin 512) = r at hy
    generalize hd : (y (2 : Fin 3) : Fin 256) = d at hy
    subst hy
    rw [emb_7 t h r d (by omega)]
    exact (cast_eq _ _).trans (val7 m c t hq h r d)
  · obtain ⟨H, R, d, rfl⟩ : ∃ (H : Fin 16) (R : Fin 8192) (d : Fin 256), i = (ix3 H R d : S16x8192x256.Idx) := ⟨_, _, _, eq_ix3 i⟩
    obtain ⟨n, hn, hnk, hnq⟩ := row_end (R.val / 512) (by have := R.isLt; omega)
    have hb : H.val / 2 * 136 + n < 1088 := by have := H.isLt; omega
    have em : (H.val / 2 * 136 + n) % 136 = n := by omega
    have hg : gN (H.val / 2 * 136 + n) = H.val / 2 := by unfold gN; omega
    have hK : kN (H.val / 2 * 136 + n) = R.val / 512 := by rw [← kN_mod, em]; exact hnk
    have hQ : qN (H.val / 2 * 136 + n) = 15 := by rw [← qN_mod, em]; exact hnq
    refine ⟨(⟨H.val / 2 * 136 + n, hb⟩ : Fin (cfgA Ideal).N), (fl7 _).trans (decide_eq_true ((pEv _).mpr hQ)), ?_⟩
    have e := emb_7 (⟨H.val / 2 * 136 + n, hb⟩ : Fin (cfgA Ideal).N) ⟨H.val % 2, by omega⟩ ⟨R.val % 512, by omega⟩ d (by dsimp only; rw [hg, hK]; have := H.isLt; have := R.isLt; omega)
    have e' : (ix3 H R d : S16x8192x256.Idx) = _ := (congrArg₂ (fun (x : Fin 16) (y : Fin 8192) => (ix3 x y d : S16x8192x256.Idx)) (Fin.ext (by dsimp only; rw [hg]; omega)) (Fin.ext (by dsimp only; rw [hK]; omega))).trans e.symm
    rw [e']
    exact View.emb_mem_set _ _

end Cert.KernelIdeal.Fl

end
-- ==== Proof.KI.Emb8.lean ====
/- Where a result block lies in its array. -/
module

public import Idealize.ShloMosaic.Lib.Pipeline.ValueKit.Geometry
public import proofs.«01_k».proof.Proof.KI.Ixw

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

theorem emb_8 (t : Fin (cfgA Ideal).N) (h : Fin 2) (r : Fin 512) (d : Fin 128) (hc : 2 * gN t.val + h.val < 16 ∧ 512 * kN t.val + r.val < 8192) :
    (((cfgA Ideal).win (8 : Fin 9)).blk t).view.emb (ix3 h r d) = (ix3 ⟨2 * gN t.val + h.val, hc.1⟩ ⟨512 * kN t.val + r.val, hc.2⟩ d : S16x8192x128.Idx) := by
  have em (a) := Pipeline.Window.rect_emb_val ((cfgA Ideal).win (8 : Fin 9)) t (ix3 h r d) a rfl
  have ei := ix_8 t
  have i0 : ((cfgA Ideal).win (8 : Fin 9)).index t (0 : Fin 3) = gN t.val := congrFun ei (0 : Fin 3)
  have s0 : ((cfgA Ideal).win (8 : Fin 9)).size (0 : Fin 3) = 2 := rfl
  have y0 : ((ix3 h r d) (0 : Fin 3)).val = h.val := rfl
  have f0 : gN t.val * 2 + h.val = 2 * gN t.val + h.val := by omega
  have i1 : ((cfgA Ideal).win (8 : Fin 9)).index t (1 : Fin 3) = kN t.val := congrFun ei (1 : Fin 3)
  have s1 : ((cfgA Ideal).win (8 : Fin 9)).size (1 : Fin 3) = 512 := rfl
  have y1 : ((ix3 h r d) (1 : Fin 3)).val = r.val := rfl
  have f1 : kN t.val * 512 + r.val = 512 * kN t.val + r.val := by omega
  have i2 : ((cfgA Ideal).win (8 : Fin 9)).index t (2 : Fin 3) = 0 := congrFun ei (2 : Fin 3)
  have s2 : ((cfgA Ideal).win (8 : Fin 9)).size (2 : Fin 3) = 128 := rfl
  have y2 : ((ix3 h r d) (2 : Fin 3)).val = d.val := rfl
  have f2 : 0 * 128 + d.val = d.val := by omega
  refine funext fun a => Fin.ext ?_
  fin_cases a
  · exact ((em (0 : Fin 3)).trans (congrArg₂ (· + ·) (congrArg₂ (· * ·) i0 s0) y0)).trans f0
  · exact ((em (1 : Fin 3)).trans (congrArg₂ (· + ·) (congrArg₂ (· * ·) i1 s1) y1)).trans f1
  · exact ((em (2 : Fin 3)).trans (congrArg₂ (· + ·) (congrArg₂ (· * ·) i2 s2) y2)).trans f2

end Cert.KernelIdeal.Fl

end
-- ==== Proof.KI.Out8.lean ====
/- The value's gradient as an array. -/
module

public import proofs.«01_k».proof.Proof.KI.Ends
public import proofs.«01_k».proof.Proof.KI.Emb8
public import proofs.«01_k».proof.Proof.KI.OutLast

@[expose] public section

set_option maxRecDepth 16384
set_option Elab.async false

noncomputable section

namespace Cert.KernelIdeal.Fl

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ)

/-- Result 8, whole. -/
def G8 (c : Dev nD) : Buf (Elt Ideal) ((c : Thread nD τ).loc main_v48_2) := fun i => gV m c (i (0 : Fin 3)).val (i (1 : Fin 3)).val ⟨(i (2 : Fin 3)).val, (i (2 : Fin 3)).isLt⟩
theorem out8 (c : Dev nD) : (dats m 0 c).arrAt (8 : Fin 9) (cfgA Ideal).N = G8 m c := by
  refine (dats m 0 c).arrAt_eq_of_emb (8 : Fin 9) (G8 m c) (fun t hf y => ?_) (fun i => ?_)
  · have hp := of_decide_eq_true ((fl8 t).symm.trans hf)
    have hq : qN t.val = 15 := (pEv t).mp hp
    have hg := gN_lt t
    have hk := kN_lt t.val
    have hy : y = (ix3 (y (0 : Fin 3)) (y (1 : Fin 3)) (y (2 : Fin 3)) : (⟨3, ![2, 512, 128]⟩ : Shape).Idx) := eq_ix3 y
    generalize hh : (y (0 : Fin 3) : Fin 2) = h at hy
    generalize hr : (y (1 : Fin 3) : Fin 512) = r at hy
    generalize hd : (y (2 : Fin 3) : Fin 128) = d at hy
    subst hy
    rw [emb_8 t h r d (by omega)]
    exact (cast_eq _ _).trans (val8 m c t hq h r d)
  · obtain ⟨H, R, d, rfl⟩ : ∃ (H : Fin 16) (R : Fin 8192) (d : Fin 128), i = (ix3 H R d : S16x8192x128.Idx) := ⟨_, _, _, eq_ix3 i⟩
    obtain ⟨n, hn, hnk, hnq⟩ := row_end (R.val / 512) (by have := R.isLt; omega)
    have hb : H.val / 2 * 136 + n < 1088 := by have := H.isLt; omega
    have em : (H.val / 2 * 136 + n) % 136 = n := by omega
    have hg : gN (H.val / 2 * 136 + n) = H.val / 2 := by unfold gN; omega
    have hK : kN (H.val / 2 * 136 + n) = R.val / 512 := by rw [← kN_mod, em]; exact hnk
    have hQ : qN (H.val / 2 * 136 + n) = 15 := by rw [← qN_mod, em]; exact hnq
    refine ⟨(⟨H.val / 2 * 136 + n, hb⟩ : Fin (cfgA Ideal).N), (fl8 _).trans (decide_eq_true ((pEv _).mpr hQ)), ?_⟩
    have e := emb_8 (⟨H.val / 2 * 136 + n, hb⟩ : Fin (cfgA Ideal).N) ⟨H.val % 2, by omega⟩ ⟨R.val % 512, by omega⟩ d (by dsimp only; rw [hg, hK]; have := H.isLt; have := R.isLt; omega)
    have e' : (ix3 H R d : S16x8192x128.Idx) = _ := (congrArg₂ (fun (x : Fin 16) (y : Fin 8192) => (ix3 x y d : S16x8192x128.Idx)) (Fin.ext (by dsimp only; rw [hg]; omega)) (Fin.ext (by dsimp only; rw [hK]; omega))).trans e.symm
    rw [e']
    exact View.emb_mem_set _ _

end Cert.KernelIdeal.Fl

end
-- ==== Proof.Algebraic.lean ====
/- The kernel's results are the reference's. -/
module

public import proofs.«01_k».proof.Proof.Finite
public import proofs.«01_k».proof.Proof.RI.Real
public import proofs.«01_k».proof.Proof.Gen.ReferenceIdeal.Run
public import proofs.«01_k».proof.Proof.KI.Launch
public import proofs.«01_k».proof.Proof.KI.Real
public import proofs.«01_k».proof.Proof.KI.Out6
public import proofs.«01_k».proof.Proof.KI.Out7
public import proofs.«01_k».proof.Proof.KI.Out8

@[expose] public section

set_option maxRecDepth 16384
set_option Elab.async false

noncomputable section

namespace Cert.Proof

open Idealize.ShloMosaic Idealize.SL.Sem Cert.Attn
open Idealize.ShloMosaic.TcCoe Idealize.ShloMosaic.Tactic

/-- The two readings of real arguments are the same hypothesis. -/
theorem real_kernel {x0 x1 x2 x3 x4 x5 A} (r : Cert.ReferenceIdeal.Fl.Real6 x0 x1 x2 x3 x4 x5 A) : Cert.KernelIdeal.Fl.Real6 x0 x1 x2 x3 x4 x5 A :=
  ⟨r.h0, r.h1, r.h2, r.h3, r.h4, r.h5⟩

section
variable (m : (ℓ : Loc Cert.KernelIdeal.nD Cert.KernelIdeal.τ Cert.KernelIdeal.sig) → Buf (Elt Ideal) ℓ) (c : Dev Cert.KernelIdeal.nD)
open Cert.KernelIdeal.Fl

theorem ref_q {x0 x1 x2 x3 x4 x5 A} (r : Cert.ReferenceIdeal.Fl.Real6 x0 x1 x2 x3 x4 x5 A) (e : Cert.KernelIdeal.Fl.Real6 (a0 m c) (a1 m c) (a2 m c) (a3 m c) (a4 m c) (a5 m c) A) :
    Cert.ReferenceIdeal.Read.val_main_v75 (F := Ideal) x0 x1 x2 x3 x4 x5 = G6 m c := by
  funext i
  have hi : i = ix3 (i 0) (i 1) (i 2) := eq_ix3 i
  refine (congrArg _ hi).trans ((Cert.ReferenceIdeal.Fl.s75 r (i 0) (i 1) (i 2)).trans ?_)
  exact (gQ_real m c e (i 0) (i 1) (i 2)).symm

theorem ref_k {x0 x1 x2 x3 x4 x5 A} (r : Cert.ReferenceIdeal.Fl.Real6 x0 x1 x2 x3 x4 x5 A) (e : Cert.KernelIdeal.Fl.Real6 (a0 m c) (a1 m c) (a2 m c) (a3 m c) (a4 m c) (a5 m c) A) :
    Cert.ReferenceIdeal.Read.val_main_v78 (F := Ideal) x0 x1 x2 x3 x4 x5 = G7 m c := by
  funext i
  have hi : i = ix3 (i 0) (i 1) (i 2) := eq_ix3 i
  refine (congrArg _ hi).trans ((Cert.ReferenceIdeal.Fl.s78 r (i 0) (i 1) (i 2)).trans ?_)
  exact (gK_real m c e (i 0) (i 1) (i 2)).symm

theorem ref_v {x0 x1 x2 x3 x4 x5 A} (r : Cert.ReferenceIdeal.Fl.Real6 x0 x1 x2 x3 x4 x5 A) (e : Cert.KernelIdeal.Fl.Real6 (a0 m c) (a1 m c) (a2 m c) (a3 m c) (a4 m c) (a5 m c) A) :
    Cert.ReferenceIdeal.Read.val_main_v80 (F := Ideal) x0 x1 x2 x3 x5 = G8 m c := by
  funext i
  have hi : i = ix3 (i 0) (i 1) (i 2) := eq_ix3 i
  refine (congrArg _ hi).trans ((Cert.ReferenceIdeal.Fl.s80 r (i 0) (i 1) (i 2)).trans ?_)
  exact (gV_real m c e (i 0) (i 1) (i 2)).symm
end

/-- At finite arguments the kernel's three results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => Cert.KernelIdeal.Fl.G6 m c, fun c => Cert.KernelIdeal.Fl.G7 m c, fun c => Cert.KernelIdeal.Fl.G8 m c, ?_, ?_⟩
  · exact (θ_run (Cert.KernelIdeal.defs (F := Ideal)) _ _).mono
      (fun r h c => ⟨(h.1 c).1.1.trans (Cert.KernelIdeal.Fl.out6 m c), (h.1 c).1.2.1.trans (Cert.KernelIdeal.Fl.out7 m c), (h.1 c).1.2.2.trans (Cert.KernelIdeal.Fl.out8 m c), (h.1 c).2⟩)
      (Cert.KernelIdeal.Fl.run_main (F := Ideal) m g)
  · refine (θ_run (Cert.ReferenceIdeal.defs (F := Ideal)) _ _).mono (fun r h c => ?_) (Cert.ReferenceIdeal.Value.run (F := Ideal) m' g')
    obtain ⟨e0, e1, e2, e3, e4, e5⟩ := ha c
    have hr := real_of_finite (hp c)
    have hk := real_kernel hr
    refine ⟨((h c).1.trans (Cert.ReferenceIdeal.Read.val_main_v75_eq m' c)).trans ?_, ((h c).2.1.trans (Cert.ReferenceIdeal.Read.val_main_v78_eq m' c)).trans ?_,
      ((h c).2.2.1.trans (Cert.ReferenceIdeal.Read.val_main_v80_eq m' c)).trans ?_, (h c).2.2.2⟩
    · rw [e0, e1, e2, e3, e4, e5]; exact ref_q m c hr hk
    · rw [e0, e1, e2, e3, e4, e5]; exact ref_k m c hr hk
    · rw [e0, e1, e2, e3, e5]; exact ref_v m c hr hk

end Cert.Proof

end
-- ==== Proof.MM.Split.lean ====
/- A sum over 8192 rows as four sums over 2048, and a partial function of naturals for an array. -/
module

public import Idealize.ShloMosaic.Lib.Pointwise

@[expose] public section

set_option maxRecDepth 16384
set_option Elab.async false

noncomputable section

namespace Cert.Mm

open Idealize.ShloMosaic

theorem split_last (g : ℕ → EReal) (n : ℕ) : ∑ K : Fin (n + 2048), g K.val = ∑ K : Fin n, g K.val + ∑ r : Fin 2048, g (n + r.val) :=
  Fin.sum_univ_add (fun K : Fin (n + 2048) => g K.val)

theorem split4 (g : ℕ → EReal) : ∑ K : Fin 8192, g K.val
    = ((∑ r : Fin 2048, g (2048 * 0 + r.val) + ∑ r : Fin 2048, g (2048 * 1 + r.val)) + ∑ r : Fin 2048, g (2048 * 2 + r.val)) + ∑ r : Fin 2048, g (2048 * 3 + r.val) := by
  have h0 : ∑ r : Fin 2048, g (2048 * 0 + r.val) = ∑ r : Fin 2048, g r.val := Finset.sum_congr rfl fun r _ => congrArg g (by omega)
  rw [h0]
  exact (split_last g 6144).trans (congrArg (· + _) ((split_last g 4096).trans (congrArg (· + _) (split_last g 2048))))

/-- A matrix at natural coordinates, zero outside. -/
def at2 {a b : ℕ} (X : (⟨2, ![a, b]⟩ : Shape).Idx → EReal) (R C : ℕ) : EReal :=
  if h : R < a ∧ C < b then X (ix2 ⟨R, h.1⟩ ⟨C, h.2⟩) else 0

theorem at2_ix {a b : ℕ} (X : (⟨2, ![a, b]⟩ : Shape).Idx → EReal) (r : Fin a) (c : Fin b) : at2 X r.val c.val = X (ix2 r c) :=
  dif_pos ⟨r.isLt, c.isLt⟩

end Cert.Mm

end
-- ==== Proof.MM.In.lean ====
/- The weight gradient `hᵀ · dproj`, element by element. -/
module

public import Idealize.ShloMosaic.Lib.Pointwise
public import Idealize.ShloMosaic.Lib.Pipeline.ValueKit
public import Idealize.ShloMosaic.Lib.StableHlo.RunRead
public import proofs.«01_k».proof.Proof.Gen.DwInIdeal.Value
public import proofs.«01_k».proof.Proof.Gen.DwInRefIdeal.Run
public import proofs.«01_k».proof.Proof.Gen.DwInRefIdeal.Read
public import proofs.«01_k».proof.Proof.MM.Split

@[expose] public section

set_option maxRecDepth 16384
set_option Elab.async false

noncomputable section

namespace Cert.DwInIdeal.Mm

open Cert.DwInIdeal Cert.DwInIdeal.Gen Cert.Mm
open Idealize.ShloMosaic
open Idealize.ShloMosaic.TcCoe Idealize.ShloMosaic.Tactic
open Idealize.SL Idealize.SL.Sem

/-! ## What a point adds -/

theorem pay1 (x : Vec Ideal S1024x2048 .bf16) (y : Vec Ideal S2048x1408 .bf16) (a : Fin 1024) (b : Fin 1408) :
    (k0_pay1 (F := Ideal) x y (ix2 a b) : EReal) = ∑ r : Fin 2048, (x (ix2 a r) : EReal) * (y (ix2 r b) : EReal) := by
  unfold k0_pay1
  pointwise

section
variable (c : Dev nD) (i : grid0.Coords) (arg3 : Memref sig .tc .vmem S1024x2048 .bf16) (harg3 : arg3.IsWhole) (arg4 : Memref sig .tc .vmem S2048x1408 .bf16) (harg4 : arg4.IsWhole)
  (arg5 : Memref sig .tc .vmem S1024x1408 .f32) (harg5 : arg5.IsWhole) (arg6 : Memref sig .tc .vmem S1024x1408 .f32) (harg6 : arg6.IsWhole)
  (x0 : Vec Ideal S1024x2048 .bf16) (x1 : Vec Ideal S2048x1408 .bf16) (xs : Vec Ideal S1024x1408 .f32)

theorem keep_A (hc0 : cond0_0 i) (hc1 : ¬cond0_1 i) (hc2 : ¬cond0_2 i) :
    sout0_A_0 c i arg3 harg3 arg4 harg4 arg5 harg5 arg6 harg6 hc0 hc1 hc2 x0 x1 = k0_pay2 (F := Ideal) x0 x1 := by
  frame_out

theorem keep_B (hc0 : ¬cond0_0 i) (hc1 : cond0_1 i) (hc2 : ¬cond0_2 i) :
    sout0_B_0 c i arg3 harg3 arg4 harg4 arg5 harg5 arg6 harg6 hc0 hc1 hc2 x0 x1 xs = k0_pay3 (F := Ideal) x0 x1 xs := by
  frame_out

theorem give_C (hc0 : ¬cond0_0 i) (hc1 : ¬cond0_1 i) (hc2 : cond0_2 i) :
    out0_C_2 c i arg3 harg3 arg4 harg4 arg5 harg5 arg6 harg6 hc0 hc1 hc2 x0 x1 xs = k0_pay4 (F := Ideal) x0 x1 xs := by
  frame_out
end

theorem keep_A_apply (x : Vec Ideal S1024x2048 .bf16) (y : Vec Ideal S2048x1408 .bf16) (a : Fin 1024) (b : Fin 1408) :
    (k0_pay2 (F := Ideal) x y (ix2 a b) : EReal) = ∑ r : Fin 2048, (x (ix2 a r) : EReal) * (y (ix2 r b) : EReal) := by
  unfold k0_pay2
  pointwise [pay1]

theorem keep_B_apply (x : Vec Ideal S1024x2048 .bf16) (y : Vec Ideal S2048x1408 .bf16) (z : Vec Ideal S1024x1408 .f32) (a : Fin 1024) (b : Fin 1408) :
    (k0_pay3 (F := Ideal) x y z (ix2 a b) : EReal) = (z (ix2 a b) : EReal) + ∑ r : Fin 2048, (x (ix2 a r) : EReal) * (y (ix2 r b) : EReal) := by
  unfold k0_pay3
  pointwise [pay1]

theorem give_C_apply (x : Vec Ideal S1024x2048 .bf16) (y : Vec Ideal S2048x1408 .bf16) (z : Vec Ideal S1024x1408 .f32) (a : Fin 1024) (b : Fin 1408) :
    (k0_pay4 (F := Ideal) x y z (ix2 a b) : EReal) = (z (ix2 a b) : EReal) + ∑ r : Fin 2048, (x (ix2 a r) : EReal) * (y (ix2 r b) : EReal) := by
  unfold k0_pay4
  pointwise [pay1]

/-! ## The blocks -/

variable (m : (ℓ : Loc nD τ sig) → Buf (Elt Ideal) ℓ) (c : Dev nD)

theorem ix_0 : ∀ t : Fin cfg0.N, win0_0.index t = ![t.val / 4 % 2, t.val % 4] :=
  (by decide +kernel : ∀ t : Fin grid0.N, win0_0.index t = ![t.val / 4 % 2, t.val % 4])

theorem ix_1 : ∀ t : Fin cfg0.N, win0_1.index t = ![t.val % 4, t.val / 8] :=
  (by decide +kernel : ∀ t : Fin grid0.N, win0_1.index t = ![t.val % 4, t.val / 8])

theorem tlt (t : Fin cfg0.N) : t.val < 88 := lt_of_lt_of_eq t.isLt N_0

theorem emb_0 (t : Fin cfg0.N) (a : Fin 1024) (r : Fin 2048) (h : 1024 * (t.val / 4 % 2) + a.val < 2048 ∧ 2048 * (t.val % 4) + r.val < 8192) :
    ((cfg0.win 0).blk t).view.emb (ix2 a r) = (ix2 ⟨1024 * (t.val / 4 % 2) + a.val, h.1⟩ ⟨2048 * (t.val % 4) + r.val, h.2⟩ : S2048x8192.Idx) := by
  have em (x) := Pipeline.Window.rect_emb_val (cfg0.win 0) t (ix2 a r) x rfl
  have ei := ix_0 t
  have i0 : (cfg0.win 0).index t (0 : Fin 2) = t.val / 4 % 2 := congrFun ei (0 : Fin 2)
  have i1 : (cfg0.win 0).index t (1 : Fin 2) = t.val % 4 := congrFun ei (1 : Fin 2)
  have s0 : (cfg0.win 0).size (0 : Fin 2) = 1024 := rfl
  have s1 : (cfg0.win 0).size (1 : Fin 2) = 2048 := rfl
  have y0 : ((ix2 a r) (0 : Fin 2)).val = a.val := rfl
  have y1 : ((ix2 a r) (1 : Fin 2)).val = r.val := rfl
  refine funext fun x => Fin.ext ?_
  fin_cases x
  · exact ((em (0 : Fin 2)).trans (congrArg₂ (· + ·) (congrArg₂ (· * ·) i0 s0) y0)).trans (congrArg (· + _) (Nat.mul_comm _ _))
  · exact ((em (1 : Fin 2)).trans (congrArg₂ (· + ·) (congrArg₂ (· * ·) i1 s1) y1)).trans (congrArg (· + _) (Nat.mul_comm _ _))

theorem emb_1 (t : Fin cfg0.N) (r : Fin 2048) (a : Fin 1408) (h : 2048 * (t.val % 4) + r.val < 8192 ∧ 1408 * (t.val / 8) + a.val < 15488) :
    ((cfg0.win 1).blk t).view.emb (ix2 r a) = (ix2 ⟨2048 * (t.val % 4) + r.val, h.1⟩ ⟨1408 * (t.val / 8) + a.val, h.2⟩ : S8192x15488.Idx) := by
  have em (x) := Pipeline.Window.rect_emb_val (cfg0.win 1) t (ix2 r a) x rfl
  have ei := ix_1 t
  have i0 : (cfg0.win 1).index t (0 : Fin 2) = t.val % 4 := congrFun ei (0 : Fin 2)
  have i1 : (cfg0.win 1).index t (1 : Fin 2) = t.val / 8 := congrFun ei (1 : Fin 2)
  have s0 : (cfg0.win 1).size (0 : Fin 2) = 2048 := rfl
  have s1 : (cfg0.win 1).size (1 : Fin 2) = 1408 := rfl
  have y0 : ((ix2 r a) (0 : Fin 2)).val = r.val := rfl
  have y1 : ((ix2 r a) (1 : Fin 2)).val = a.val := rfl
  refine funext fun x => Fin.ext ?_
  fin_cases x
  · exact ((em (0 : Fin 2)).trans (congrArg₂ (· + ·) (congrArg₂ (· * ·) i0 s0) y0)).trans (congrArg (· + _) (Nat.mul_comm _ _))
  · exact ((em (1 : Fin 2)).trans (congrArg₂ (· + ·) (congrArg₂ (· * ·) i1 s1) y1)).trans (congrArg (· + _) (Nat.mul_comm _ _))

/-- The two arguments at a device. -/
def arg0 : S8192x2048.Idx → EReal := m ((c : Thread nD τ).loc main_arg0)
def arg1 : S8192x15488.Idx → EReal := m ((c : Thread nD τ).loc main_arg1)

theorem V_eq (b : Ref sig .tc) : V m c b = StableHlo.after hostOps0 (fun b => m (c, b)) (Proc.devRef .tc b) := rfl
theorem V_0 : V m c main_v1 = (truncf (F := Ideal) .bf16 (transpose S2048x8192 [1, 0] (m ((c : Thread nD τ).loc main_arg0) : FVec Ideal S8192x2048 .f32) transposes_S8192x2048_S2048x8192_1_0) bitsLt_bf16_f32 : FVec Ideal S2048x8192 .bf16) := by
  rw [V_eq]; after_reads_simp; try rfl
theorem V_0_apply (p : Fin 2048) (K : Fin 8192) : (V m c main_v1 : S2048x8192.Idx → EReal) (ix2 p K) = arg0 m c (ix2 K p) := by
  rw [V_0]
  unfold arg0
  generalize m ((c : Thread nD τ).loc main_arg0) = X
  show (truncf (F := Ideal) .bf16 (transpose S2048x8192 [1, 0] (X : FVec Ideal S8192x2048 .f32) transposes_S8192x2048_S2048x8192_1_0) bitsLt_bf16_f32 : FVec Ideal S2048x8192 .bf16) (ix2 p K) = _
  pointwise
theorem V_1 : V m c main_v2 = (truncf (F := Ideal) .bf16 (m ((c : Thread nD τ).loc main_arg1) : FVec Ideal S8192x15488 .f32) bitsLt_bf16_f32 : FVec Ideal S8192x15488 .bf16) := by
  rw [V_eq]; after_reads_simp; try rfl

/-- The two blocks of a point. -/
def b0 (t : Fin cfg0.N) : S1024x2048.Idx → EReal := iblk m c 0 t
def b1 (t : Fin cfg0.N) : S2048x1408.Idx → EReal := iblk m c 1 t

theorem blk_0 (t : Fin cfg0.N) (a : Fin 1024) (r : Fin 2048) :
    b0 m c t (ix2 a r) = at2 (arg0 m c) (2048 * (t.val % 4) + r.val) (1024 * (t.val / 4 % 2) + a.val) := by
  have h : 2048 * (t.val % 4) + r.val < 8192 ∧ 1024 * (t.val / 4 % 2) + a.val < 2048 := by omega
  have e := V_0_apply m c ⟨_, h.2⟩ ⟨_, h.1⟩
  rw [at2, dif_pos h, ← e]
  unfold b0 iblk
  generalize V m c = X
  exact congrArg (X main_v1) (emb_0 t a r ⟨h.2, h.1⟩)

theorem blk_1 (t : Fin cfg0.N) (r : Fin 2048) (a : Fin 1408) :
    b1 m c t (ix2 r a) = at2 (arg1 m c) (2048 * (t.val % 4) + r.val) (1408 * (t.val / 8) + a.val) := by
  have h : 2048 * (t.val % 4) + r.val < 8192 ∧ 1408 * (t.val / 8) + a.val < 15488 := by have := tlt t; omega
  have e : (V m c main_v2 : S8192x15488.Idx → EReal) = arg1 m c := V_1 m c
  rw [at2, dif_pos h, ← e]
  unfold b1 iblk
  generalize V m c = X
  exact congrArg (X main_v2) (emb_1 t r a h)

/-! ## The four points of a run -/

/-- What rows `2048 k …` add at element `(p, q)`. -/
def part (p q k : ℕ) : EReal := ∑ r : Fin 2048, at2 (arg0 m c) (2048 * k + r.val) p * at2 (arg1 m c) (2048 * k + r.val) q

theorem part_of (t : Fin cfg0.N) (a : Fin 1024) (b : Fin 1408) (p q k : ℕ) (hk : t.val % 4 = k) (hp : 1024 * (t.val / 4 % 2) + a.val = p) (hq : 1408 * (t.val / 8) + b.val = q) :
    ∑ r : Fin 2048, b0 m c t (ix2 a r) * b1 m c t (ix2 r b) = part m c p q k := by
  subst hk hp hq
  exact Finset.sum_congr rfl fun r _ => congrArg₂ (· * ·) (blk_0 m c t a r) (blk_1 m c t r b)

theorem at_A (t : Fin cfg0.N) (h : t.val % 4 = 0) (a : Fin 1024) (b : Fin 1408) :
    ((outsAt0 m c t.val t.isLt).2 (ix2 a b) : EReal) = ∑ r : Fin 2048, b0 m c t (ix2 a r) * b1 m c t (ix2 r b) := by
  rw [outsAt0_A m c t h (by omega) (by omega)]
  dsimp only
  rw [keep_A]
  exact keep_A_apply _ _ a b

theorem at_B (t : Fin cfg0.N) (h : 1 ≤ t.val % 4 ∧ t.val % 4 ≤ 2) (a : Fin 1024) (b : Fin 1408) :
    ((outsAt0 m c t.val t.isLt).2 (ix2 a b) : EReal) = ((outsAt0 m c (t.val - 1) (by have := t.isLt; omega)).2 (ix2 a b) : EReal) + ∑ r : Fin 2048, b0 m c t (ix2 a r) * b1 m c t (ix2 r b) := by
  rw [outsAt0_B m c t (by omega) h (by omega)]
  dsimp only
  rw [keep_B]
  exact keep_B_apply _ _ _ a b

theorem at_C (t : Fin cfg0.N) (h : t.val % 4 = 3) (a : Fin 1024) (b : Fin 1408) :
    ((outsAt0 m c t.val t.isLt).1 (ix2 a b) : EReal) = ((outsAt0 m c (t.val - 1) (by have := t.isLt; omega)).2 (ix2 a b) : EReal) + ∑ r : Fin 2048, b0 m c t (ix2 a r) * b1 m c t (ix2 r b) := by
  rw [outsAt0_C m c t (by omega) (by omega) h]
  dsimp only
  rw [give_C]
  exact give_C_apply _ _ _ a b

theorem run4 (s : ℕ) (hs : 4 * s + 3 < cfg0.N) (a : Fin 1024) (b : Fin 1408) (p q : ℕ) (hp : 1024 * (s % 2) + a.val = p) (hq : 1408 * (s / 2) + b.val = q) :
    ((outsAt0 m c (4 * s + 3) hs).1 (ix2 a b) : EReal) = ((part m c p q 0 + part m c p q 1) + part m c p q 2) + part m c p q 3 := by
  have e3 := at_C m c ⟨4 * s + 3, hs⟩ (by show (4 * s + 3) % 4 = 3; omega) a b
  have e2 := at_B m c ⟨4 * s + 2, by omega⟩ (by show 1 ≤ (4 * s + 2) % 4 ∧ (4 * s + 2) % 4 ≤ 2; omega) a b
  have e1 := at_B m c ⟨4 * s + 1, by omega⟩ (by show 1 ≤ (4 * s + 1) % 4 ∧ (4 * s + 1) % 4 ≤ 2; omega) a b
  have e0 := at_A m c ⟨4 * s, by omega⟩ (by show 4 * s % 4 = 0; omega) a b
  have p3 := part_of m c ⟨4 * s + 3, hs⟩ a b p q 3 (by show (4 * s + 3) % 4 = 3; omega) (by show 1024 * ((4 * s + 3) / 4 % 2) + a.val = p; omega) (by show 1408 * ((4 * s + 3) / 8) + b.val = q; omega)
  have p2 := part_of m c ⟨4 * s + 2, by omega⟩ a b p q 2 (by show (4 * s + 2) % 4 = 2; omega) (by show 1024 * ((4 * s + 2) / 4 % 2) + a.val = p; omega) (by show 1408 * ((4 * s + 2) / 8) + b.val = q; omega)
  have p1 := part_of m c ⟨4 * s + 1, by omega⟩ a b p q 1 (by show (4 * s + 1) % 4 = 1; omega) (by show 1024 * ((4 * s + 1) / 4 % 2) + a.val = p; omega) (by show 1408 * ((4 * s + 1) / 8) + b.val = q; omega)
  have p0 := part_of m c ⟨4 * s, by omega⟩ a b p q 0 (by show 4 * s % 4 = 0; omega) (by show 1024 * (4 * s / 4 % 2) + a.val = p; omega) (by show 1408 * (4 * s / 8) + b.val = q; omega)
  exact (e3.trans (congrArg₂ (· + ·) (e2.trans (congrArg₂ (· + ·) (e1.trans (congrArg₂ (· + ·) (e0.trans p0) p1)) p2)) p3))

/-! ## The result -/

theorem G2_apply (i : Fin 2048) (j : Fin 15488) : (Value.G2 m c (ix2 i j) : EReal) = ∑ K : Fin 8192, arg0 m c (ix2 K i) * arg1 m c (ix2 K j) := by
  have hN : cfg0.N = 88 := N_0
  have hr : Value.run2Of (ix2 i j) = i.val / 1024 + 2 * (j.val / 1408) := by
    show 1 * (i.val / 1024 - 0) + 2 * (j.val / 1408 - 0) = _
    omega
  have h : Value.pt2Of (ix2 i j) < cfg0.N := by
    show 4 * Value.run2Of (ix2 i j) + 3 < cfg0.N
    omega
  have hl : Value.loc2Of (ix2 i j) = ix2 ⟨i.val % 1024, Nat.mod_lt _ (by decide)⟩ ⟨j.val % 1408, Nat.mod_lt _ (by decide)⟩ := by
    funext x
    fin_cases x <;> rfl
  unfold Value.G2
  rw [dif_pos h, ← Value.outsAt0_sweep m c (Value.pt2Of (ix2 i j)) h, hl]
  refine (run4 m c (Value.run2Of (ix2 i j)) h _ _ i.val j.val ?_ ?_).trans ?_
  · show 1024 * (Value.run2Of (ix2 i j) % 2) + i.val % 1024 = i.val
    omega
  · show 1408 * (Value.run2Of (ix2 i j) / 2) + j.val % 1408 = j.val
    omega
  · refine (split4 (fun K => at2 (arg0 m c) K i.val * at2 (arg1 m c) K j.val)).symm.trans ?_
    exact Finset.sum_congr rfl fun K _ => congrArg₂ (· * ·) (at2_ix (arg0 m c) K i) (at2_ix (arg1 m c) K j)

theorem ref_eq : Cert.DwInRefIdeal.Read.val_main_v3 (F := Ideal) (arg0 m c) (arg1 m c) = Value.G2 m c := by
  funext x
  have hx : x = ix2 (x 0) (x 1) := eq_ix2 x
  refine Eq.trans ?_ ((congrArg (Value.G2 m c) hx).trans (G2_apply m c (x 0) (x 1))).symm
  rw [Cert.DwInRefIdeal.Read.val_main_v3_apply, Cert.DwInRefIdeal.Read.val_main_v2_apply]
  refine Finset.sum_congr rfl fun K _ => ?_
  rw [mul_comm]
  refine congrArg₂ (· * ·) (congrArg (arg0 m c) ?_) (congrArg (arg1 m c) ?_) <;>
  · funext y
    fin_cases y <;> rfl

end Cert.DwInIdeal.Mm

end
-- ==== Proof.MM.Out.lean ====
/- The weight gradient `mergedᵀ · dout`, element by element. -/
module

public import Idealize.ShloMosaic.Lib.Pointwise
public import Idealize.ShloMosaic.Lib.Pipeline.ValueKit
public import Idealize.ShloMosaic.Lib.StableHlo.RunRead
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.MM.Split

@[expose] public section

set_option maxRecDepth 16384
set_option Elab.async false

noncomputable section

namespace Cert.DwOutIdeal.Mm

open Cert.DwOutIdeal Cert.DwOutIdeal.Gen Cert.Mm
open Idealize.ShloMosaic
open Idealize.ShloMosaic.TcCoe Idealize.ShloMosaic.Tactic
open Idealize.SL Idealize.SL.Sem

/-! ## What a point adds -/

theorem pay1 (x y : Vec Ideal S2048x1024 .bf16) (a b : Fin 1024) :
    (k0_pay1 (F := Ideal) x y (ix2 a b) : EReal) = ∑ r : Fin 2048, (x (ix2 r a) : EReal) * (y (ix2 r b) : EReal) := by
  unfold k0_pay1
  pointwise

section
variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S1024x1024 .f32) (harg5 : arg5.IsWhole) (arg6 : Memref sig .tc .vmem S1024x1024 .f32) (harg6 : arg6.IsWhole)
  (x0 x1 : Vec Ideal S2048x1024 .bf16) (xs : Vec Ideal S1024x1024 .f32)

theorem keep_A (hc0 : cond0_0 i) (hc1 : ¬cond0_1 i) (hc2 : ¬cond0_2 i) :
    sout0_A_0 c i arg3 harg3 arg4 harg4 arg5 harg5 arg6 harg6 hc0 hc1 hc2 x0 x1 = k0_pay2 (F := Ideal) x0 x1 := by
  frame_out

theorem keep_B (hc0 : ¬cond0_0 i) (hc1 : cond0_1 i) (hc2 : ¬cond0_2 i) :
    sout0_B_0 c i arg3 harg3 arg4 harg4 arg5 harg5 arg6 harg6 hc0 hc1 hc2 x0 x1 xs = k0_pay3 (F := Ideal) x0 x1 xs := by
  frame_out

theorem give_C (hc0 : ¬cond0_0 i) (hc1 : ¬cond0_1 i) (hc2 : cond0_2 i) :
    out0_C_2 c i arg3 harg3 arg4 harg4 arg5 harg5 arg6 harg6 hc0 hc1 hc2 x0 x1 xs = k0_pay4 (F := Ideal) x0 x1 xs := by
  frame_out
end

theorem keep_A_apply (x y : Vec Ideal S2048x1024 .bf16) (a b : Fin 1024) :
    (k0_pay2 (F := Ideal) x y (ix2 a b) : EReal) = ∑ r : Fin 2048, (x (ix2 r a) : EReal) * (y (ix2 r b) : EReal) := by
  unfold k0_pay2
  pointwise [pay1]

theorem keep_B_apply (x y : Vec Ideal S2048x1024 .bf16) (z : Vec Ideal S1024x1024 .f32) (a b : Fin 1024) :
    (k0_pay3 (F := Ideal) x y z (ix2 a b) : EReal) = (z (ix2 a b) : EReal) + ∑ r : Fin 2048, (x (ix2 r a) : EReal) * (y (ix2 r b) : EReal) := by
  unfold k0_pay3
  pointwise [pay1]

theorem give_C_apply (x y : Vec Ideal S2048x1024 .bf16) (z : Vec Ideal S1024x1024 .f32) (a b : Fin 1024) :
    (k0_pay4 (F := Ideal) x y z (ix2 a b) : EReal) = (z (ix2 a b) : EReal) + ∑ r : Fin 2048, (x (ix2 r a) : EReal) * (y (ix2 r b) : EReal) := by
  unfold k0_pay4
  pointwise [pay1]

/-! ## The blocks -/

variable (m : (ℓ : Loc nD τ sig) → Buf (Elt Ideal) ℓ) (c : Dev nD)

theorem ix_0 : ∀ t : Fin cfg0.N, win0_0.index t = ![t.val % 4, t.val / 4 % 2] :=
  (by decide +kernel : ∀ t : Fin grid0.N, win0_0.index t = ![t.val % 4, t.val / 4 % 2])

theorem ix_1 : ∀ t : Fin cfg0.N, win0_1.index t = ![t.val % 4, t.val / 8] :=
  (by decide +kernel : ∀ t : Fin grid0.N, win0_1.index t = ![t.val % 4, t.val / 8])

theorem tlt (t : Fin cfg0.N) : t.val < 16 := lt_of_lt_of_eq t.isLt N_0

theorem emb_0 (t : Fin cfg0.N) (r : Fin 2048) (a : Fin 1024) (h : 2048 * (t.val % 4) + r.val < 8192 ∧ 1024 * (t.val / 4 % 2) + a.val < 2048) :
    ((cfg0.win 0).blk t).view.emb (ix2 r a) = (ix2 ⟨2048 * (t.val % 4) + r.val, h.1⟩ ⟨1024 * (t.val / 4 % 2) + a.val, h.2⟩ : S8192x2048.Idx) := by
  have em (x) := Pipeline.Window.rect_emb_val (cfg0.win 0) t (ix2 r a) x rfl
  have ei := ix_0 t
  have i0 : (cfg0.win 0).index t (0 : Fin 2) = t.val % 4 := congrFun ei (0 : Fin 2)
  have i1 : (cfg0.win 0).index t (1 : Fin 2) = t.val / 4 % 2 := congrFun ei (1 : Fin 2)
  have s0 : (cfg0.win 0).size (0 : Fin 2) = 2048 := rfl
  have s1 : (cfg0.win 0).size (1 : Fin 2) = 1024 := rfl
  have y0 : ((ix2 r a) (0 : Fin 2)).val = r.val := rfl
  have y1 : ((ix2 r a) (1 : Fin 2)).val = a.val := rfl
  refine funext fun x => Fin.ext ?_
  fin_cases x
  · exact ((em (0 : Fin 2)).trans (congrArg₂ (· + ·) (congrArg₂ (· * ·) i0 s0) y0)).trans (congrArg (· + _) (Nat.mul_comm _ _))
  · exact ((em (1 : Fin 2)).trans (congrArg₂ (· + ·) (congrArg₂ (· * ·) i1 s1) y1)).trans (congrArg (· + _) (Nat.mul_comm _ _))

theorem emb_1 (t : Fin cfg0.N) (r : Fin 2048) (a : Fin 1024) (h : 2048 * (t.val % 4) + r.val < 8192 ∧ 1024 * (t.val / 8) + a.val < 2048) :
    ((cfg0.win 1).blk t).view.emb (ix2 r a) = (ix2 ⟨2048 * (t.val % 4) + r.val, h.1⟩ ⟨1024 * (t.val / 8) + a.val, h.2⟩ : S8192x2048.Idx) := by
  have em (x) := Pipeline.Window.rect_emb_val (cfg0.win 1) t (ix2 r a) x rfl
  have ei := ix_1 t
  have i0 : (cfg0.win 1).index t (0 : Fin 2) = t.val % 4 := congrFun ei (0 : Fin 2)
  have i1 : (cfg0.win 1).index t (1 : Fin 2) = t.val / 8 := congrFun ei (1 : Fin 2)
  have s0 : (cfg0.win 1).size (0 : Fin 2) = 2048 := rfl
  have s1 : (cfg0.win 1).size (1 : Fin 2) = 1024 := rfl
  have y0 : ((ix2 r a) (0 : Fin 2)).val = r.val := rfl
  have y1 : ((ix2 r a) (1 : Fin 2)).val = a.val := rfl
  refine funext fun x => Fin.ext ?_
  fin_cases x
  · exact ((em (0 : Fin 2)).trans (congrArg₂ (· + ·) (congrArg₂ (· * ·) i0 s0) y0)).trans (congrArg (· + _) (Nat.mul_comm _ _))
  · exact ((em (1 : Fin 2)).trans (congrArg₂ (· + ·) (congrArg₂ (· * ·) i1 s1) y1)).trans (congrArg (· + _) (Nat.mul_comm _ _))

/-- The two arguments at a device. -/
def arg0 : S8192x2048.Idx → EReal := m ((c : Thread nD τ).loc main_arg0)
def arg1 : S8192x2048.Idx → EReal := m ((c : Thread nD τ).loc main_arg1)

theorem V_eq (b : Ref sig .tc) : V m c b = StableHlo.after hostOps0 (fun b => m (c, b)) (Proc.devRef .tc b) := rfl
theorem V_0 : V m c main_v0 = (truncf (F := Ideal) .bf16 (m ((c : Thread nD τ).loc main_arg0) : FVec Ideal S8192x2048 .f32) bitsLt_bf16_f32 : FVec Ideal S8192x2048 .bf16) := by
  rw [V_eq]; after_reads_simp; try rfl
theorem V_1 : V m c main_v1 = (truncf (F := Ideal) .bf16 (m ((c : Thread nD τ).loc main_arg1) : FVec Ideal S8192x2048 .f32) bitsLt_bf16_f32 : FVec Ideal S8192x2048 .bf16) := by
  rw [V_eq]; after_reads_simp; try rfl

/-- The two blocks of a point. -/
def b0 (t : Fin cfg0.N) : S2048x1024.Idx → EReal := iblk m c 0 t
def b1 (t : Fin cfg0.N) : S2048x1024.Idx → EReal := iblk m c 1 t

theorem blk_0 (t : Fin cfg0.N) (r : Fin 2048) (a : Fin 1024) :
    b0 m c t (ix2 r a) = at2 (arg0 m c) (2048 * (t.val % 4) + r.val) (1024 * (t.val / 4 % 2) + a.val) := by
  have h : 2048 * (t.val % 4) + r.val < 8192 ∧ 1024 * (t.val / 4 % 2) + a.val < 2048 := by omega
  have e : (V m c main_v0 : S8192x2048.Idx → EReal) = arg0 m c := V_0 m c
  rw [at2, dif_pos h, ← e]
  unfold b0 iblk
  generalize V m c = X
  exact congrArg (X main_v0) (emb_0 t r a h)

theorem blk_1 (t : Fin cfg0.N) (r : Fin 2048) (a : Fin 1024) :
    b1 m c t (ix2 r a) = at2 (arg1 m c) (2048 * (t.val % 4) + r.val) (1024 * (t.val / 8) + a.val) := by
  have h : 2048 * (t.val % 4) + r.val < 8192 ∧ 1024 * (t.val / 8) + a.val < 2048 := by have := tlt t; omega
  have e : (V m c main_v1 : S8192x2048.Idx → EReal) = arg1 m c := V_1 m c
  rw [at2, dif_pos h, ← e]
  unfold b1 iblk
  generalize V m c = X
  exact congrArg (X main_v1) (emb_1 t r a h)

/-! ## The four points of a run -/

/-- What rows `2048 k …` add at element `(p, q)`. -/
def part (p q k : ℕ) : EReal := ∑ r : Fin 2048, at2 (arg0 m c) (2048 * k + r.val) p * at2 (arg1 m c) (2048 * k + r.val) q

theorem part_of (t : Fin cfg0.N) (a b : Fin 1024) (p q k : ℕ) (hk : t.val % 4 = k) (hp : 1024 * (t.val / 4 % 2) + a.val = p) (hq : 1024 * (t.val / 8) + b.val = q) :
    ∑ r : Fin 2048, b0 m c t (ix2 r a) * b1 m c t (ix2 r b) = part m c p q k := by
  subst hk hp hq
  exact Finset.sum_congr rfl fun r _ => congrArg₂ (· * ·) (blk_0 m c t r a) (blk_1 m c t r b)

theorem at_A (t : Fin cfg0.N) (h : t.val % 4 = 0) (a b : Fin 1024) :
    ((outsAt0 m c t.val t.isLt).2 (ix2 a b) : EReal) = ∑ r : Fin 2048, b0 m c t (ix2 r a) * b1 m c t (ix2 r b) := by
  rw [outsAt0_A m c t h (by omega) (by omega)]
  dsimp only
  rw [keep_A]
  exact keep_A_apply _ _ a b

theorem at_B (t : Fin cfg0.N) (h : 1 ≤ t.val % 4 ∧ t.val % 4 ≤ 2) (a b : Fin 1024) :
    ((outsAt0 m c t.val t.isLt).2 (ix2 a b) : EReal) = ((outsAt0 m c (t.val - 1) (by have := t.isLt; omega)).2 (ix2 a b) : EReal) + ∑ r : Fin 2048, b0 m c t (ix2 r a) * b1 m c t (ix2 r b) := by
  rw [outsAt0_B m c t (by omega) h (by omega)]
  dsimp only
  rw [keep_B]
  exact keep_B_apply _ _ _ a b

theorem at_C (t : Fin cfg0.N) (h : t.val % 4 = 3) (a b : Fin 1024) :
    ((outsAt0 m c t.val t.isLt).1 (ix2 a b) : EReal) = ((outsAt0 m c (t.val - 1) (by have := t.isLt; omega)).2 (ix2 a b) : EReal) + ∑ r : Fin 2048, b0 m c t (ix2 r a) * b1 m c t (ix2 r b) := by
  rw [outsAt0_C m c t (by omega) (by omega) h]
  dsimp only
  rw [give_C]
  exact give_C_apply _ _ _ a b

theorem run4 (s : ℕ) (hs : 4 * s + 3 < cfg0.N) (a b : Fin 1024) (p q : ℕ) (hp : 1024 * (s % 2) + a.val = p) (hq : 1024 * (s / 2) + b.val = q) :
    ((outsAt0 m c (4 * s + 3) hs).1 (ix2 a b) : EReal) = ((part m c p q 0 + part m c p q 1) + part m c p q 2) + part m c p q 3 := by
  have e3 := at_C m c ⟨4 * s + 3, hs⟩ (by show (4 * s + 3) % 4 = 3; omega) a b
  have e2 := at_B m c ⟨4 * s + 2, by omega⟩ (by show 1 ≤ (4 * s + 2) % 4 ∧ (4 * s + 2) % 4 ≤ 2; omega) a b
  have e1 := at_B m c ⟨4 * s + 1, by omega⟩ (by show 1 ≤ (4 * s + 1) % 4 ∧ (4 * s + 1) % 4 ≤ 2; omega) a b
  have e0 := at_A m c ⟨4 * s, by omega⟩ (by show 4 * s % 4 = 0; omega) a b
  have p3 := part_of m c ⟨4 * s + 3, hs⟩ a b p q 3 (by show (4 * s + 3) % 4 = 3; omega) (by show 1024 * ((4 * s + 3) / 4 % 2) + a.val = p; omega) (by show 1024 * ((4 * s + 3) / 8) + b.val = q; omega)
  have p2 := part_of m c ⟨4 * s + 2, by omega⟩ a b p q 2 (by show (4 * s + 2) % 4 = 2; omega) (by show 1024 * ((4 * s + 2) / 4 % 2) + a.val = p; omega) (by show 1024 * ((4 * s + 2) / 8) + b.val = q; omega)
  have p1 := part_of m c ⟨4 * s + 1, by omega⟩ a b p q 1 (by show (4 * s + 1) % 4 = 1; omega) (by show 1024 * ((4 * s + 1) / 4 % 2) + a.val = p; omega) (by show 1024 * ((4 * s + 1) / 8) + b.val = q; omega)
  have p0 := part_of m c ⟨4 * s, by omega⟩ a b p q 0 (by show 4 * s % 4 = 0; omega) (by show 1024 * (4 * s / 4 % 2) + a.val = p; omega) (by show 1024 * (4 * s / 8) + b.val = q; omega)
  exact (e3.trans (congrArg₂ (· + ·) (e2.trans (congrArg₂ (· + ·) (e1.trans (congrArg₂ (· + ·) (e0.trans p0) p1)) p2)) p3))

/-! ## The result -/

theorem G2_apply (i j : Fin 2048) : (Value.G2 m c (ix2 i j) : EReal) = ∑ K : Fin 8192, arg0 m c (ix2 K i) * arg1 m c (ix2 K j) := by
  have hN : cfg0.N = 16 := N_0
  have hr : Value.run2Of (ix2 i j) = i.val / 1024 + 2 * (j.val / 1024) := by
    show 1 * (i.val / 1024 - 0) + 2 * (j.val / 1024 - 0) = _
    omega
  have h : Value.pt2Of (ix2 i j) < cfg0.N := by
    show 4 * Value.run2Of (ix2 i j) + 3 < cfg0.N
    omega
  have hl : Value.loc2Of (ix2 i j) = ix2 ⟨i.val % 1024, Nat.mod_lt _ (by decide)⟩ ⟨j.val % 1024, Nat.mod_lt _ (by decide)⟩ := by
    funext x
    fin_cases x <;> rfl
  unfold Value.G2
  rw [dif_pos h, ← Value.outsAt0_sweep m c (Value.pt2Of (ix2 i j)) h, hl]
  refine (run4 m c (Value.run2Of (ix2 i j)) h _ _ i.val j.val ?_ ?_).trans ?_
  · show 1024 * (Value.run2Of (ix2 i j) % 2) + i.val % 1024 = i.val
    omega
  · show 1024 * (Value.run2Of (ix2 i j) / 2) + j.val % 1024 = j.val
    omega
  · refine (split4 (fun K => at2 (arg0 m c) K i.val * at2 (arg1 m c) K j.val)).symm.trans ?_
    exact Finset.sum_congr rfl fun K _ => congrArg₂ (· * ·) (at2_ix (arg0 m c) K i) (at2_ix (arg1 m c) K j)

theorem ref_eq : Cert.DwOutRefIdeal.Read.val_main_v3 (F := Ideal) (arg0 m c) (arg1 m c) = Value.G2 m c := by
  funext x
  have hx : x = ix2 (x 0) (x 1) := eq_ix2 x
  refine Eq.trans ?_ ((congrArg (Value.G2 m c) hx).trans (G2_apply m c (x 0) (x 1))).symm
  rw [Cert.DwOutRefIdeal.Read.val_main_v3_apply, Cert.DwOutRefIdeal.Read.val_main_v2_apply]
  refine Finset.sum_congr rfl fun K _ => ?_
  rw [mul_comm]
  refine congrArg₂ (· * ·) (congrArg (arg0 m c) ?_) (congrArg (arg1 m c) ?_) <;>
  · funext y
    fin_cases y <;> rfl

end Cert.DwOutIdeal.Mm

end
-- ==== Proof.MM.Merged.lean ====
/- The gradient `dout · wᵀ`, element by element. -/
module

public import Idealize.ShloMosaic.Lib.Pointwise
public import Idealize.ShloMosaic.Lib.Pipeline.ValueKit
public import Idealize.ShloMosaic.Lib.StableHlo.RunRead
public import proofs.«01_k».proof.Proof.Gen.DMergedIdeal.Value
public import proofs.«01_k».proof.Proof.Gen.DMergedRefIdeal.Run
public import proofs.«01_k».proof.Proof.Gen.DMergedRefIdeal.Read

@[expose] public section

set_option maxRecDepth 16384
set_option Elab.async false

noncomputable section

namespace Cert.DMergedIdeal.Mm

open Cert.DMergedIdeal Cert.DMergedIdeal.Gen
open Idealize.ShloMosaic
open Idealize.ShloMosaic.TcCoe Idealize.ShloMosaic.Tactic
open Idealize.SL Idealize.SL.Sem

theorem pay1 (x : Vec Ideal S1024x2048 .bf16) (y : Vec Ideal S2048x2048 .bf16) (a : Fin 1024) (b : Fin 2048) :
    (k0_pay1 (F := Ideal) x y (ix2 a b) : EReal) = ∑ r : Fin 2048, (x (ix2 a r) : EReal) * (y (ix2 b r) : EReal) := by
  unfold k0_pay1
  pointwise

theorem give (x : Vec Ideal S1024x2048 .bf16) (y : Vec Ideal S2048x2048 .bf16) : out0_2 (F := Ideal) x y = k0_pay1 (F := Ideal) x y := by
  frame_out

variable (m : (ℓ : Loc nD τ sig) → Buf (Elt Ideal) ℓ) (c : Dev nD)

theorem ix_0 : ∀ t : Fin cfg0.N, win0_0.index t = ![t.val, 0] :=
  (by decide +kernel : ∀ t : Fin grid0.N, win0_0.index t = ![t.val, 0])
theorem ix_1 : ∀ t : Fin cfg0.N, win0_1.index t = ![0, 0] :=
  (by decide +kernel : ∀ t : Fin grid0.N, win0_1.index t = ![0, 0])
theorem ix_2 : ∀ t : Fin cfg0.N, win0_2.index t = ![t.val, 0] :=
  (by decide +kernel : ∀ t : Fin grid0.N, win0_2.index t = ![t.val, 0])

theorem tlt (t : Fin cfg0.N) : t.val < 8 := lt_of_lt_of_eq t.isLt N_0

theorem emb_0 (t : Fin cfg0.N) (a : Fin 1024) (r : Fin 2048) (h : 1024 * t.val + a.val < 8192) :
    ((cfg0.win 0).blk t).view.emb (ix2 a r) = (ix2 ⟨1024 * t.val + a.val, h⟩ r : S8192x2048.Idx) := by
  have em (x) := Pipeline.Window.rect_emb_val (cfg0.win 0) t (ix2 a r) x rfl
  have ei := ix_0 t
  have i0 : (cfg0.win 0).index t (0 : Fin 2) = t.val := congrFun ei (0 : Fin 2)
  have i1 : (cfg0.win 0).index t (1 : Fin 2) = 0 := congrFun ei (1 : Fin 2)
  have s0 : (cfg0.win 0).size (0 : Fin 2) = 1024 := rfl
  have s1 : (cfg0.win 0).size (1 : Fin 2) = 2048 := rfl
  have y0 : ((ix2 a r) (0 : Fin 2)).val = a.val := rfl
  have y1 : ((ix2 a r) (1 : Fin 2)).val = r.val := rfl
  refine funext fun x => Fin.ext ?_
  fin_cases x
  · exact ((em (0 : Fin 2)).trans (congrArg₂ (· + ·) (congrArg₂ (· * ·) i0 s0) y0)).trans (congrArg (· + _) (Nat.mul_comm _ _))
  · exact ((em (1 : Fin 2)).trans (congrArg₂ (· + ·) (congrArg₂ (· * ·) i1 s1) y1)).trans (show 0 * 2048 + r.val = r.val by omega)

theorem emb_1 (t : Fin cfg0.N) (a : Fin 2048) (r : Fin 2048) :
    ((cfg0.win 1).blk t).view.emb (ix2 a r) = (ix2 a r : S2048x2048.Idx) := by
  have em (x) := Pipeline.Window.rect_emb_val (cfg0.win 1) t (ix2 a r) x rfl
  have ei := ix_1 t
  have i0 : (cfg0.win 1).index t (0 : Fin 2) = 0 := congrFun ei (0 : Fin 2)
  have i1 : (cfg0.win 1).index t (1 : Fin 2) = 0 := congrFun ei (1 : Fin 2)
  have s0 : (cfg0.win 1).size (0 : Fin 2) = 2048 := rfl
  have s1 : (cfg0.win 1).size (1 : Fin 2) = 2048 := rfl
  have y0 : ((ix2 a r) (0 : Fin 2)).val = a.val := rfl
  have y1 : ((ix2 a r) (1 : Fin 2)).val = r.val := rfl
  refine funext fun x => Fin.ext ?_
  fin_cases x
  · exact ((em (0 : Fin 2)).trans (congrArg₂ (· + ·) (congrArg₂ (· * ·) i0 s0) y0)).trans (show 0 * 2048 + a.val = a.val by omega)
  · exact ((em (1 : Fin 2)).trans (congrArg₂ (· + ·) (congrArg₂ (· * ·) i1 s1) y1)).trans (show 0 * 2048 + r.val = r.val by omega)

theorem emb_2 (t : Fin cfg0.N) (a : Fin 1024) (r : Fin 2048) (h : 1024 * t.val + a.val < 8192) :
    ((cfg0.win 2).blk t).view.emb (ix2 a r) = (ix2 ⟨1024 * t.val + a.val, h⟩ r : S8192x2048.Idx) := by
  have em (x) := Pipeline.Window.rect_emb_val (cfg0.win 2) t (ix2 a r) x rfl
  have ei := ix_2 t
  have i0 : (cfg0.win 2).index t (0 : Fin 2) = t.val := congrFun ei (0 : Fin 2)
  have i1 : (cfg0.win 2).index t (1 : Fin 2) = 0 := congrFun ei (1 : Fin 2)
  have s0 : (cfg0.win 2).size (0 : Fin 2) = 1024 := rfl
  have s1 : (cfg0.win 2).size (1 : Fin 2) = 2048 := rfl
  have y0 : ((ix2 a r) (0 : Fin 2)).val = a.val := rfl
  have y1 : ((ix2 a r) (1 : Fin 2)).val = r.val := rfl
  refine funext fun x => Fin.ext ?_
  fin_cases x
  · exact ((em (0 : Fin 2)).trans (congrArg₂ (· + ·) (congrArg₂ (· * ·) i0 s0) y0)).trans (congrArg (· + _) (Nat.mul_comm _ _))
  · exact ((em (1 : Fin 2)).trans (congrArg₂ (· + ·) (congrArg₂ (· * ·) i1 s1) y1)).trans (show 0 * 2048 + r.val = r.val by omega)

/-- The two arguments at a device. -/
def arg0 : S8192x2048.Idx → EReal := m ((c : Thread nD τ).loc main_arg0)
def arg1 : S2048x2048.Idx → EReal := m ((c : Thread nD τ).loc main_arg1)

theorem V_eq (b : Ref sig .tc) : V m c b = StableHlo.after hostOps0 (fun b => m (c, b)) (Proc.devRef .tc b) := rfl
theorem V_0 : V m c main_v0 = (truncf (F := Ideal) .bf16 (m ((c : Thread nD τ).loc main_arg0) : FVec Ideal S8192x2048 .f32) bitsLt_bf16_f32 : FVec Ideal S8192x2048 .bf16) := by
  rw [V_eq]; after_reads_simp; try rfl
theorem V_1 : V m c main_v1 = (truncf (F := Ideal) .bf16 (m ((c : Thread nD τ).loc main_arg1) : FVec Ideal S2048x2048 .f32) bitsLt_bf16_f32 : FVec Ideal S2048x2048 .bf16) := by
  rw [V_eq]; after_reads_simp; try rfl

/-- The two blocks of a point. -/
def b0 (t : Fin cfg0.N) : S1024x2048.Idx → EReal := iblk m c 0 t
def b1 (t : Fin cfg0.N) : S2048x2048.Idx → EReal := iblk m c 1 t

theorem blk_0 (t : Fin cfg0.N) (a : Fin 1024) (r : Fin 2048) (h : 1024 * t.val + a.val < 8192) : b0 m c t (ix2 a r) = arg0 m c (ix2 ⟨1024 * t.val + a.val, h⟩ r) := by
  have e : (V m c main_v0 : S8192x2048.Idx → EReal) = arg0 m c := V_0 m c
  rw [← e]
  unfold b0 iblk
  generalize V m c = X
  exact congrArg (X main_v0) (emb_0 t a r h)

theorem blk_1 (t : Fin cfg0.N) (a r : Fin 2048) : b1 m c t (ix2 a r) = arg1 m c (ix2 a r) := by
  have e : (V m c main_v1 : S2048x2048.Idx → EReal) = arg1 m c := V_1 m c
  rw [← e]
  unfold b1 iblk
  generalize V m c = X
  exact congrArg (X main_v1) (emb_1 t a r)

/-- The result, element by element. -/
def G (i : S8192x2048.Idx) : EReal := ∑ r : Fin 2048, arg0 m c (ix2 (i 0) r) * arg1 m c (ix2 (i 1) r)

theorem at_t (t : Fin cfg0.N) (a : Fin 1024) (r : Fin 2048) (h : 1024 * t.val + a.val < 8192) :
    ((dats m 0 c).after 2 t : S1024x2048.Idx → EReal) (ix2 a r) = G m c (ix2 ⟨1024 * t.val + a.val, h⟩ r) := by
  rw [after0_2, give]
  refine (pay1 _ _ a r).trans ?_
  exact Finset.sum_congr rfl fun k _ => congrArg₂ (· * ·) (blk_0 m c t a k h) (blk_1 m c t r k)

theorem final : (dats m 0 c).arrAt 2 cfg0.N = G m c := by
  refine (dats m 0 c).arrAt_eq_of_covers 2 (G m c) (by decide +kernel) (fun t hf y => ?_)
  obtain ⟨a, r, rfl⟩ : ∃ (a : Fin 1024) (r : Fin 2048), y = (ix2 a r : S1024x2048.Idx) := ⟨_, _, eq_ix2 y⟩
  have h : 1024 * t.val + a.val < 8192 := by have := tlt t; omega
  rw [emb_2 t a r h]
  exact (cast_eq _ _).trans (at_t m c t a r h)

theorem ref_eq : Cert.DMergedRefIdeal.Read.val_main_v3 (F := Ideal) (arg0 m c) (arg1 m c) = G m c := by
  funext x
  rw [Cert.DMergedRefIdeal.Read.val_main_v3_apply]
  refine (Cert.DMergedRefIdeal.Read.val_main_v2_apply (arg0 m c) (arg1 m c) x).trans ?_
  unfold G
  refine Finset.sum_congr rfl fun K _ => ?_
  refine congrArg₂ (· * ·) (congrArg (arg0 m c) ?_) (congrArg (arg1 m c) ?_) <;>
  · funext y
    fin_cases y <;> rfl

end Cert.DMergedIdeal.Mm

end
-- ==== Proof.MatmulClaims.lean ====
/- The claims of the three matrix products. -/
module

public import proofs.«01_k».proof.Defs
public import proofs.«01_k».proof.Proof.Gen.DwIn
public import proofs.«01_k».proof.Proof.Gen.DwOut
public import proofs.«01_k».proof.Proof.Gen.DMerged
public import proofs.«01_k».proof.Proof.Gen.DwIn.Frame
public import proofs.«01_k».proof.Proof.Gen.DwOut.Frame
public import proofs.«01_k».proof.Proof.Gen.DMerged.Frame
public import proofs.«01_k».proof.Proof.MM.In
public import proofs.«01_k».proof.Proof.MM.Out
public import proofs.«01_k».proof.Proof.MM.Merged

@[expose] public section

set_option maxRecDepth 16384
set_option Elab.async false

noncomputable section

namespace Cert.Proof

open Idealize.ShloMosaic Idealize.SL.Sem

theorem frame_DwIn : Cert.quiescent_DwIn (hDwIn := Cert.DwIn.Gen.facts) := fun m g _ => Cert.DwIn.Gen.frame m g

theorem frame_DwInIdeal : Cert.quiescent_DwInIdeal (hDwInIdeal := Cert.DwInIdeal.Gen.facts) := fun m g _ => Cert.DwInIdeal.Gen.frame m g

theorem frame_DwInRefIdeal : Cert.quiescent_DwInRefIdeal (hDwInRefIdeal := Cert.DwInRefIdeal.Gen.facts) := fun m g _ =>
  (θ_run (Cert.DwInRefIdeal.defs (F := Ideal)) _ _).mono
    (fun r h => ⟨fun c => (h c).2, sem_eq_zero_of_no_sems (by decide) r.2⟩) (Cert.DwInRefIdeal.Value.run (F := Ideal) m g)

theorem algebraic_DwIn : Cert.algebraic_DwInIdeal_DwInRefIdeal (hDwInIdeal := Cert.DwInIdeal.Gen.facts) (hDwInRefIdeal := Cert.DwInRefIdeal.Gen.facts) := by
  intro m g m' g' _ ha
  refine ⟨fun c => Cert.DwInIdeal.Value.G2 m c, ?_, ?_⟩
  · exact (θ_run (Cert.DwInIdeal.defs (F := Ideal)) _ _).mono (fun r h c => (h c)) (Cert.DwInIdeal.Value.run (F := Ideal) m g)
  · refine (θ_run (Cert.DwInRefIdeal.defs (F := Ideal)) _ _).mono (fun r h c => ?_) (Cert.DwInRefIdeal.Value.run (F := Ideal) m' g')
    obtain ⟨e0, e1⟩ := ha c
    refine ⟨((h c).1.trans (Cert.DwInRefIdeal.Read.val_main_v3_eq _ _)).trans ?_, (h c).2⟩
    rw [e0, e1]
    exact Cert.DwInIdeal.Mm.ref_eq m c

theorem frame_DwOut : Cert.quiescent_DwOut (hDwOut := Cert.DwOut.Gen.facts) := fun m g _ => Cert.DwOut.Gen.frame m g

theorem frame_DwOutIdeal : Cert.quiescent_DwOutIdeal (hDwOutIdeal := Cert.DwOutIdeal.Gen.facts) := fun m g _ => Cert.DwOutIdeal.Gen.frame m g

theorem frame_DwOutRefIdeal : Cert.quiescent_DwOutRefIdeal (hDwOutRefIdeal := Cert.DwOutRefIdeal.Gen.facts) := fun m g _ =>
  (θ_run (Cert.DwOutRefIdeal.defs (F := Ideal)) _ _).mono
    (fun r h => ⟨fun c => (h c).2, sem_eq_zero_of_no_sems (by decide) r.2⟩) (Cert.DwOutRefIdeal.Value.run (F := Ideal) m g)

theorem algebraic_DwOut : Cert.algebraic_DwOutIdeal_DwOutRefIdeal (hDwOutIdeal := Cert.DwOutIdeal.Gen.facts) (hDwOutRefIdeal := Cert.DwOutRefIdeal.Gen.facts) := by
  intro m g m' g' _ ha
  refine ⟨fun c => Cert.DwOutIdeal.Value.G2 m c, ?_, ?_⟩
  · exact (θ_run (Cert.DwOutIdeal.defs (F := Ideal)) _ _).mono (fun r h c => (h c)) (Cert.DwOutIdeal.Value.run (F := Ideal) m g)
  · refine (θ_run (Cert.DwOutRefIdeal.defs (F := Ideal)) _ _).mono (fun r h c => ?_) (Cert.DwOutRefIdeal.Value.run (F := Ideal) m' g')
    obtain ⟨e0, e1⟩ := ha c
    refine ⟨((h c).1.trans (Cert.DwOutRefIdeal.Read.val_main_v3_eq _ _)).trans ?_, (h c).2⟩
    rw [e0, e1]
    exact Cert.DwOutIdeal.Mm.ref_eq m c

theorem frame_DMerged : Cert.quiescent_DMerged (hDMerged := Cert.DMerged.Gen.facts) := fun m g _ => Cert.DMerged.Gen.frame m g

theorem frame_DMergedIdeal : Cert.quiescent_DMergedIdeal (hDMergedIdeal := Cert.DMergedIdeal.Gen.facts) := fun m g _ => Cert.DMergedIdeal.Gen.frame m g

theorem frame_DMergedRefIdeal : Cert.quiescent_DMergedRefIdeal (hDMergedRefIdeal := Cert.DMergedRefIdeal.Gen.facts) := fun m g _ =>
  (θ_run (Cert.DMergedRefIdeal.defs (F := Ideal)) _ _).mono
    (fun r h => ⟨fun c => (h c).2, sem_eq_zero_of_no_sems (by decide) r.2⟩) (Cert.DMergedRefIdeal.Value.run (F := Ideal) m g)

theorem algebraic_DMerged : Cert.algebraic_DMergedIdeal_DMergedRefIdeal (hDMergedIdeal := Cert.DMergedIdeal.Gen.facts) (hDMergedRefIdeal := Cert.DMergedRefIdeal.Gen.facts) := by
  intro m g m' g' _ ha
  refine ⟨fun c => Cert.DMergedIdeal.Mm.G m c, ?_, ?_⟩
  · exact (θ_run (Cert.DMergedIdeal.defs (F := Ideal)) _ _).mono (fun r h c => ⟨(h c).1.trans (Cert.DMergedIdeal.Mm.final m c), (h c).2⟩) (Cert.DMergedIdeal.Value.run_blocks (F := Ideal) m g)
  · refine (θ_run (Cert.DMergedRefIdeal.defs (F := Ideal)) _ _).mono (fun r h c => ?_) (Cert.DMergedRefIdeal.Value.run (F := Ideal) m' g')
    obtain ⟨e0, e1⟩ := ha c
    refine ⟨((h c).1.trans (Cert.DMergedRefIdeal.Read.val_main_v3_eq _ _)).trans ?_, (h c).2⟩
    rw [e0, e1]
    exact Cert.DMergedIdeal.Mm.ref_eq m c

end Cert.Proof

end
-- ==== Proof.lean ====
/- The certificate: three frames, the one rewrite, and the kernel's value, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DMerged
public import proofs.«01_k».proof.Proof.Gen.DMerged.Skeleton
public import proofs.«01_k».proof.Proof.Gen.DMerged.Launch
public import proofs.«01_k».proof.Proof.Gen.DMerged.Points
public import proofs.«01_k».proof.Proof.Gen.DMerged.Frame
public import proofs.«01_k».proof.Proof.Gen.DMergedIdeal
public import proofs.«01_k».proof.Proof.Gen.DMergedIdeal.Skeleton
public import proofs.«01_k».proof.Proof.Gen.DMergedIdeal.Launch
public import proofs.«01_k».proof.Proof.Gen.DMergedIdeal.Points
public import proofs.«01_k».proof.Proof.Gen.DMergedIdeal.Frame
public import proofs.«01_k».proof.Proof.Gen.DMergedIdeal.Value
public import proofs.«01_k».proof.Proof.Gen.DMergedRefIdeal
public import proofs.«01_k».proof.Proof.Gen.DMergedRefIdeal.Run
public import proofs.«01_k».proof.Proof.Gen.DMergedRefIdeal.Read
public import proofs.«01_k».proof.Proof.Gen.Pre_finite
public import proofs.«01_k».proof.Proof.FrameKernel
public import proofs.«01_k».proof.Proof.FrameIdeal
public import proofs.«01_k».proof.Proof.Algebraic
public import proofs.«01_k».proof.Proof.MatmulClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.DwIn.Gen.facts, Cert.DwInIdeal.Gen.facts, Cert.DwInRefIdeal.Gen.facts, Cert.DwOut.Gen.facts, Cert.DwOutIdeal.Gen.facts, Cert.DwOutRefIdeal.Gen.facts, Cert.DMerged.Gen.facts, Cert.DMergedIdeal.Gen.facts, Cert.DMergedRefIdeal.Gen.facts, Cert.Pre_finite.Gen.facts,
  frame_kernel, frame_ideal, frame_ideal_finite, frame_reference, frame_reference_finite,
  frame_DwIn, frame_DwInIdeal, frame_DwInRefIdeal, frame_DwOut, frame_DwOutIdeal, frame_DwOutRefIdeal, frame_DMerged, frame_DMergedIdeal, frame_DMergedRefIdeal,
  preserves, algebraic, trivial, algebraic_DwIn, trivial, algebraic_DwOut, trivial, algebraic_DMerged⟩

end Cert.Proof

end
